-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_KernelG [hPre_delays : Cert.Pre_delays.Facts] (m : (ℓ : Loc Cert.KernelG.nD Cert.KernelG.τ Cert.KernelG.sig) → Buf (Elt Bits) ℓ) : Prop :=
  ∀ c : Dev Cert.KernelG.nD,
    (Cert.Pre_delays.fn (F := Bits) (m ((c.tc : Thread Cert.KernelG.nD Cert.KernelG.τ).loc Cert.KernelG.main_arg0)) (m ((c.tc : Thread Cert.KernelG.nD Cert.KernelG.τ).loc Cert.KernelG.main_arg1)) (m ((c.tc : Thread Cert.KernelG.nD Cert.KernelG.τ).loc Cert.KernelG.main_arg2))) = (fun _ => 1#1)

def Pre_KernelGIdeal [hPre_delays : Cert.Pre_delays.Facts] (m : (ℓ : Loc Cert.KernelGIdeal.nD Cert.KernelGIdeal.τ Cert.KernelGIdeal.sig) → Buf (Elt Ideal) ℓ) : Prop :=
  ∀ c : Dev Cert.KernelGIdeal.nD,
    (Cert.Pre_delays.fn (F := Ideal) (m ((c.tc : Thread Cert.KernelGIdeal.nD Cert.KernelGIdeal.τ).loc Cert.KernelGIdeal.main_arg0)) (m ((c.tc : Thread Cert.KernelGIdeal.nD Cert.KernelGIdeal.τ).loc Cert.KernelGIdeal.main_arg1)) (m ((c.tc : Thread Cert.KernelGIdeal.nD Cert.KernelGIdeal.τ).loc Cert.KernelGIdeal.main_arg2))) = (fun _ => 1#1)

def Pre_ReferenceGIdeal (m : (ℓ : Loc Cert.ReferenceGIdeal.nD Cert.ReferenceGIdeal.τ Cert.ReferenceGIdeal.sig) → Buf (Elt Ideal) ℓ) : Prop :=
  True

def Pre_ReferenceGIdeal_delays [hPre_delays : Cert.Pre_delays.Facts] (m : (ℓ : Loc Cert.ReferenceGIdeal.nD Cert.ReferenceGIdeal.τ Cert.ReferenceGIdeal.sig) → Buf (Elt Ideal) ℓ) : Prop :=
  ∀ c : Dev Cert.ReferenceGIdeal.nD,
    (Cert.Pre_delays.fn (F := Ideal) (m ((c.tc : Thread Cert.ReferenceGIdeal.nD Cert.ReferenceGIdeal.τ).loc Cert.ReferenceGIdeal.main_arg0)) (m ((c.tc : Thread Cert.ReferenceGIdeal.nD Cert.ReferenceGIdeal.τ).loc Cert.ReferenceGIdeal.main_arg1)) (m ((c.tc : Thread Cert.ReferenceGIdeal.nD Cert.ReferenceGIdeal.τ).loc Cert.ReferenceGIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_KernelG [hKernelG : Cert.KernelG.Facts] [hPre_delays : Cert.Pre_delays.Facts] : Prop :=
  ∀ (m : (ℓ : Loc Cert.KernelG.nD Cert.KernelG.τ Cert.KernelG.sig) → Buf (Elt Bits) ℓ) (g : Dev Cert.KernelG.nD → PrngReg), Pre_KernelG m →
    θ_run (Cert.KernelG.defs (F := Bits)) (onTc (τ := Cert.KernelG.τ) (Cert.KernelG.main (F := Bits))) ⟨m, fun _ => 0, g⟩ (fun r => (∀ c : Dev Cert.KernelG.nD,
      r.2.mem ((c.tc : Thread Cert.KernelG.nD Cert.KernelG.τ).loc Cert.KernelG.main_arg0) = m ((c.tc : Thread Cert.KernelG.nD Cert.KernelG.τ).loc Cert.KernelG.main_arg0)
      ∧ r.2.mem ((c.tc : Thread Cert.KernelG.nD Cert.KernelG.τ).loc Cert.KernelG.main_arg1) = m ((c.tc : Thread Cert.KernelG.nD Cert.KernelG.τ).loc Cert.KernelG.main_arg1)
      ∧ r.2.mem ((c.tc : Thread Cert.KernelG.nD Cert.KernelG.τ).loc Cert.KernelG.main_arg2) = m ((c.tc : Thread Cert.KernelG.nD Cert.KernelG.τ).loc Cert.KernelG.main_arg2))
      ∧ r.2.sem = fun _ => 0)

def quiescent_KernelGIdeal [hKernelGIdeal : Cert.KernelGIdeal.Facts] [hPre_delays : Cert.Pre_delays.Facts] : Prop :=
  ∀ (m : (ℓ : Loc Cert.KernelGIdeal.nD Cert.KernelGIdeal.τ Cert.KernelGIdeal.sig) → Buf (Elt Ideal) ℓ) (g : Dev Cert.KernelGIdeal.nD → PrngReg), Pre_KernelGIdeal m →
    θ_run (Cert.KernelGIdeal.defs (F := Ideal)) (onTc (τ := Cert.KernelGIdeal.τ) (Cert.KernelGIdeal.main (F := Ideal))) ⟨m, fun _ => 0, g⟩ (fun r => (∀ c : Dev Cert.KernelGIdeal.nD,
      r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
      ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1)
      ∧ r.2.mem ((c.tc : Thread Cert.KernelGIdeal.nD Cert.KernelGIdeal.τ).loc Cert.KernelGIdeal.main_arg2) = m ((c.tc : Thread Cert.KernelGIdeal.nD Cert.KernelGIdeal.τ).loc Cert.KernelGIdeal.main_arg2))
      ∧ r.2.sem = fun _ => 0)

def quiescent_ReferenceGIdeal [hReferenceGIdeal : Cert.ReferenceGIdeal.Facts] : Prop :=
  ∀ (m : (ℓ : Loc Cert.ReferenceGIdeal.nD Cert.ReferenceGIdeal.τ Cert.ReferenceGIdeal.sig) → Buf (Elt Ideal) ℓ) (g : Dev Cert.ReferenceGIdeal.nD → PrngReg), Pre_ReferenceGIdeal m →
    θ_run (Cert.ReferenceGIdeal.defs (F := Ideal)) (onTc (τ := Cert.ReferenceGIdeal.τ) (Cert.ReferenceGIdeal.main (F := Ideal))) ⟨m, fun _ => 0, g⟩ (fun r => (∀ c : Dev Cert.ReferenceGIdeal.nD,
      r.2.mem ((c.tc : Thread Cert.ReferenceGIdeal.nD Cert.ReferenceGIdeal.τ).loc Cert.ReferenceGIdeal.main_arg0) = m ((c.tc : Thread Cert.ReferenceGIdeal.nD Cert.ReferenceGIdeal.τ).loc Cert.ReferenceGIdeal.main_arg0)
      ∧ r.2.mem ((c.tc : Thread Cert.ReferenceGIdeal.nD Cert.ReferenceGIdeal.τ).loc Cert.ReferenceGIdeal.main_arg1) = m ((c.tc : Thread Cert.ReferenceGIdeal.nD Cert.ReferenceGIdeal.τ).loc Cert.ReferenceGIdeal.main_arg1)
      ∧ r.2.mem ((c.tc : Thread Cert.ReferenceGIdeal.nD Cert.ReferenceGIdeal.τ).loc Cert.ReferenceGIdeal.main_arg2) = m ((c.tc : Thread Cert.ReferenceGIdeal.nD Cert.ReferenceGIdeal.τ).loc Cert.ReferenceGIdeal.main_arg2))
      ∧ r.2.sem = fun _ => 0)

def quiescent_ReferenceGIdeal_pre_delays [hReferenceGIdeal : Cert.ReferenceGIdeal.Facts] [hPre_delays : Cert.Pre_delays.Facts] : Prop :=
  ∀ (m : (ℓ : Loc Cert.ReferenceGIdeal.nD Cert.ReferenceGIdeal.τ Cert.ReferenceGIdeal.sig) → Buf (Elt Ideal) ℓ) (g : Dev Cert.ReferenceGIdeal.nD → PrngReg), Pre_ReferenceGIdeal_delays m →
    θ_run (Cert.ReferenceGIdeal.defs (F := Ideal)) (onTc (τ := Cert.ReferenceGIdeal.τ) (Cert.ReferenceGIdeal.main (F := Ideal))) ⟨m, fun _ => 0, g⟩ (fun r => (∀ c : Dev Cert.ReferenceGIdeal.nD,
      r.2.mem ((c.tc : Thread Cert.ReferenceGIdeal.nD Cert.ReferenceGIdeal.τ).loc Cert.ReferenceGIdeal.main_arg0) = m ((c.tc : Thread Cert.ReferenceGIdeal.nD Cert.ReferenceGIdeal.τ).loc Cert.ReferenceGIdeal.main_arg0)
      ∧ r.2.mem ((c.tc : Thread Cert.ReferenceGIdeal.nD Cert.ReferenceGIdeal.τ).loc Cert.ReferenceGIdeal.main_arg1) = m ((c.tc : Thread Cert.ReferenceGIdeal.nD Cert.ReferenceGIdeal.τ).loc Cert.ReferenceGIdeal.main_arg1)
      ∧ r.2.mem ((c.tc : Thread Cert.ReferenceGIdeal.nD Cert.ReferenceGIdeal.τ).loc Cert.ReferenceGIdeal.main_arg2) = m ((c.tc : Thread Cert.ReferenceGIdeal.nD Cert.ReferenceGIdeal.τ).loc Cert.ReferenceGIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v56_2)) (v1 : (c : Dev Cert.KernelIdeal.nD) → Buf (Elt Ideal) ((c.tc : Thread Cert.KernelIdeal.nD Cert.KernelIdeal.τ).loc Cert.KernelIdeal.main_v69)) (v2 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56_2) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_v72) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_KernelG_KernelGIdeal : Prop :=
  True

def algebraic_KernelGIdeal_ReferenceGIdeal [hKernelGIdeal : Cert.KernelGIdeal.Facts] [hReferenceGIdeal : Cert.ReferenceGIdeal.Facts] [hPre_delays : Cert.Pre_delays.Facts] : Prop :=
  ∀ (m : (ℓ : Loc Cert.KernelGIdeal.nD Cert.KernelGIdeal.τ Cert.KernelGIdeal.sig) → Buf (Elt Ideal) ℓ) (g : Dev Cert.KernelGIdeal.nD → PrngReg)
    (m' : (ℓ : Loc Cert.ReferenceGIdeal.nD Cert.ReferenceGIdeal.τ Cert.ReferenceGIdeal.sig) → Buf (Elt Ideal) ℓ) (g' : Dev Cert.ReferenceGIdeal.nD → PrngReg), Pre_KernelGIdeal m →
    (∀ c : Dev Cert.KernelGIdeal.nD,
      m' ((c.tc : Thread Cert.ReferenceGIdeal.nD Cert.ReferenceGIdeal.τ).loc Cert.ReferenceGIdeal.main_arg0) = m ((c.tc : Thread Cert.KernelGIdeal.nD Cert.KernelGIdeal.τ).loc Cert.KernelGIdeal.main_arg0)
      ∧ m' ((c.tc : Thread Cert.ReferenceGIdeal.nD Cert.ReferenceGIdeal.τ).loc Cert.ReferenceGIdeal.main_arg1) = m ((c.tc : Thread Cert.KernelGIdeal.nD Cert.KernelGIdeal.τ).loc Cert.KernelGIdeal.main_arg1)
      ∧ m' ((c.tc : Thread Cert.ReferenceGIdeal.nD Cert.ReferenceGIdeal.τ).loc Cert.ReferenceGIdeal.main_arg2) = m ((c.tc : Thread Cert.KernelGIdeal.nD Cert.KernelGIdeal.τ).loc Cert.KernelGIdeal.main_arg2)) →
    ∃ (v0 : (c : Dev Cert.KernelGIdeal.nD) → Buf (Elt Ideal) ((c.tc : Thread Cert.KernelGIdeal.nD Cert.KernelGIdeal.τ).loc Cert.KernelGIdeal.main_v1)),
      θ_run (Cert.KernelGIdeal.defs (F := Ideal)) (onTc (τ := Cert.KernelGIdeal.τ) (Cert.KernelGIdeal.main (F := Ideal))) ⟨m, fun _ => 0, g⟩ (fun r => ∀ c : Dev Cert.KernelGIdeal.nD,
          r.2.mem ((c.tc : Thread Cert.KernelGIdeal.nD Cert.KernelGIdeal.τ).loc Cert.KernelGIdeal.main_v1) = v0 c
          ∧ r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
          ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1)
          ∧ r.2.mem ((c.tc : Thread Cert.KernelGIdeal.nD Cert.KernelGIdeal.τ).loc Cert.KernelGIdeal.main_arg2) = m ((c.tc : Thread Cert.KernelGIdeal.nD Cert.KernelGIdeal.τ).loc Cert.KernelGIdeal.main_arg2))
      ∧ θ_run (Cert.ReferenceGIdeal.defs (F := Ideal)) (onTc (τ := Cert.ReferenceGIdeal.τ) (Cert.ReferenceGIdeal.main (F := Ideal))) ⟨m', fun _ => 0, g'⟩ (fun r => ∀ c : Dev Cert.ReferenceGIdeal.nD,
          r.2.mem ((c.tc : Thread Cert.ReferenceGIdeal.nD Cert.ReferenceGIdeal.τ).loc Cert.ReferenceGIdeal.main_v12) = v0 c
          ∧ r.2.mem ((c.tc : Thread Cert.ReferenceGIdeal.nD Cert.ReferenceGIdeal.τ).loc Cert.ReferenceGIdeal.main_arg0) = m' ((c.tc : Thread Cert.ReferenceGIdeal.nD Cert.ReferenceGIdeal.τ).loc Cert.ReferenceGIdeal.main_arg0)
          ∧ r.2.mem ((c.tc : Thread Cert.ReferenceGIdeal.nD Cert.ReferenceGIdeal.τ).loc Cert.ReferenceGIdeal.main_arg1) = m' ((c.tc : Thread Cert.ReferenceGIdeal.nD Cert.ReferenceGIdeal.τ).loc Cert.ReferenceGIdeal.main_arg1)
          ∧ r.2.mem ((c.tc : Thread Cert.ReferenceGIdeal.nD Cert.ReferenceGIdeal.τ).loc Cert.ReferenceGIdeal.main_arg2) = m' ((c.tc : Thread Cert.ReferenceGIdeal.nD Cert.ReferenceGIdeal.τ).loc Cert.ReferenceGIdeal.main_arg2))

def Claim : Prop :=
  ∃ (hKernel : Cert.Kernel.Facts) (hKernelIdeal : Cert.KernelIdeal.Facts) (hReferenceIdeal : Cert.ReferenceIdeal.Facts) (hKernelG : Cert.KernelG.Facts) (hKernelGIdeal : Cert.KernelGIdeal.Facts) (hReferenceGIdeal : Cert.ReferenceGIdeal.Facts) (hPre_finite : Cert.Pre_finite.Facts) (hPre_delays : Cert.Pre_delays.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelG (hKernelG := hKernelG) (hPre_delays := hPre_delays)
    ∧ quiescent_KernelGIdeal (hKernelGIdeal := hKernelGIdeal) (hPre_delays := hPre_delays)
    ∧ quiescent_ReferenceGIdeal (hReferenceGIdeal := hReferenceGIdeal)
    ∧ quiescent_ReferenceGIdeal_pre_delays (hReferenceGIdeal := hReferenceGIdeal) (hPre_delays := hPre_delays)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelG_KernelGIdeal
    ∧ algebraic_KernelGIdeal_ReferenceGIdeal (hKernelGIdeal := hKernelGIdeal) (hReferenceGIdeal := hReferenceGIdeal) (hPre_delays := hPre_delays)
-- ==== Pre_delays.lean ====
abbrev S8 : Shape := ⟨1, ![8]⟩
abbrev S4x8 : Shape := ⟨2, ![4, 8]⟩
abbrev S4x2x4096x768 : Shape := ⟨4, ![4, 2, 4096, 768]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : IVec S8 32) (main_arg1 : FVec F S4x8 .f32) (main_arg2 : FVec F S4x2x4096x768 .f32) : IVec S_ 1 :=
  let main_c : IVec S_ 32 := constantI S_ 32 0#32
  let main_v0 : IVec S8 32 := broadcastInDim S8 ![] bcast_S_S8 main_c
  let main_v1 : IVec S8 1 := cmpi .sge main_arg0 main_v0
  let main_c_0 : IVec S_ 32 := constantI S_ 32 4096#32
  let main_v2 : IVec S8 32 := broadcastInDim S8 ![] bcast_S_S8 main_c_0
  let main_v3 : IVec S8 1 := cmpi .slt main_arg0 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  main_v5
-- ==== Pre_finite.lean ====
abbrev S4x4096x768 : Shape := ⟨3, ![4, 4096, 768]⟩
abbrev S768x768 : Shape := ⟨2, ![768, 768]⟩
abbrev S768 : Shape := ⟨1, ![768]⟩
abbrev S_ : Shape := ⟨0, ![]⟩

class Facts : Prop where
  bcast_S_S4x4096x768 : S_.BroadcastsInDim S4x4096x768 (![] : Fin 0 → Fin S4x4096x768.rank)
  reducesTo_S4x4096x768_S_d0_1_2 : S4x4096x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg5 : FVec F S768x768 .f32) (main_arg6 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x768 .f32 := Host.absf main_arg5
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg6
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S4x4096x768 .f32) (main_arg1 : FVec F S4x4096x768 .f32) (main_arg2 : FVec F S4x4096x768 .f32) (main_arg3 : FVec F S768x768 .f32) (main_arg4 : FVec F S768 .f32) (main_arg5 : FVec F S768x768 .f32) (main_arg6 : FVec F S768 .f32) (main_arg7 : FVec F S768x768 .f32) (main_arg8 : FVec F S768 .f32) (main_arg9 : FVec F S768x768 .f32) (main_arg10 : FVec F S768 .f32) : IVec S_ 1 :=
  let main_v0 : FVec F S4x4096x768 .f32 := Host.absf main_arg0
  let main_cst : FVec F S_ .f32 := constant S_ .f32 0x7F800000#32
  let main_v1 : FVec F S4x4096x768 .f32 := broadcastInDim S4x4096x768 ![] bcast_S_S4x4096x768 main_cst
  let main_v2 : IVec S4x4096x768 1 := cmpf .olt main_v0 main_v1
  let main_c : IVec S_ 1 := constantI S_ 1 1#1
  let main_v3 : IVec S_ 1 := (fun x v => Host.reduce IntOp.andi x v reducesTo_S4x4096x768_S_d0_1_2 h_S_) main_v2 main_c
  let main_v4 : FVec F S4x4096x768 .f32 := Host.absf main_arg1
  let main_cst_0 : FVec F S_ .f32 := constant S_ .f32 0x7F800000#32
  let main_v5 : FVec F S4x4096x768 .f32 := broadcastInDim S4x4096x768 ![] bcast_S_S4x4096x768 main_cst_0
  let main_v6 : IVec S4x4096x768 1 := cmpf .olt main_v4 main_v5
  let main_c_1 : IVec S_ 1 := constantI S_ 1 1#1
  let main_v7 : IVec S_ 1 := (fun x v => Host.reduce IntOp.andi x v reducesTo_S4x4096x768_S_d0_1_2 h_S_) main_v6 main_c_1
  let main_v8 : IVec S_ 1 := andi main_v3 main_v7
  let main_v9 : FVec F S768x768 .f32 := Host.absf main_arg3
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg4
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg5 main_arg6 main_v13 main_v16
-- ==== Kernel.lean ====
abbrev S4x4096x768 : Shape := ⟨3, ![4, 4096, 768]⟩
abbrev S768x768 : Shape := ⟨2, ![768, 768]⟩
abbrev S768 : Shape := ⟨1, ![768]⟩
abbrev S64x64 : Shape := ⟨2, ![64, 64]⟩
abbrev S_ : Shape := ⟨0, ![]⟩
abbrev S64x64x768 : Shape := ⟨3, ![64, 64, 768]⟩
abbrev S64x49152 : Shape := ⟨2, ![64, 49152]⟩
abbrev S6144x64 : Shape := ⟨2, ![6144, 64]⟩
abbrev S1x768 : Shape := ⟨2, ![1, 768]⟩
abbrev S4x768 : Shape := ⟨2, ![4, 768]⟩
abbrev S4x2x4096x768 : Shape := ⟨4, ![4, 2, 4096, 768]⟩
abbrev S1x512x768 : Shape := ⟨3, ![1, 512, 768]⟩
abbrev S1x2x512x768 : Shape := ⟨4, ![1, 2, 512, 768]⟩
abbrev S512x768 : Shape := ⟨2, ![512, 768]⟩
abbrev S1x1x512x768 : Shape := ⟨4, ![1, 1, 512, 768]⟩
abbrev S4x64x49152 : Shape := ⟨3, ![4, 64, 49152]⟩
abbrev S1x64x6144 : Shape := ⟨3, ![1, 64, 6144]⟩
abbrev S64x6144 : Shape := ⟨2, ![64, 6144]⟩
abbrev S4x64x64x768 : Shape := ⟨4, ![4, 64, 64, 768]⟩
abbrev S1x8x64x768 : Shape := ⟨4, ![1, 8, 64, 768]⟩
abbrev S1x1x64x768 : Shape := ⟨4, ![1, 1, 64, 768]⟩
abbrev S64x768 : Shape := ⟨2, ![64, 768]⟩
abbrev S32x64x64 : Shape := ⟨3, ![32, 64, 64]⟩
abbrev S1x64x64 : Shape := ⟨3, ![1, 64, 64]⟩
abbrev S4x8x64x64 : Shape := ⟨4, ![4, 8, 64, 64]⟩
abbrev S4x4096x12x64 : Shape := ⟨4, ![4, 4096, 12, 64]⟩
abbrev S4x8x64x8 : Shape := ⟨4, ![4, 8, 64, 8]⟩
abbrev S4x64x8x8 : Shape := ⟨4, ![4, 64, 8, 8]⟩
abbrev S4x64x64 : Shape := ⟨3, ![4, 64, 64]⟩

abbrev nBuf : Space → Nat
  | .hbm => 120
  | .vmem => 64
  | .smem => 0
  | _ => 0

abbrev bufTy : (tb : Table) → Fin (tcTables nBuf tb) → BufTy
  | .hbm, ⟨0, _⟩ => ⟨S4x4096x768, .f32⟩
  | .hbm, ⟨1, _⟩ => ⟨S4x4096x768, .f32⟩
  | .hbm, ⟨2, _⟩ => ⟨S4x4096x768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S768x768, .f32⟩
  | .hbm, ⟨10, _⟩ => ⟨S768, .f32⟩
  | .hbm, ⟨11, _⟩ => ⟨S64x64, .i32⟩
  | .hbm, ⟨12, _⟩ => ⟨S64x64, .i32⟩
  | .hbm, ⟨13, _⟩ => ⟨S64x64, .i32⟩
  | .hbm, ⟨14, _⟩ => ⟨S64x64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .i32⟩
  | .hbm, ⟨24, _⟩ => ⟨S64x64, .i32⟩
  | .hbm, ⟨25, _⟩ => ⟨S64x64, .i32⟩
  | .hbm, ⟨26, _⟩ => ⟨S64x64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .i32⟩
  | .hbm, ⟨37, _⟩ => ⟨S64x64, .i32⟩
  | .hbm, ⟨38, _⟩ => ⟨S64x64, .i32⟩
  | .hbm, ⟨39, _⟩ => ⟨S64x64, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S64x64x768, .f32⟩
  | .hbm, ⟨49, _⟩ => ⟨S64x49152, .f32⟩
  | .hbm, ⟨50, _⟩ => ⟨S64x64, .i32⟩
  | .hbm, ⟨51, _⟩ => ⟨S64x64, .i32⟩
  | .hbm, ⟨52, _⟩ => ⟨S64x64, .i32⟩
  | .hbm, ⟨53, _⟩ => ⟨S64x64, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S64x64, .f32⟩
  | .hbm, ⟨60, _⟩ => ⟨S64x64, .f32⟩
  | .hbm, ⟨61, _⟩ => ⟨S64x64, .f32⟩
  | .hbm, ⟨62, _⟩ => ⟨S64x64, .f32⟩
  | .hbm, ⟨63, _⟩ => ⟨S64x64x768, .f32⟩
  | .hbm, ⟨64, _⟩ => ⟨S64x49152, .f32⟩
  | .hbm, ⟨65, _⟩ => ⟨S6144x64, .i32⟩
  | .hbm, ⟨66, _⟩ => ⟨S_, .i32⟩
  | .hbm, ⟨67, _⟩ => ⟨S_, .i32⟩
  | .hbm, ⟨68, _⟩ => ⟨S6144x64, .i32⟩
  | .hbm, ⟨69, _⟩ => ⟨S6144x64, .i32⟩
  | .hbm, ⟨70, _⟩ => ⟨S6144x64, .i32⟩
  | .hbm, ⟨71, _⟩ => ⟨S_, .i32⟩
  | .hbm, ⟨72, _⟩ => ⟨S6144x64, .i32⟩
  | .hbm, ⟨73, _⟩ => ⟨S6144x64, .i1⟩
  | .hbm, ⟨74, _⟩ => ⟨S6144x64, .i32⟩
  | .hbm, ⟨75, _⟩ => ⟨S6144x64, .i32⟩
  | .hbm, ⟨76, _⟩ => ⟨S_, .i32⟩
  | .hbm, ⟨77, _⟩ => ⟨S6144x64, .i32⟩
  | .hbm, ⟨78, _⟩ => ⟨S6144x64, .i1⟩
  | .hbm, ⟨79, _⟩ => ⟨S6144x64, .i1⟩
  | .hbm, ⟨80, _⟩ => ⟨S_, .i32⟩
  | .hbm, ⟨81, _⟩ => ⟨S6144x64, .i32⟩
  | .hbm, ⟨82, _⟩ => ⟨S6144x64, .i32⟩
  | .hbm, ⟨83, _⟩ => ⟨S6144x64, .i32⟩
  | .hbm, ⟨84, _⟩ => ⟨S6144x64, .i32⟩
  | .hbm, ⟨85, _⟩ => ⟨S6144x64, .i1⟩
  | .hbm, ⟨86, _⟩ => ⟨S6144x64, .f32⟩
  | .hbm, ⟨87, _⟩ => ⟨S768x768, .f32⟩
  | .hbm, ⟨88, _⟩ => ⟨S768x768, .f32⟩
  | .hbm, ⟨89, _⟩ => ⟨S768x768, .f32⟩
  | .hbm, ⟨90, _⟩ => ⟨S768x768, .f32⟩
  | .hbm, ⟨91, _⟩ => ⟨S1x768, .f32⟩
  | .hbm, ⟨92, _⟩ => ⟨S1x768, .f32⟩
  | .hbm, ⟨93, _⟩ => ⟨S1x768, .f32⟩
  | .hbm, ⟨94, _⟩ => ⟨S1x768, .f32⟩
  | .hbm, ⟨95, _⟩ => ⟨S4x768, .f32⟩
  | .hbm, ⟨96, _⟩ => ⟨S4x4096x768, .f32⟩
  | .hbm, ⟨97, _⟩ => ⟨S4x4096x768, .f32⟩
  | .hbm, ⟨98, _⟩ => ⟨S4x2x4096x768, .f32⟩
  | .hbm, ⟨99, _⟩ => ⟨S4x64x49152, .f32⟩
  | .hbm, ⟨100, _⟩ => ⟨S4x64x49152, .f32⟩
  | .hbm, ⟨101, _⟩ => ⟨S4x64x49152, .f32⟩
  | .hbm, ⟨102, _⟩ => ⟨S4x64x49152, .f32⟩
  | .hbm, ⟨103, _⟩ => ⟨S4x64x49152, .f32⟩
  | .hbm, ⟨104, _⟩ => ⟨S4x64x49152, .f32⟩
  | .hbm, ⟨105, _⟩ => ⟨S4x64x64x768, .f32⟩
  | .hbm, ⟨106, _⟩ => ⟨S4x64x64x768, .f32⟩
  | .hbm, ⟨107, _⟩ => ⟨S4x64x64x768, .f32⟩
  | .hbm, ⟨108, _⟩ => ⟨S4x64x64x768, .f32⟩
  | .hbm, ⟨109, _⟩ => ⟨S4x64x64x768, .f32⟩
  | .hbm, ⟨110, _⟩ => ⟨S4x64x64x768, .f32⟩
  | .hbm, ⟨111, _⟩ => ⟨S4x64x49152, .f32⟩
  | .hbm, ⟨112, _⟩ => ⟨S4x64x49152, .f32⟩
  | .hbm, ⟨113, _⟩ => ⟨S4x64x49152, .f32⟩
  | .hbm, ⟨114, _⟩ => ⟨S32x64x64, .f32⟩
  | .hbm, ⟨115, _⟩ => ⟨S4x8x64x64, .f32⟩
  | .hbm, ⟨116, _⟩ => ⟨S4x4096x12x64, .f32⟩
  | .hbm, ⟨117, _⟩ => ⟨S4x8x64x8, .f32⟩
  | .hbm, ⟨118, _⟩ => ⟨S4x64x8x8, .f32⟩
  | .hbm, ⟨119, _⟩ => ⟨S4x64x64, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .f32⟩
  | .local _ .vmem, ⟨5, _⟩ => ⟨S1x512x768, .f32⟩
  | .local _ .vmem, ⟨6, _⟩ => ⟨S768x768, .f32⟩
  | .local _ .vmem, ⟨7, _⟩ => ⟨S768x768, .f32⟩
  | .local _ .vmem, ⟨8, _⟩ => ⟨S768x768, .f32⟩
  | .local _ .vmem, ⟨9, _⟩ => ⟨S768x768, .f32⟩
  | .local _ .vmem, ⟨10, _⟩ => ⟨S4x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x2x512x768, .f32⟩
  | .local _ .vmem, ⟨16, _⟩ => ⟨S1x2x512x768, .f32⟩
  | .local _ .vmem, ⟨17, _⟩ => ⟨S1x64x6144, .f32⟩
  | .local _ .vmem, ⟨18, _⟩ => ⟨S1x64x6144, .f32⟩
  | .local _ .vmem, ⟨19, _⟩ => ⟨S1x64x6144, .f32⟩
  | .local _ .vmem, ⟨20, _⟩ => ⟨S1x64x6144, .f32⟩
  | .local _ .vmem, ⟨21, _⟩ => ⟨S64x64, .f32⟩
  | .local _ .vmem, ⟨22, _⟩ => ⟨S64x64, .f32⟩
  | .local _ .vmem, ⟨23, _⟩ => ⟨S64x6144, .f32⟩
  | .local _ .vmem, ⟨24, _⟩ => ⟨S64x6144, .f32⟩
  | .local _ .vmem, ⟨25, _⟩ => ⟨S64x6144, .f32⟩
  | .local _ .vmem, ⟨26, _⟩ => ⟨S64x6144, .f32⟩
  | .local _ .vmem, ⟨27, _⟩ => ⟨S1x64x6144, .f32⟩
  | .local _ .vmem, ⟨28, _⟩ => ⟨S1x64x6144, .f32⟩
  | .local _ .vmem, ⟨29, _⟩ => ⟨S1x64x6144, .f32⟩
  | .local _ .vmem, ⟨30, _⟩ => ⟨S1x64x6144, .f32⟩
  | .local _ .vmem, ⟨31, _⟩ => ⟨S1x64x6144, .f32⟩
  | .local _ .vmem, ⟨32, _⟩ => ⟨S1x64x6144, .f32⟩
  | .local _ .vmem, ⟨33, _⟩ => ⟨S1x64x6144, .f32⟩
  | .local _ .vmem, ⟨34, _⟩ => ⟨S1x64x6144, .f32⟩
  | .local _ .vmem, ⟨35, _⟩ => ⟨S1x8x64x768, .f32⟩
  | .local _ .vmem, ⟨36, _⟩ => ⟨S1x8x64x768, .f32⟩
  | .local _ .vmem, ⟨37, _⟩ => ⟨S1x8x64x768, .f32⟩
  | .local _ .vmem, ⟨38, _⟩ => ⟨S1x8x64x768, .f32⟩
  | .local _ .vmem, ⟨39, _⟩ => ⟨S1x8x64x768, .f32⟩
  | .local _ .vmem, ⟨40, _⟩ => ⟨S1x8x64x768, .f32⟩
  | .local _ .vmem, ⟨41, _⟩ => ⟨S1x8x64x768, .f32⟩
  | .local _ .vmem, ⟨42, _⟩ => ⟨S1x8x64x768, .f32⟩
  | .local _ .vmem, ⟨43, _⟩ => ⟨S64x64, .f32⟩
  | .local _ .vmem, ⟨44, _⟩ => ⟨S64x64, .f32⟩
  | .local _ .vmem, ⟨45, _⟩ => ⟨S1x8x64x768, .f32⟩
  | .local _ .vmem, ⟨46, _⟩ => ⟨S1x8x64x768, .f32⟩
  | .local _ .vmem, ⟨47, _⟩ => ⟨S1x8x64x768, .f32⟩
  | .local _ .vmem, ⟨48, _⟩ => ⟨S1x8x64x768, .f32⟩
  | .local _ .vmem, ⟨49, _⟩ => ⟨S1x64x6144, .f32⟩
  | .local _ .vmem, ⟨50, _⟩ => ⟨S1x64x6144, .f32⟩
  | .local _ .vmem, ⟨51, _⟩ => ⟨S1x64x6144, .f32⟩
  | .local _ .vmem, ⟨52, _⟩ => ⟨S1x64x6144, .f32⟩
  | .local _ .vmem, ⟨53, _⟩ => ⟨S64x64, .f32⟩
  | .local _ .vmem, ⟨54, _⟩ => ⟨S64x64, .f32⟩
  | .local _ .vmem, ⟨55, _⟩ => ⟨S64x6144, .f32⟩
  | .local _ .vmem, ⟨56, _⟩ => ⟨S64x6144, .f32⟩
  | .local _ .vmem, ⟨57, _⟩ => ⟨S64x6144, .f32⟩
  | .local _ .vmem, ⟨58, _⟩ => ⟨S64x6144, .f32⟩
  | .local _ .vmem, ⟨59, _⟩ => ⟨S6144x64, .f32⟩
  | .local _ .vmem, ⟨60, _⟩ => ⟨S1x64x6144, .f32⟩
  | .local _ .vmem, ⟨61, _⟩ => ⟨S1x64x6144, .f32⟩
  | .local _ .vmem, ⟨62, _⟩ => ⟨S1x64x64, .f32⟩
  | .local _ .vmem, ⟨63, _⟩ => ⟨S1x64x64, .f32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_cst_0 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_cst_3 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_cst_6 : Ref sig .tc := ⟨.hbm, 41, rfl⟩
abbrev main_v23 : Ref sig .tc := ⟨.hbm, 42, rfl⟩
abbrev main_cst_7 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_cst_9 : Ref sig .tc := ⟨.hbm, 55, rfl⟩
abbrev main_v34 : Ref sig .tc := ⟨.hbm, 56, rfl⟩
abbrev main_cst_10 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_v6 : Ref sig .tc := ⟨.hbm, 73, rfl⟩
abbrev main_call0_v7 : Ref sig .tc := ⟨.hbm, 74, rfl⟩
abbrev main_call0_v8 : Ref sig .tc := ⟨.hbm, 75, rfl⟩
abbrev main_call0_c : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_c_0 : Ref sig .tc := ⟨.hbm, 80, rfl⟩
abbrev main_call0_v12 : Ref sig .tc := ⟨.hbm, 81, rfl⟩
abbrev main_call0_v13 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56_0 : Ref sig .tc := ⟨.hbm, 96, rfl⟩
abbrev main_v56_1 : Ref sig .tc := ⟨.hbm, 97, rfl⟩
abbrev main_v56_2 : Ref sig .tc := ⟨.hbm, 98, rfl⟩
abbrev main_v57 : Ref sig .tc := ⟨.hbm, 99, rfl⟩
abbrev main_v58 : Ref sig .tc := ⟨.hbm, 100, rfl⟩
abbrev main_v59_0 : Ref sig .tc := ⟨.hbm, 101, rfl⟩
abbrev main_v59_1 : Ref sig .tc := ⟨.hbm, 102, rfl⟩
abbrev main_v59_2 : Ref sig .tc := ⟨.hbm, 103, rfl⟩
abbrev main_v59_3 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64_0 : Ref sig .tc := ⟨.hbm, 109, rfl⟩
abbrev main_v64_1 : Ref sig .tc := ⟨.hbm, 110, rfl⟩
abbrev main_v65 : Ref sig .tc := ⟨.hbm, 111, rfl⟩
abbrev main_v66 : Ref sig .tc := ⟨.hbm, 112, rfl⟩
abbrev main_v67_0 : Ref sig .tc := ⟨.hbm, 113, rfl⟩
abbrev main_v67_1 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc2_stg2_1 : Ref sig .tc := ⟨.vmem, 40, rfl⟩
abbrev cc2_stg3_0 : Ref sig .tc := ⟨.vmem, 41, rfl⟩
abbrev cc2_stg3_1 : Ref sig .tc := ⟨.vmem, 42, rfl⟩
abbrev cc2_stg4_0 : Ref sig .tc := ⟨.vmem, 43, rfl⟩
abbrev cc2_stg5_0 : Ref sig .tc := ⟨.vmem, 44, rfl⟩
abbrev cc2_stg6_0 : Ref sig .tc := ⟨.vmem, 45, rfl⟩
abbrev cc2_stg6_1 : Ref sig .tc := ⟨.vmem, 46, rfl⟩
abbrev cc2_stg7_0 : Ref sig .tc := ⟨.vmem, 47, rfl⟩
abbrev cc2_stg7_1 : Ref sig .tc := ⟨.vmem, 48, rfl⟩
abbrev cc3_stg0_0 : Ref sig .tc := ⟨.vmem, 49, rfl⟩
abbrev cc3_stg0_1 : Ref sig .tc := ⟨.vmem, 50, rfl⟩
abbrev cc3_stg1_0 : Ref sig .tc := ⟨.vmem, 51, rfl⟩
abbrev cc3_stg1_1 : Ref sig .tc := ⟨.vmem, 52, rfl⟩
abbrev cc3_stg2_0 : Ref sig .tc := ⟨.vmem, 53, rfl⟩
abbrev cc3_stg3_0 : Ref sig .tc := ⟨.vmem, 54, rfl⟩
abbrev cc3_stg4_0 : Ref sig .tc := ⟨.vmem, 55, rfl⟩
abbrev cc3_stg4_1 : Ref sig .tc := ⟨.vmem, 56, rfl⟩
abbrev cc3_stg5_0 : Ref sig .tc := ⟨.vmem, 57, rfl⟩
abbrev cc3_stg5_1 : Ref sig .tc := ⟨.vmem, 58, rfl⟩
abbrev cc3_stg6_0 : Ref sig .tc := ⟨.vmem, 59, rfl⟩
abbrev cc3_stg7_0 : Ref sig .tc := ⟨.vmem, 60, rfl⟩
abbrev cc3_stg7_1 : Ref sig .tc := ⟨.vmem, 61, rfl⟩
abbrev cc3_stg8_0 : Ref sig .tc := ⟨.vmem, 62, rfl⟩
abbrev cc3_stg8_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem6_1 : DmaSem sig := 28
abbrev cc1_sem7_0 : DmaSem sig := 29
abbrev cc1_sem7_1 : DmaSem sig := 30
abbrev cc1_sem8_0 : DmaSem sig := 31
abbrev cc1_sem8_1 : DmaSem sig := 32
abbrev cc1_sem9_0 : DmaSem sig := 33
abbrev cc1_sem9_1 : DmaSem sig := 34
abbrev cc2_sem0_0 : DmaSem sig := 35
abbrev cc2_sem0_1 : DmaSem sig := 36
abbrev cc2_sem1_0 : DmaSem sig := 37
abbrev cc2_sem1_1 : DmaSem sig := 38
abbrev cc2_sem2_0 : DmaSem sig := 39
abbrev cc2_sem2_1 : DmaSem sig := 40
abbrev cc2_sem3_0 : DmaSem sig := 41
abbrev cc2_sem3_1 : DmaSem sig := 42
abbrev cc2_sem4_0 : DmaSem sig := 43
abbrev cc2_sem5_0 : DmaSem sig := 44
abbrev cc2_sem6_0 : DmaSem sig := 45
abbrev cc2_sem6_1 : DmaSem sig := 46
abbrev cc2_sem7_0 : DmaSem sig := 47
abbrev cc2_sem7_1 : DmaSem sig := 48
abbrev cc3_sem0_0 : DmaSem sig := 49
abbrev cc3_sem0_1 : DmaSem sig := 50
abbrev cc3_sem1_0 : DmaSem sig := 51
abbrev cc3_sem1_1 : DmaSem sig := 52
abbrev cc3_sem2_0 : DmaSem sig := 53
abbrev cc3_sem3_0 : DmaSem sig := 54
abbrev cc3_sem4_0 : DmaSem sig := 55
abbrev cc3_sem4_1 : DmaSem sig := 56
abbrev cc3_sem5_0 : DmaSem sig := 57
abbrev cc3_sem5_1 : DmaSem sig := 58
abbrev cc3_sem6_0 : DmaSem sig := 59
abbrev cc3_sem7_0 : DmaSem sig := 60
abbrev cc3_sem7_1 : DmaSem sig := 61
abbrev cc3_sem8_0 : DmaSem sig := 62
abbrev cc3_sem8_1 : DmaSem sig := 63

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage1_0 : Fin 2 → Memref sig .tc .vmem S1x64x6144 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x6144 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S64x6144 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S64x6144 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x64x6144 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x64x6144 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x64x6144 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x64x6144 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev grid2 : Pipeline.Grid := ⟨2, ![8, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc2_transform_7 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage2_0 : Fin 2 → Memref sig .tc .vmem S1x8x64x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x8x64x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x8x64x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x8x64x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x8x64x768 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x8x64x768 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := ⟨2, ![8, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc3_transform_8 (i : grid3.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

abbrev stage3_0 : Fin 2 → Memref sig .tc .vmem S1x64x6144 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x64x6144 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S64x6144 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S64x6144 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 1 → Memref sig .tc .vmem S6144x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S1x64x6144 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S1x64x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]
-- ==== ReferenceIdeal.lean ====
abbrev S4x4096x768 : Shape := ⟨3, ![4, 4096, 768]⟩
abbrev S768x768 : Shape := ⟨2, ![768, 768]⟩
abbrev S768 : Shape := ⟨1, ![768]⟩
abbrev S1x1x768 : Shape := ⟨3, ![1, 1, 768]⟩
abbrev S4096x4096 : Shape := ⟨2, ![4096, 4096]⟩
abbrev S_ : Shape := ⟨0, ![]⟩
abbrev S4x768x4096 : Shape := ⟨3, ![4, 768, 4096]⟩
abbrev S4x4096 : Shape := ⟨2, ![4, 4096]⟩
abbrev S4x64x64 : Shape := ⟨3, ![4, 64, 64]⟩
abbrev S4x1x4096x768 : Shape := ⟨4, ![4, 1, 4096, 768]⟩
abbrev S4x2x4096x768 : Shape := ⟨4, ![4, 2, 4096, 768]⟩
abbrev S4x4096x12x64 : Shape := ⟨4, ![4, 4096, 12, 64]⟩

abbrev nBuf : Space → Nat
  | .hbm => 92
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S4x4096x768, .f32⟩
  | .hbm, ⟨2, _⟩ => ⟨S4x4096x768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S768x768, .f32⟩
  | .hbm, ⟨10, _⟩ => ⟨S768, .f32⟩
  | .hbm, ⟨11, _⟩ => ⟨S768x768, .f32⟩
  | .hbm, ⟨12, _⟩ => ⟨S4x4096x768, .f32⟩
  | .hbm, ⟨13, _⟩ => ⟨S1x1x768, .f32⟩
  | .hbm, ⟨14, _⟩ => ⟨S4x4096x768, .f32⟩
  | .hbm, ⟨15, _⟩ => ⟨S4x4096x768, .f32⟩
  | .hbm, ⟨16, _⟩ => ⟨S768x768, .f32⟩
  | .hbm, ⟨17, _⟩ => ⟨S4x4096x768, .f32⟩
  | .hbm, ⟨18, _⟩ => ⟨S1x1x768, .f32⟩
  | .hbm, ⟨19, _⟩ => ⟨S4x4096x768, .f32⟩
  | .hbm, ⟨20, _⟩ => ⟨S4x4096x768, .f32⟩
  | .hbm, ⟨21, _⟩ => ⟨S768x768, .f32⟩
  | .hbm, ⟨22, _⟩ => ⟨S4x4096x768, .f32⟩
  | .hbm, ⟨23, _⟩ => ⟨S1x1x768, .f32⟩
  | .hbm, ⟨24, _⟩ => ⟨S4x4096x768, .f32⟩
  | .hbm, ⟨25, _⟩ => ⟨S4x4096x768, .f32⟩
  | .hbm, ⟨26, _⟩ => ⟨S4096x4096, .i32⟩
  | .hbm, ⟨27, _⟩ => ⟨S4096x4096, .i32⟩
  | .hbm, ⟨28, _⟩ => ⟨S4096x4096, .i32⟩
  | .hbm, ⟨29, _⟩ => ⟨S_, .i32⟩
  | .hbm, ⟨30, _⟩ => ⟨S4096x4096, .i32⟩
  | .hbm, ⟨31, _⟩ => ⟨S4096x4096, .i32⟩
  | .hbm, ⟨32, _⟩ => ⟨S4096x4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .i32⟩
  | .hbm, ⟨42, _⟩ => ⟨S4096x4096, .i32⟩
  | .hbm, ⟨43, _⟩ => ⟨S4096x4096, .i32⟩
  | .hbm, ⟨44, _⟩ => ⟨S_, .i32⟩
  | .hbm, ⟨45, _⟩ => ⟨S4096x4096, .i32⟩
  | .hbm, ⟨46, _⟩ => ⟨S4096x4096, .i32⟩
  | .hbm, ⟨47, _⟩ => ⟨S4096x4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4x768x4096, .f32⟩
  | .hbm, ⟨57, _⟩ => ⟨S4x4096x768, .f32⟩
  | .hbm, ⟨58, _⟩ => ⟨S4x768x4096, .f32⟩
  | .hbm, ⟨59, _⟩ => ⟨S4x4096x768, .f32⟩
  | .hbm, ⟨60, _⟩ => ⟨S4x4096x768, .f32⟩
  | .hbm, ⟨61, _⟩ => ⟨S4x768x4096, .f32⟩
  | .hbm, ⟨62, _⟩ => ⟨S4x4096x768, .f32⟩
  | .hbm, ⟨63, _⟩ => ⟨S4x768x4096, .f32⟩
  | .hbm, ⟨64, _⟩ => ⟨S4x4096x768, .f32⟩
  | .hbm, ⟨65, _⟩ => ⟨S4x4096x768, .f32⟩
  | .hbm, ⟨66, _⟩ => ⟨S4x4096x768, .f32⟩
  | .hbm, ⟨67, _⟩ => ⟨S4x4096x768, .f32⟩
  | .hbm, ⟨68, _⟩ => ⟨S4x4096x768, .f32⟩
  | .hbm, ⟨69, _⟩ => ⟨S4x4096x768, .f32⟩
  | .hbm, ⟨70, _⟩ => ⟨S4x4096x768, .f32⟩
  | .hbm, ⟨71, _⟩ => ⟨S4x4096x768, .f32⟩
  | .hbm, ⟨72, _⟩ => ⟨S4x768x4096, .f32⟩
  | .hbm, ⟨73, _⟩ => ⟨S4x4096x768, .f32⟩
  | .hbm, ⟨74, _⟩ => ⟨S4x768x4096, .f32⟩
  | .hbm, ⟨75, _⟩ => ⟨S4x4096x768, .f32⟩
  | .hbm, ⟨76, _⟩ => ⟨S4x4096x768, .f32⟩
  | .hbm, ⟨77, _⟩ => ⟨S_, .f32⟩
  | .hbm, ⟨78, _⟩ => ⟨S4x4096x768, .f32⟩
  | .hbm, ⟨79, _⟩ => ⟨S4x4096x768, .f32⟩
  | .hbm, ⟨80, _⟩ => ⟨S_, .f32⟩
  | .hbm, ⟨81, _⟩ => ⟨S4x4096, .f32⟩
  | .hbm, ⟨82, _⟩ => ⟨S4x64x64, .f32⟩
  | .hbm, ⟨83, _⟩ => ⟨S768x768, .f32⟩
  | .hbm, ⟨84, _⟩ => ⟨S4x4096x768, .f32⟩
  | .hbm, ⟨85, _⟩ => ⟨S1x1x768, .f32⟩
  | .hbm, ⟨86, _⟩ => ⟨S4x4096x768, .f32⟩
  | .hbm, ⟨87, _⟩ => ⟨S4x4096x768, .f32⟩
  | .hbm, ⟨88, _⟩ => ⟨S4x1x4096x768, .f32⟩
  | .hbm, ⟨89, _⟩ => ⟨S4x1x4096x768, .f32⟩
  | .hbm, ⟨90, _⟩ => ⟨S4x2x4096x768, .f32⟩
  | .hbm, ⟨91, _⟩ => ⟨S4x4096x12x64, .f32⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_cst_0 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_cst_4 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_6 : Ref sig .tc := ⟨.hbm, 77, rfl⟩
abbrev main_v58 : Ref sig .tc := ⟨.hbm, 78, rfl⟩
abbrev main_v59 : Ref sig .tc := ⟨.hbm, 79, rfl⟩
abbrev main_cst_7 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== KernelG.lean ====
abbrev S8 : Shape := ⟨1, ![8]⟩
abbrev S4x8 : Shape := ⟨2, ![4, 8]⟩
abbrev S4x2x4096x768 : Shape := ⟨4, ![4, 2, 4096, 768]⟩
abbrev S25165824 : Shape := ⟨1, ![25165824]⟩
abbrev S12582912 : Shape := ⟨1, ![12582912]⟩
abbrev S786432 : Shape := ⟨1, ![786432]⟩
abbrev S1 : Shape := ⟨1, ![1]⟩
abbrev S_ : Shape := ⟨0, ![]⟩
abbrev S1x1 : Shape := ⟨2, ![1, 1]⟩

abbrev nBuf : Space → Nat
  | .hbm => 5
  | .vmem => 10
  | .smem => 2
  | _ => 0

abbrev bufTy : (tb : Table) → Fin (tcTables nBuf tb) → BufTy
  | .hbm, ⟨0, _⟩ => ⟨S8, .i32⟩
  | .hbm, ⟨1, _⟩ => ⟨S4x8, .f32⟩
  | .hbm, ⟨2, _⟩ => ⟨S4x2x4096x768, .f32⟩
  | .hbm, ⟨3, _⟩ => ⟨S25165824, .f32⟩
  | .hbm, ⟨4, _⟩ => ⟨S12582912, .f32⟩
  | .local _ .vmem, ⟨0, _⟩ => ⟨S786432, .f32⟩
  | .local _ .vmem, ⟨1, _⟩ => ⟨S786432, .f32⟩
  | .local _ .vmem, ⟨2, _⟩ => ⟨S786432, .f32⟩
  | .local _ .vmem, ⟨3, _⟩ => ⟨S786432, .f32⟩
  | .local _ .vmem, ⟨4, _⟩ => ⟨S786432, .f32⟩
  | .local _ .vmem, ⟨5, _⟩ => ⟨S786432, .f32⟩
  | .local _ .vmem, ⟨6, _⟩ => ⟨S786432, .f32⟩
  | .local _ .vmem, ⟨7, _⟩ => ⟨S786432, .f32⟩
  | .local _ .vmem, ⟨8, _⟩ => ⟨S786432, .f32⟩
  | .local _ .vmem, ⟨9, _⟩ => ⟨S786432, .f32⟩
  | .local _ .smem, ⟨0, _⟩ => ⟨S8, .i32⟩
  | .local _ .smem, ⟨1, _⟩ => ⟨S4x8, .f32⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg2_0 : Ref sig .tc := ⟨.vmem, 0, rfl⟩
abbrev cc0_stg2_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨2, ![4, 4], ![false, false]⟩

def k0_mult1 (i : grid0.Coords) (v4 : BitVec 32) : BitVec 32 :=
  let arg0 : BitVec 32 := BitVec.ofNat 32 (i 0).val
  let c2_i32 : BitVec 32 := 2#32
  let v1 : BitVec 32 := Scalar.muli arg0 c2_i32
  let c4096_i32 : BitVec 32 := 4096#32
  let v2 : BitVec 32 := Scalar.muli v1 c4096_i32
  let arg1 : BitVec 32 := BitVec.ofNat 32 (i 1).val
  let c1024_i32 : BitVec 32 := 1024#32
  let v0 : BitVec 32 := Scalar.muli arg1 c1024_i32
  let v3 : BitVec 32 := Scalar.addi v2 v0
  let v5 : BitVec 32 := Scalar.addi v3 v4
  let c768_i32 : BitVec 32 := 768#32
  let v6 : BitVec 32 := Scalar.muli v5 c768_i32
  v6

def k0_off1 (i : grid0.Coords) (v4 : BitVec 32) : Fin 1 → Nat :=
  let arg0 : BitVec 32 := BitVec.ofNat 32 (i 0).val
  let c2_i32 : BitVec 32 := 2#32
  let v1 : BitVec 32 := Scalar.muli arg0 c2_i32
  let c4096_i32 : BitVec 32 := 4096#32
  let v2 : BitVec 32 := Scalar.muli v1 c4096_i32
  let arg1 : BitVec 32 := BitVec.ofNat 32 (i 1).val
  let c1024_i32 : BitVec 32 := 1024#32
  let v0 : BitVec 32 := Scalar.muli arg1 c1024_i32
  let v3 : BitVec 32 := Scalar.addi v2 v0
  let v5 : BitVec 32 := Scalar.addi v3 v4
  let c768_i32 : BitVec 32 := 768#32
  let v6 : BitVec 32 := Scalar.muli v5 c768_i32
  let v7 : BitVec 32 := v6
  ![v7.toNat]
def k0_mult2 (i : grid0.Coords) (v14 : BitVec 32) : BitVec 32 :=
  let arg0 : BitVec 32 := BitVec.ofNat 32 (i 0).val
  let c2_i32_0 : BitVec 32 := 2#32
  let v11 : BitVec 32 := Scalar.muli arg0 c2_i32_0
  let c4096_i32_1 : BitVec 32 := 4096#32
  let v12 : BitVec 32 := Scalar.muli v11 c4096_i32_1
  let arg1 : BitVec 32 := BitVec.ofNat 32 (i 1).val
  let c1024_i32 : BitVec 32 := 1024#32
  let v0 : BitVec 32 := Scalar.muli arg1 c1024_i32
  let v13 : BitVec 32 := Scalar.addi v12 v0
  let v15 : BitVec 32 := Scalar.addi v13 v14
  let c768_i32_2 : BitVec 32 := 768#32
  let v16 : BitVec 32 := Scalar.muli v15 c768_i32_2
  v16

def k0_off2 (i : grid0.Coords) (v14 : BitVec 32) : Fin 1 → Nat :=
  let arg0 : BitVec 32 := BitVec.ofNat 32 (i 0).val
  let c2_i32_0 : BitVec 32 := 2#32
  let v11 : BitVec 32 := Scalar.muli arg0 c2_i32_0
  let c4096_i32_1 : BitVec 32 := 4096#32
  let v12 : BitVec 32 := Scalar.muli v11 c4096_i32_1
  let arg1 : BitVec 32 := BitVec.ofNat 32 (i 1).val
  let c1024_i32 : BitVec 32 := 1024#32
  let v0 : BitVec 32 := Scalar.muli arg1 c1024_i32
  let v13 : BitVec 32 := Scalar.addi v12 v0
  let v15 : BitVec 32 := Scalar.addi v13 v14
  let c768_i32_2 : BitVec 32 := 768#32
  let v16 : BitVec 32 := Scalar.muli v15 c768_i32_2
  let v17 : BitVec 32 := v16
  ![v17.toNat]
def k0_mult3 (i : grid0.Coords) (v24 : BitVec 32) : BitVec 32 :=
  let arg0 : BitVec 32 := BitVec.ofNat 32 (i 0).val
  let c2_i32_3 : BitVec 32 := 2#32
  let v21 : BitVec 32 := Scalar.muli arg0 c2_i32_3
  let c4096_i32_4 : BitVec 32 := 4096#32
  let v22 : BitVec 32 := Scalar.muli v21 c4096_i32_4
  let arg1 : BitVec 32 := BitVec.ofNat 32 (i 1).val
  let c1024_i32 : BitVec 32 := 1024#32
  let v0 : BitVec 32 := Scalar.muli arg1 c1024_i32
  let v23 : BitVec 32 := Scalar.addi v22 v0
  let v25 : BitVec 32 := Scalar.addi v23 v24
  let c768_i32_5 : BitVec 32 := 768#32
  let v26 : BitVec 32 := Scalar.muli v25 c768_i32_5
  v26

def k0_off3 (i : grid0.Coords) (v24 : BitVec 32) : Fin 1 → Nat :=
  let arg0 : BitVec 32 := BitVec.ofNat 32 (i 0).val
  let c2_i32_3 : BitVec 32 := 2#32
  let v21 : BitVec 32 := Scalar.muli arg0 c2_i32_3
  let c4096_i32_4 : BitVec 32 := 4096#32
  let v22 : BitVec 32 := Scalar.muli v21 c4096_i32_4
  let arg1 : BitVec 32 := BitVec.ofNat 32 (i 1).val
  let c1024_i32 : BitVec 32 := 1024#32
  let v0 : BitVec 32 := Scalar.muli arg1 c1024_i32
  let v23 : BitVec 32 := Scalar.addi v22 v0
  let v25 : BitVec 32 := Scalar.addi v23 v24
  let c768_i32_5 : BitVec 32 := 768#32
  let v26 : BitVec 32 := Scalar.muli v25 c768_i32_5
  let v27 : BitVec 32 := v26
  ![v27.toNat]
def k0_mult4 (i : grid0.Coords) (v34 : BitVec 32) : BitVec 32 :=
  let arg0 : BitVec 32 := BitVec.ofNat 32 (i 0).val
  let c2_i32_7 : BitVec 32 := 2#32
  let v31 : BitVec 32 := Scalar.muli arg0 c2_i32_7
  let c4096_i32_8 : BitVec 32 := 4096#32
  let v32 : BitVec 32 := Scalar.muli v31 c4096_i32_8
  let arg1 : BitVec 32 := BitVec.ofNat 32 (i 1).val
  let c1024_i32 : BitVec 32 := 1024#32
  let v0 : BitVec 32 := Scalar.muli arg1 c1024_i32
  let v33 : BitVec 32 := Scalar.addi v32 v0
  let v35 : BitVec 32 := Scalar.addi v33 v34
  let c768_i32_9 : BitVec 32 := 768#32
  let v36 : BitVec 32 := Scalar.muli v35 c768_i32_9
  v36

def k0_off4 (i : grid0.Coords) (v34 : BitVec 32) : Fin 1 → Nat :=
  let arg0 : BitVec 32 := BitVec.ofNat 32 (i 0).val
  let c2_i32_7 : BitVec 32 := 2#32
  let v31 : BitVec 32 := Scalar.muli arg0 c2_i32_7
  let c4096_i32_8 : BitVec 32 := 4096#32
  let v32 : BitVec 32 := Scalar.muli v31 c4096_i32_8
  let arg1 : BitVec 32 := BitVec.ofNat 32 (i 1).val
  let c1024_i32 : BitVec 32 := 1024#32
  let v0 : BitVec 32 := Scalar.muli arg1 c1024_i32
  let v33 : BitVec 32 := Scalar.addi v32 v0
  let v35 : BitVec 32 := Scalar.addi v33 v34
  let c768_i32_9 : BitVec 32 := 768#32
  let v36 : BitVec 32 := Scalar.muli v35 c768_i32_9
  let v37 : BitVec 32 := v36
  ![v37.toNat]
def k0_mult5 (i : grid0.Coords) (v44 : BitVec 32) : BitVec 32 :=
  let arg0 : BitVec 32 := BitVec.ofNat 32 (i 0).val
  let c2_i32_10 : BitVec 32 := 2#32
  let v41 : BitVec 32 := Scalar.muli arg0 c2_i32_10
  let c4096_i32_11 : BitVec 32 := 4096#32
  let v42 : BitVec 32 := Scalar.muli v41 c4096_i32_11
  let arg1 : BitVec 32 := BitVec.ofNat 32 (i 1).val
  let c1024_i32 : BitVec 32 := 1024#32
  let v0 : BitVec 32 := Scalar.muli arg1 c1024_i32
  let v43 : BitVec 32 := Scalar.addi v42 v0
  let v45 : BitVec 32 := Scalar.addi v43 v44
  let c768_i32_12 : BitVec 32 := 768#32
  let v46 : BitVec 32 := Scalar.muli v45 c768_i32_12
  v46

def k0_off5 (i : grid0.Coords) (v44 : BitVec 32) : Fin 1 → Nat :=
  let arg0 : BitVec 32 := BitVec.ofNat 32 (i 0).val
  let c2_i32_10 : BitVec 32 := 2#32
  let v41 : BitVec 32 := Scalar.muli arg0 c2_i32_10
  let c4096_i32_11 : BitVec 32 := 4096#32
  let v42 : BitVec 32 := Scalar.muli v41 c4096_i32_11
  let arg1 : BitVec 32 := BitVec.ofNat 32 (i 1).val
  let c1024_i32 : BitVec 32 := 1024#32
  let v0 : BitVec 32 := Scalar.muli arg1 c1024_i32
  let v43 : BitVec 32 := Scalar.addi v42 v0
  let v45 : BitVec 32 := Scalar.addi v43 v44
  let c768_i32_12 : BitVec 32 := 768#32
  let v46 : BitVec 32 := Scalar.muli v45 c768_i32_12
  let v47 : BitVec 32 := v46
  ![v47.toNat]
def k0_mult6 (i : grid0.Coords) (v54 : BitVec 32) : BitVec 32 :=
  let arg0 : BitVec 32 := BitVec.ofNat 32 (i 0).val
  let c2_i32_13 : BitVec 32 := 2#32
  let v51 : BitVec 32 := Scalar.muli arg0 c2_i32_13
  let c4096_i32_14 : BitVec 32 := 4096#32
  let v52 : BitVec 32 := Scalar.muli v51 c4096_i32_14
  let arg1 : BitVec 32 := BitVec.ofNat 32 (i 1).val
  let c1024_i32 : BitVec 32 := 1024#32
  let v0 : BitVec 32 := Scalar.muli arg1 c1024_i32
  let v53 : BitVec 32 := Scalar.addi v52 v0
  let v55 : BitVec 32 := Scalar.addi v53 v54
  let c768_i32_15 : BitVec 32 := 768#32
  let v56 : BitVec 32 := Scalar.muli v55 c768_i32_15
  v56

def k0_off6 (i : grid0.Coords) (v54 : BitVec 32) : Fin 1 → Nat :=
  let arg0 : BitVec 32 := BitVec.ofNat 32 (i 0).val
  let c2_i32_13 : BitVec 32 := 2#32
  let v51 : BitVec 32 := Scalar.muli arg0 c2_i32_13
  let c4096_i32_14 : BitVec 32 := 4096#32
  let v52 : BitVec 32 := Scalar.muli v51 c4096_i32_14
  let arg1 : BitVec 32 := BitVec.ofNat 32 (i 1).val
  let c1024_i32 : BitVec 32 := 1024#32
  let v0 : BitVec 32 := Scalar.muli arg1 c1024_i32
  let v53 : BitVec 32 := Scalar.addi v52 v0
  let v55 : BitVec 32 := Scalar.addi v53 v54
  let c768_i32_15 : BitVec 32 := 768#32
  let v56 : BitVec 32 := Scalar.muli v55 c768_i32_15
  let v57 : BitVec 32 := v56
  ![v57.toNat]
def k0_mult7 (i : grid0.Coords) (v64 : BitVec 32) : BitVec 32 :=
  let arg0 : BitVec 32 := BitVec.ofNat 32 (i 0).val
  let c2_i32_16 : BitVec 32 := 2#32
  let v61 : BitVec 32 := Scalar.muli arg0 c2_i32_16
  let c4096_i32_17 : BitVec 32 := 4096#32
  let v62 : BitVec 32 := Scalar.muli v61 c4096_i32_17
  let arg1 : BitVec 32 := BitVec.ofNat 32 (i 1).val
  let c1024_i32 : BitVec 32 := 1024#32
  let v0 : BitVec 32 := Scalar.muli arg1 c1024_i32
  let v63 : BitVec 32 := Scalar.addi v62 v0
  let v65 : BitVec 32 := Scalar.addi v63 v64
  let c768_i32_18 : BitVec 32 := 768#32
  let v66 : BitVec 32 := Scalar.muli v65 c768_i32_18
  v66

def k0_off7 (i : grid0.Coords) (v64 : BitVec 32) : Fin 1 → Nat :=
  let arg0 : BitVec 32 := BitVec.ofNat 32 (i 0).val
  let c2_i32_16 : BitVec 32 := 2#32
  let v61 : BitVec 32 := Scalar.muli arg0 c2_i32_16
  let c4096_i32_17 : BitVec 32 := 4096#32
  let v62 : BitVec 32 := Scalar.muli v61 c4096_i32_17
  let arg1 : BitVec 32 := BitVec.ofNat 32 (i 1).val
  let c1024_i32 : BitVec 32 := 1024#32
  let v0 : BitVec 32 := Scalar.muli arg1 c1024_i32
  let v63 : BitVec 32 := Scalar.addi v62 v0
  let v65 : BitVec 32 := Scalar.addi v63 v64
  let c768_i32_18 : BitVec 32 := 768#32
  let v66 : BitVec 32 := Scalar.muli v65 c768_i32_18
  let v67 : BitVec 32 := v66
  ![v67.toNat]
def k0_mult8 (i : grid0.Coords) (v74 : BitVec 32) : BitVec 32 :=
  let arg0 : BitVec 32 := BitVec.ofNat 32 (i 0).val
  let c2_i32_19 : BitVec 32 := 2#32
  let v71 : BitVec 32 := Scalar.muli arg0 c2_i32_19
  let c4096_i32_20 : BitVec 32 := 4096#32
  let v72 : BitVec 32 := Scalar.muli v71 c4096_i32_20
  let arg1 : BitVec 32 := BitVec.ofNat 32 (i 1).val
  let c1024_i32 : BitVec 32 := 1024#32
  let v0 : BitVec 32 := Scalar.muli arg1 c1024_i32
  let v73 : BitVec 32 := Scalar.addi v72 v0
  let v75 : BitVec 32 := Scalar.addi v73 v74
  let c768_i32_21 : BitVec 32 := 768#32
  let v76 : BitVec 32 := Scalar.muli v75 c768_i32_21
  v76

def k0_off8 (i : grid0.Coords) (v74 : BitVec 32) : Fin 1 → Nat :=
  let arg0 : BitVec 32 := BitVec.ofNat 32 (i 0).val
  let c2_i32_19 : BitVec 32 := 2#32
  let v71 : BitVec 32 := Scalar.muli arg0 c2_i32_19
  let c4096_i32_20 : BitVec 32 := 4096#32
  let v72 : BitVec 32 := Scalar.muli v71 c4096_i32_20
  let arg1 : BitVec 32 := BitVec.ofNat 32 (i 1).val
  let c1024_i32 : BitVec 32 := 1024#32
  let v0 : BitVec 32 := Scalar.muli arg1 c1024_i32
  let v73 : BitVec 32 := Scalar.addi v72 v0
  let v75 : BitVec 32 := Scalar.addi v73 v74
  let c768_i32_21 : BitVec 32 := 768#32
  let v76 : BitVec 32 := Scalar.muli v75 c768_i32_21
  let v77 : BitVec 32 := v76
  ![v77.toNat]

def k0_chk8 (i : grid0.Coords) (v74 : BitVec 32) : Prop :=
  (768 ∣ (k0_mult8 i v74).toNat) ∧
  (∀ a, (k0_off8 i v74) a + S786432.size a ≤ S25165824.size a)
theorem k0_mult8_dvd : ∀ (i : grid0.Coords) (v74 : BitVec 32) (k0_hw8 : k0_chk8 i v74), 768 ∣ (k0_mult8 i v74).toNat := fun i v74 k0_hw8 => k0_hw8.1
theorem k0_off8_inb : ∀ (i : grid0.Coords) (v74 : BitVec 32) (k0_hw8 : k0_chk8 i v74), ∀ a, (k0_off8 i v74) a + S786432.size a ≤ S25165824.size a := fun i v74 k0_hw8 => k0_hw8.2

def k0_off9 (i : grid0.Coords) (v4 : BitVec 32) : Fin 1 → Nat :=
  let arg0 : BitVec 32 := BitVec.ofNat 32 (i 0).val
  let c2_i32 : BitVec 32 := 2#32
  let v1 : BitVec 32 := Scalar.muli arg0 c2_i32
  let c4096_i32 : BitVec 32 := 4096#32
  let v2 : BitVec 32 := Scalar.muli v1 c4096_i32
  let arg1 : BitVec 32 := BitVec.ofNat 32 (i 1).val
  let c1024_i32 : BitVec 32 := 1024#32
  let v0 : BitVec 32 := Scalar.muli arg1 c1024_i32
  let v3 : BitVec 32 := Scalar.addi v2 v0
  let v5 : BitVec 32 := Scalar.addi v3 v4
  let c768_i32 : BitVec 32 := 768#32
  let v6 : BitVec 32 := Scalar.muli v5 c768_i32
  let v7 : BitVec 32 := v6
  ![v7.toNat]

def k0_chk1 (i : grid0.Coords) (v4 : BitVec 32) : Prop :=
  (768 ∣ (k0_mult1 i v4).toNat) ∧
  (∀ a, (k0_off1 i v4) a + S786432.size a ≤ S25165824.size a) ∧
  (∀ a, (k0_off9 i v4) a + S786432.size a ≤ S25165824.size a)
theorem k0_mult1_dvd : ∀ (i : grid0.Coords) (v4 : BitVec 32) (k0_hw1 : k0_chk1 i v4), 768 ∣ (k0_mult1 i v4).toNat := fun i v4 k0_hw1 => k0_hw1.1
theorem k0_off1_inb : ∀ (i : grid0.Coords) (v4 : BitVec 32) (k0_hw1 : k0_chk1 i v4), ∀ a, (k0_off1 i v4) a + S786432.size a ≤ S25165824.size a := fun i v4 k0_hw1 => k0_hw1.2.1
theorem k0_off9_inb : ∀ (i : grid0.Coords) (v4 : BitVec 32) (k0_hw1 : k0_chk1 i v4), ∀ a, (k0_off9 i v4) a + S786432.size a ≤ S25165824.size a := fun i v4 k0_hw1 => k0_hw1.2.2

def k0_off10 (i : grid0.Coords) : Fin 2 → Nat :=
  let arg0 : BitVec 32 := BitVec.ofNat 32 (i 0).val
  let v84 : Index := Scalar.indexCast arg0
  let c0_23 : Index := 0#32
  ![v84.toNat, 0]
def k0_off11 (i : grid0.Coords) (v14 : BitVec 32) : Fin 1 → Nat :=
  let arg0 : BitVec 32 := BitVec.ofNat 32 (i 0).val
  let c2_i32_0 : BitVec 32 := 2#32
  let v11 : BitVec 32 := Scalar.muli arg0 c2_i32_0
  let c4096_i32_1 : BitVec 32 := 4096#32
  let v12 : BitVec 32 := Scalar.muli v11 c4096_i32_1
  let arg1 : BitVec 32 := BitVec.ofNat 32 (i 1).val
  let c1024_i32 : BitVec 32 := 1024#32
  let v0 : BitVec 32 := Scalar.muli arg1 c1024_i32
  let v13 : BitVec 32 := Scalar.addi v12 v0
  let v15 : BitVec 32 := Scalar.addi v13 v14
  let c768_i32_2 : BitVec 32 := 768#32
  let v16 : BitVec 32 := Scalar.muli v15 c768_i32_2
  let v17 : BitVec 32 := v16
  ![v17.toNat]

def k0_chk2 (i : grid0.Coords) (v14 : BitVec 32) : Prop :=
  (768 ∣ (k0_mult2 i v14).toNat) ∧
  (∀ a, (k0_off2 i v14) a + S786432.size a ≤ S25165824.size a) ∧
  (∀ a, (k0_off11 i v14) a + S786432.size a ≤ S25165824.size a)
theorem k0_mult2_dvd : ∀ (i : grid0.Coords) (v14 : BitVec 32) (k0_hw2 : k0_chk2 i v14), 768 ∣ (k0_mult2 i v14).toNat := fun i v14 k0_hw2 => k0_hw2.1
theorem k0_off2_inb : ∀ (i : grid0.Coords) (v14 : BitVec 32) (k0_hw2 : k0_chk2 i v14), ∀ a, (k0_off2 i v14) a + S786432.size a ≤ S25165824.size a := fun i v14 k0_hw2 => k0_hw2.2.1
theorem k0_off11_inb : ∀ (i : grid0.Coords) (v14 : BitVec 32) (k0_hw2 : k0_chk2 i v14), ∀ a, (k0_off11 i v14) a + S786432.size a ≤ S25165824.size a := fun i v14 k0_hw2 => k0_hw2.2.2

def k0_off12 (i : grid0.Coords) : Fin 2 → Nat :=
  let arg0 : BitVec 32 := BitVec.ofNat 32 (i 0).val
  let v92 : Index := Scalar.indexCast arg0
  let c1_26 : Index := 1#32
  ![v92.toNat, 1]
def k0_off13 (i : grid0.Coords) (v24 : BitVec 32) : Fin 1 → Nat :=
  let arg0 : BitVec 32 := BitVec.ofNat 32 (i 0).val
  let c2_i32_3 : BitVec 32 := 2#32
  let v21 : BitVec 32 := Scalar.muli arg0 c2_i32_3
  let c4096_i32_4 : BitVec 32 := 4096#32
  let v22 : BitVec 32 := Scalar.muli v21 c4096_i32_4
  let arg1 : BitVec 32 := BitVec.ofNat 32 (i 1).val
  let c1024_i32 : BitVec 32 := 1024#32
  let v0 : BitVec 32 := Scalar.muli arg1 c1024_i32
  let v23 : BitVec 32 := Scalar.addi v22 v0
  let v25 : BitVec 32 := Scalar.addi v23 v24
  let c768_i32_5 : BitVec 32 := 768#32
  let v26 : BitVec 32 := Scalar.muli v25 c768_i32_5
  let v27 : BitVec 32 := v26
  ![v27.toNat]

def k0_chk3 (i : grid0.Coords) (v24 : BitVec 32) : Prop :=
  (768 ∣ (k0_mult3 i v24).toNat) ∧
  (∀ a, (k0_off3 i v24) a + S786432.size a ≤ S25165824.size a) ∧
  (∀ a, (k0_off13 i v24) a + S786432.size a ≤ S25165824.size a)
theorem k0_mult3_dvd : ∀ (i : grid0.Coords) (v24 : BitVec 32) (k0_hw3 : k0_chk3 i v24), 768 ∣ (k0_mult3 i v24).toNat := fun i v24 k0_hw3 => k0_hw3.1
theorem k0_off3_inb : ∀ (i : grid0.Coords) (v24 : BitVec 32) (k0_hw3 : k0_chk3 i v24), ∀ a, (k0_off3 i v24) a + S786432.size a ≤ S25165824.size a := fun i v24 k0_hw3 => k0_hw3.2.1
theorem k0_off13_inb : ∀ (i : grid0.Coords) (v24 : BitVec 32) (k0_hw3 : k0_chk3 i v24), ∀ a, (k0_off13 i v24) a + S786432.size a ≤ S25165824.size a := fun i v24 k0_hw3 => k0_hw3.2.2

def k0_off14 (i : grid0.Coords) : Fin 2 → Nat :=
  let arg0 : BitVec 32 := BitVec.ofNat 32 (i 0).val
  let v101 : Index := Scalar.indexCast arg0
  let c2_29 : Index := 2#32
  ![v101.toNat, 2]
def k0_off15 (i : grid0.Coords) (v34 : BitVec 32) : Fin 1 → Nat :=
  let arg0 : BitVec 32 := BitVec.ofNat 32 (i 0).val
  let c2_i32_7 : BitVec 32 := 2#32
  let v31 : BitVec 32 := Scalar.muli arg0 c2_i32_7
  let c4096_i32_8 : BitVec 32 := 4096#32
  let v32 : BitVec 32 := Scalar.muli v31 c4096_i32_8
  let arg1 : BitVec 32 := BitVec.ofNat 32 (i 1).val
  let c1024_i32 : BitVec 32 := 1024#32
  let v0 : BitVec 32 := Scalar.muli arg1 c1024_i32
  let v33 : BitVec 32 := Scalar.addi v32 v0
  let v35 : BitVec 32 := Scalar.addi v33 v34
  let c768_i32_9 : BitVec 32 := 768#32
  let v36 : BitVec 32 := Scalar.muli v35 c768_i32_9
  let v37 : BitVec 32 := v36
  ![v37.toNat]

def k0_chk4 (i : grid0.Coords) (v34 : BitVec 32) : Prop :=
  (768 ∣ (k0_mult4 i v34).toNat) ∧
  (∀ a, (k0_off4 i v34) a + S786432.size a ≤ S25165824.size a) ∧
  (∀ a, (k0_off15 i v34) a + S786432.size a ≤ S25165824.size a)
theorem k0_mult4_dvd : ∀ (i : grid0.Coords) (v34 : BitVec 32) (k0_hw4 : k0_chk4 i v34), 768 ∣ (k0_mult4 i v34).toNat := fun i v34 k0_hw4 => k0_hw4.1
theorem k0_off4_inb : ∀ (i : grid0.Coords) (v34 : BitVec 32) (k0_hw4 : k0_chk4 i v34), ∀ a, (k0_off4 i v34) a + S786432.size a ≤ S25165824.size a := fun i v34 k0_hw4 => k0_hw4.2.1
theorem k0_off15_inb : ∀ (i : grid0.Coords) (v34 : BitVec 32) (k0_hw4 : k0_chk4 i v34), ∀ a, (k0_off15 i v34) a + S786432.size a ≤ S25165824.size a := fun i v34 k0_hw4 => k0_hw4.2.2

def k0_off16 (i : grid0.Coords) : Fin 2 → Nat :=
  let arg0 : BitVec 32 := BitVec.ofNat 32 (i 0).val
  let v110 : Index := Scalar.indexCast arg0
  let c3_32 : Index := 3#32
  ![v110.toNat, 3]
def k0_off17 (i : grid0.Coords) (v44 : BitVec 32) : Fin 1 → Nat :=
  let arg0 : BitVec 32 := BitVec.ofNat 32 (i 0).val
  let c2_i32_10 : BitVec 32 := 2#32
  let v41 : BitVec 32 := Scalar.muli arg0 c2_i32_10
  let c4096_i32_11 : BitVec 32 := 4096#32
  let v42 : BitVec 32 := Scalar.muli v41 c4096_i32_11
  let arg1 : BitVec 32 := BitVec.ofNat 32 (i 1).val
  let c1024_i32 : BitVec 32 := 1024#32
  let v0 : BitVec 32 := Scalar.muli arg1 c1024_i32
  let v43 : BitVec 32 := Scalar.addi v42 v0
  let v45 : BitVec 32 := Scalar.addi v43 v44
  let c768_i32_12 : BitVec 32 := 768#32
  let v46 : BitVec 32 := Scalar.muli v45 c768_i32_12
  let v47 : BitVec 32 := v46
  ![v47.toNat]

def k0_chk5 (i : grid0.Coords) (v44 : BitVec 32) : Prop :=
  (768 ∣ (k0_mult5 i v44).toNat) ∧
  (∀ a, (k0_off5 i v44) a + S786432.size a ≤ S25165824.size a) ∧
  (∀ a, (k0_off17 i v44) a + S786432.size a ≤ S25165824.size a)
theorem k0_mult5_dvd : ∀ (i : grid0.Coords) (v44 : BitVec 32) (k0_hw5 : k0_chk5 i v44), 768 ∣ (k0_mult5 i v44).toNat := fun i v44 k0_hw5 => k0_hw5.1
theorem k0_off5_inb : ∀ (i : grid0.Coords) (v44 : BitVec 32) (k0_hw5 : k0_chk5 i v44), ∀ a, (k0_off5 i v44) a + S786432.size a ≤ S25165824.size a := fun i v44 k0_hw5 => k0_hw5.2.1
theorem k0_off17_inb : ∀ (i : grid0.Coords) (v44 : BitVec 32) (k0_hw5 : k0_chk5 i v44), ∀ a, (k0_off17 i v44) a + S786432.size a ≤ S25165824.size a := fun i v44 k0_hw5 => k0_hw5.2.2

def k0_off18 (i : grid0.Coords) : Fin 2 → Nat :=
  let arg0 : BitVec 32 := BitVec.ofNat 32 (i 0).val
  let v119 : Index := Scalar.indexCast arg0
  let c4_35 : Index := 4#32
  ![v119.toNat, 4]
def k0_off19 (i : grid0.Coords) (v54 : BitVec 32) : Fin 1 → Nat :=
  let arg0 : BitVec 32 := BitVec.ofNat 32 (i 0).val
  let c2_i32_13 : BitVec 32 := 2#32
  let v51 : BitVec 32 := Scalar.muli arg0 c2_i32_13
  let c4096_i32_14 : BitVec 32 := 4096#32
  let v52 : BitVec 32 := Scalar.muli v51 c4096_i32_14
  let arg1 : BitVec 32 := BitVec.ofNat 32 (i 1).val
  let c1024_i32 : BitVec 32 := 1024#32
  let v0 : BitVec 32 := Scalar.muli arg1 c1024_i32
  let v53 : BitVec 32 := Scalar.addi v52 v0
  let v55 : BitVec 32 := Scalar.addi v53 v54
  let c768_i32_15 : BitVec 32 := 768#32
  let v56 : BitVec 32 := Scalar.muli v55 c768_i32_15
  let v57 : BitVec 32 := v56
  ![v57.toNat]

def k0_chk6 (i : grid0.Coords) (v54 : BitVec 32) : Prop :=
  (768 ∣ (k0_mult6 i v54).toNat) ∧
  (∀ a, (k0_off6 i v54) a + S786432.size a ≤ S25165824.size a) ∧
  (∀ a, (k0_off19 i v54) a + S786432.size a ≤ S25165824.size a)
theorem k0_mult6_dvd : ∀ (i : grid0.Coords) (v54 : BitVec 32) (k0_hw6 : k0_chk6 i v54), 768 ∣ (k0_mult6 i v54).toNat := fun i v54 k0_hw6 => k0_hw6.1
theorem k0_off6_inb : ∀ (i : grid0.Coords) (v54 : BitVec 32) (k0_hw6 : k0_chk6 i v54), ∀ a, (k0_off6 i v54) a + S786432.size a ≤ S25165824.size a := fun i v54 k0_hw6 => k0_hw6.2.1
theorem k0_off19_inb : ∀ (i : grid0.Coords) (v54 : BitVec 32) (k0_hw6 : k0_chk6 i v54), ∀ a, (k0_off19 i v54) a + S786432.size a ≤ S25165824.size a := fun i v54 k0_hw6 => k0_hw6.2.2

def k0_off20 (i : grid0.Coords) : Fin 2 → Nat :=
  let arg0 : BitVec 32 := BitVec.ofNat 32 (i 0).val
  let v128 : Index := Scalar.indexCast arg0
  let c5_38 : Index := 5#32
  ![v128.toNat, 5]
def k0_off21 (i : grid0.Coords) (v64 : BitVec 32) : Fin 1 → Nat :=
  let arg0 : BitVec 32 := BitVec.ofNat 32 (i 0).val
  let c2_i32_16 : BitVec 32 := 2#32
  let v61 : BitVec 32 := Scalar.muli arg0 c2_i32_16
  let c4096_i32_17 : BitVec 32 := 4096#32
  let v62 : BitVec 32 := Scalar.muli v61 c4096_i32_17
  let arg1 : BitVec 32 := BitVec.ofNat 32 (i 1).val
  let c1024_i32 : BitVec 32 := 1024#32
  let v0 : BitVec 32 := Scalar.muli arg1 c1024_i32
  let v63 : BitVec 32 := Scalar.addi v62 v0
  let v65 : BitVec 32 := Scalar.addi v63 v64
  let c768_i32_18 : BitVec 32 := 768#32
  let v66 : BitVec 32 := Scalar.muli v65 c768_i32_18
  let v67 : BitVec 32 := v66
  ![v67.toNat]

def k0_chk7 (i : grid0.Coords) (v64 : BitVec 32) : Prop :=
  (768 ∣ (k0_mult7 i v64).toNat) ∧
  (∀ a, (k0_off7 i v64) a + S786432.size a ≤ S25165824.size a) ∧
  (∀ a, (k0_off21 i v64) a + S786432.size a ≤ S25165824.size a)
theorem k0_mult7_dvd : ∀ (i : grid0.Coords) (v64 : BitVec 32) (k0_hw7 : k0_chk7 i v64), 768 ∣ (k0_mult7 i v64).toNat := fun i v64 k0_hw7 => k0_hw7.1
theorem k0_off7_inb : ∀ (i : grid0.Coords) (v64 : BitVec 32) (k0_hw7 : k0_chk7 i v64), ∀ a, (k0_off7 i v64) a + S786432.size a ≤ S25165824.size a := fun i v64 k0_hw7 => k0_hw7.2.1
theorem k0_off21_inb : ∀ (i : grid0.Coords) (v64 : BitVec 32) (k0_hw7 : k0_chk7 i v64), ∀ a, (k0_off21 i v64) a + S786432.size a ≤ S25165824.size a := fun i v64 k0_hw7 => k0_hw7.2.2

def k0_off22 (i : grid0.Coords) : Fin 2 → Nat :=
  let arg0 : BitVec 32 := BitVec.ofNat 32 (i 0).val
  let v137 : Index := Scalar.indexCast arg0
  let c6_41 : Index := 6#32
  ![v137.toNat, 6]
def k0_off23 (i : grid0.Coords) : Fin 2 → Nat :=
  let arg0 : BitVec 32 := BitVec.ofNat 32 (i 0).val
  let v146 : Index := Scalar.indexCast arg0
  let c7_44 : Index := 7#32
  ![v146.toNat, 7]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  ![v1.toNat]

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S786432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGIdeal.lean ====
abbrev S8 : Shape := ⟨1, ![8]⟩
abbrev S4x8 : Shape := ⟨2, ![4, 8]⟩
abbrev S4x2x4096x768 : Shape := ⟨4, ![4, 2, 4096, 768]⟩
abbrev S4x8192x768 : Shape := ⟨3, ![4, 8192, 768]⟩
abbrev S8x1 : Shape := ⟨2, ![8, 1]⟩
abbrev S4096 : Shape := ⟨1, ![4096]⟩
abbrev S1x4096 : Shape := ⟨2, ![1, 4096]⟩
abbrev S8x4096 : Shape := ⟨2, ![8, 4096]⟩
abbrev S_ : Shape := ⟨0, ![]⟩
abbrev S8x4096x1 : Shape := ⟨3, ![8, 4096, 1]⟩
abbrev S1 : Shape := ⟨1, ![1]⟩
abbrev S1x1x1 : Shape := ⟨3, ![1, 1, 1]⟩
abbrev S4x8x4096x768 : Shape := ⟨4, ![4, 8, 4096, 768]⟩
abbrev S4x8x1x1 : Shape := ⟨4, ![4, 8, 1, 1]⟩
abbrev S4x4096x768 : Shape := ⟨3, ![4, 4096, 768]⟩
abbrev S12582912 : Shape := ⟨1, ![12582912]⟩

abbrev nBuf : Space → Nat
  | .hbm => 39
  | .vmem => 0
  | .smem => 0
  | _ => 0

abbrev bufTy : (tb : Table) → Fin (tcTables nBuf tb) → BufTy
  | .hbm, ⟨0, _⟩ => ⟨S8, .i32⟩
  | .hbm, ⟨1, _⟩ => ⟨S4x8, .f32⟩
  | .hbm, ⟨2, _⟩ => ⟨S4x2x4096x768, .f32⟩
  | .hbm, ⟨3, _⟩ => ⟨S4x8192x768, .f32⟩
  | .hbm, ⟨4, _⟩ => ⟨S8x1, .i32⟩
  | .hbm, ⟨5, _⟩ => ⟨S4096, .i32⟩
  | .hbm, ⟨6, _⟩ => ⟨S1x4096, .i32⟩
  | .hbm, ⟨7, _⟩ => ⟨S8x4096, .i32⟩
  | .hbm, ⟨8, _⟩ => ⟨S8x4096, .i32⟩
  | .hbm, ⟨9, _⟩ => ⟨S8x4096, .i32⟩
  | .hbm, ⟨10, _⟩ => ⟨S_, .i32⟩
  | .hbm, ⟨11, _⟩ => ⟨S8x4096, .i32⟩
  | .hbm, ⟨12, _⟩ => ⟨S8x4096, .i1⟩
  | .hbm, ⟨13, _⟩ => ⟨S_, .i32⟩
  | .hbm, ⟨14, _⟩ => ⟨S8x4096, .i32⟩
  | .hbm, ⟨15, _⟩ => ⟨S8x4096, .i32⟩
  | .hbm, ⟨16, _⟩ => ⟨S8x4096, .i32⟩
  | .hbm, ⟨17, _⟩ => ⟨S8x4096x1, .i32⟩
  | .hbm, ⟨18, _⟩ => ⟨S1, .i32⟩
  | .hbm, ⟨19, _⟩ => ⟨S_, .i32⟩
  | .hbm, ⟨20, _⟩ => ⟨S8x4096x1, .i32⟩
  | .hbm, ⟨21, _⟩ => ⟨S8x4096x1, .i1⟩
  | .hbm, ⟨22, _⟩ => ⟨S1x1x1, .i32⟩
  | .hbm, ⟨23, _⟩ => ⟨S8x4096x1, .i32⟩
  | .hbm, ⟨24, _⟩ => ⟨S8x4096x1, .i1⟩
  | .hbm, ⟨25, _⟩ => ⟨S8x4096x1, .i1⟩
  | .hbm, ⟨26, _⟩ => ⟨S_, .i1⟩
  | .hbm, ⟨27, _⟩ => ⟨S8x4096, .i1⟩
  | .hbm, ⟨28, _⟩ => ⟨S4x8x4096x768, .f32⟩
  | .hbm, ⟨29, _⟩ => ⟨S4x8x4096x768, .i1⟩
  | .hbm, ⟨30, _⟩ => ⟨S_, .f32⟩
  | .hbm, ⟨31, _⟩ => ⟨S4x8x4096x768, .f32⟩
  | .hbm, ⟨32, _⟩ => ⟨S4x8x4096x768, .f32⟩
  | .hbm, ⟨33, _⟩ => ⟨S4x8x1x1, .f32⟩
  | .hbm, ⟨34, _⟩ => ⟨S4x8x4096x768, .f32⟩
  | .hbm, ⟨35, _⟩ => ⟨S4x8x4096x768, .f32⟩
  | .hbm, ⟨36, _⟩ => ⟨S_, .f32⟩
  | .hbm, ⟨37, _⟩ => ⟨S4x4096x768, .f32⟩
  | .hbm, ⟨38, _⟩ => ⟨S12582912, .f32⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩

abbrev nD : Nat := 1
abbrev τ : Topo := Topo.v7x

variable {F : FTy → Type} [FloatOps F]
-- ==== Proof.PayA.lean ====
/- The values the kernel's four bodies store, read at an index: finite sums over the coordinates of their blocks. -/
module

public import proofs.«01_k».proof.Proof.Gen.KernelIdeal.Skeleton
public import Idealize.ShloMosaic.Lib.Pointwise

@[expose] public section

set_option maxRecDepth 16384

noncomputable section

namespace Cert.Pay

open Idealize.ShloMosaic Cert.KernelIdeal Cert.KernelIdeal.Gen

/-! ## The projections -/

section proj

variable (x : Vec Ideal S1x512x768 .f32) (w w' : Vec Ideal S768x768 .f32)

theorem proj_q (b : Vec Ideal S1x768 .f32) (l : Fin 512) (d : Fin 768) :
    k0_pay6 b x w (ix3 0 l d) = (∑ j : Fin 768, x (ix3 0 l j) * w (ix2 j d)) + b (ix2 0 d) := by
  unfold_payloads
  pointwise

theorem proj_k (b : Vec Ideal S1x768 .f32) (l : Fin 512) (d : Fin 768) :
    k0_pay7 b x w (ix3 0 l d) = (∑ j : Fin 768, x (ix3 0 l j) * w (ix2 j d)) + b (ix2 0 d) := by
  unfold_payloads
  pointwise

theorem proj_v0 (b b' : FVec Ideal S768 .f32) (l : Fin 512) (d : Fin 768) :
    k0_pay2 b b' x w w' (ix4 0 0 l d)
      = (∑ e : Fin 768, ((∑ j : Fin 768, x (ix3 0 l j) * w (ix2 j e)) + b (ix1 e)) * w' (ix2 e d)) + b' (ix1 d) := by
  unfold_payloads
  pointwise

theorem proj_v1 (b b' : FVec Ideal S768 .f32) (l : Fin 512) (d : Fin 768) :
    k0_pay3 b b' x w w' (ix4 0 0 l d)
      = (∑ e : Fin 768, ((∑ j : Fin 768, x (ix3 0 l j) * w (ix2 j e)) + b (ix1 e)) * w' (ix2 e d)) + b' (ix1 d) := by
  unfold_payloads
  pointwise

end proj

/-! ## The first 64-point transform and the twiddle -/

section f1

variable (fr fi : Vec Ideal S64x64 .f32) (tr ti : Vec Ideal S64x6144 .f32) (x : Vec Ideal S1x64x6144 .f32)

/-- The twiddled transform's real and imaginary part at a coordinate. -/
def f1r (k : Fin 64) (n : Fin 6144) : EReal :=
  (∑ j : Fin 64, fr (ix2 k j) * x (ix3 0 j n)) * tr (ix2 k n) - (∑ j : Fin 64, fi (ix2 k j) * x (ix3 0 j n)) * ti (ix2 k n)
def f1i (k : Fin 64) (n : Fin 6144) : EReal :=
  (∑ j : Fin 64, fr (ix2 k j) * x (ix3 0 j n)) * ti (ix2 k n) + (∑ j : Fin 64, fi (ix2 k j) * x (ix3 0 j n)) * tr (ix2 k n)

theorem f1_qr (k : Fin 64) (n : Fin 6144) : k1_pay10 fr fi tr ti x (ix3 0 k n) = f1r fr fi tr ti x k n := by
  unfold f1r
  unfold_payloads
  pointwise

theorem f1_qi (k : Fin 64) (n : Fin 6144) : k1_pay11 fr fi tr ti x (ix3 0 k n) = f1i fr fi tr ti x k n := by
  unfold f1i
  unfold_payloads
  pointwise

theorem f1_kr (k : Fin 64) (n : Fin 6144) : k1_pay1 (k1_pay15 fr fi tr ti x) (ix3 0 k n) = f1r fr fi tr ti x k n := by
  unfold f1r
  unfold_payloads
  pointwise

theorem f1_ki (k : Fin 64) (n : Fin 6144) :
    k1_pay2 (k1_pay5 tr) (k1_pay14 fi x) (k1_pay16 fr ti x) (ix3 0 k n) = f1i fr fi tr ti x k n := by
  unfold f1i
  unfold_payloads
  pointwise

end f1

/-! ## The last transform -/

section f3

variable (fr fi : Vec Ideal S64x64 .f32) (tr ti : Vec Ideal S64x6144 .f32) (er ei : Vec Ideal S1x64x6144 .f32)
  (jo : Vec Ideal S6144x64 .f32)

def f3 (m : Fin 64) (n : Fin 6144) : EReal :=
  ((∑ k : Fin 64, fr (ix2 m k) * (er (ix3 0 k n) * tr (ix2 k n) + ei (ix3 0 k n) * ti (ix2 k n)))
    + (∑ k : Fin 64, fi (ix2 m k) * (ei (ix3 0 k n) * tr (ix2 k n) - er (ix3 0 k n) * ti (ix2 k n))))
    * Ideal.ofBits FTy.f32 964689920#32

theorem f3_corr (m : Fin 64) (n : Fin 6144) : k3_pay3 fr fi tr ti er ei (ix3 0 m n) = f3 fr fi tr ti er ei m n := by
  unfold f3
  unfold_payloads
  pointwise

theorem f3_r (m : Fin 64) (g : Fin 64) :
    k3_pay1 (k3_pay4 fr fi tr ti er ei jo) (ix3 0 m g) = ∑ n : Fin 6144, f3 fr fi tr ti er ei m n * jo (ix2 n g) := by
  unfold f3
  unfold_payloads
  pointwise

end f3

end Cert.Pay

end
-- ==== Proof.Reg0.lean ====
/- What the first call leaves in its three output arrays: the projections of its operands. -/
module

public import proofs.«01_k».proof.Proof.PayA
public import proofs.«01_k».proof.Proof.Gen.KernelIdeal.Frame
public import Idealize.ShloMosaic.Lib.Pipeline.ValueKit

@[expose] public section

set_option maxRecDepth 16384

noncomputable section

namespace Cert.Reg0

open Idealize.ShloMosaic Idealize.ShloMosaic.Pipeline Idealize.ShloMosaic.Thread Cert.KernelIdeal Cert.KernelIdeal.Gen

/-- A product of a stack of rows with a matrix, plus row `i` of a table of biases. -/
def projG (x : FVec Ideal S4x4096x768 .f32) (w : FVec Ideal S768x768 .f32) (b : FVec Ideal S4x768 .f32) (i : Fin 4) :
    FVec Ideal S4x4096x768 .f32 :=
  fun y => (∑ j : Fin 768, x (ix3 (y 0) (y 1) j) * w (ix2 j (y 2))) + b (ix2 i (y 2))

theorem idx : ∀ t : Fin grid0.N,
    win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![0, 0] ∧ win0_4.index t = ![0, 0] ∧ win0_5.index t = ![0, 0] ∧ win0_6.index t = ![0, 0] ∧ win0_7.index t = ![0, 0]
    ∧ win0_8.index t = ![(grid0.coords t 0).val, (grid0.coords t 1).val, 0]
    ∧ win0_9.index t = ![(grid0.coords t 0).val, (grid0.coords t 1).val, 0]
    ∧ win0_10.index t = ![(grid0.coords t 0).val, 0, (grid0.coords t 1).val, 0] := by
  decide +kernel

theorem q_fin (x7 : Vec Ideal S4x768 .f32) (x : Vec Ideal S1x512x768 .f32) (w : Vec Ideal S768x768 .f32)
    (X : FVec Ideal S4x4096x768 .f32) (W : FVec Ideal S768x768 .f32) (B : FVec Ideal S4x768 .f32)
    (l : Fin 512) (d : Fin 768) (b : Fin 4) (r : Fin 4096)
    (hx : ∀ j, x (ix3 0 l j) = X (ix3 b r j)) (hw : ∀ j d, w (ix2 j d) = W (ix2 j d)) (h7 : ∀ i d, x7 (ix2 i d) = B (ix2 i d)) :
    k0_pay6 (View.ld x7 r0_0) x w (ix3 0 l d) = projG X W B 0 (ix3 b r d) := by
  rw [Pay.proj_q]
  show _ = (∑ j : Fin 768, X (ix3 b r j) * W (ix2 j d)) + B (ix2 0 d)
  rw [← h7 0 d]
  simp only [hx, hw]
  pointwise

theorem k_fin (x7 : Vec Ideal S4x768 .f32) (x : Vec Ideal S1x512x768 .f32) (w : Vec Ideal S768x768 .f32)
    (X : FVec Ideal S4x4096x768 .f32) (W : FVec Ideal S768x768 .f32) (B : FVec Ideal S4x768 .f32)
    (l : Fin 512) (d : Fin 768) (b : Fin 4) (r : Fin 4096)
    (hx : ∀ j, x (ix3 0 l j) = X (ix3 b r j)) (hw : ∀ j d, w (ix2 j d) = W (ix2 j d)) (h7 : ∀ i d, x7 (ix2 i d) = B (ix2 i d)) :
    k0_pay7 (View.ld x7 r0_1) x w (ix3 0 l d) = projG X W B 1 (ix3 b r d) := by
  rw [Pay.proj_k]
  show _ = (∑ j : Fin 768, X (ix3 b r j) * W (ix2 j d)) + B (ix2 1 d)
  rw [← h7 1 d]
  simp only [hx, hw]
  pointwise

/-- Two products in a row with their biases, the same in both layers. -/
def vopG (x : FVec Ideal S4x4096x768 .f32) (w w' : FVec Ideal S768x768 .f32) (b : FVec Ideal S4x768 .f32) :
    FVec Ideal S4x2x4096x768 .f32 :=
  fun y => (∑ e : Fin 768, ((∑ j : Fin 768, x (ix3 (y 0) (y 2) j) * w (ix2 j e)) + b (ix2 2 e)) * w' (ix2 e (y 3))) + b (ix2 3 (y 3))

theorem bias2 (x0 x1 x2 : Vec Ideal S1x512x768 .f32) (x3 x4 x5 x6 : Vec Ideal S768x768 .f32) (x7 : Vec Ideal S4x768 .f32) (d : Fin 768) :
    k0_pay8 x0 x1 x2 x3 x4 x5 x6 x7 (ix1 d) = x7 (ix2 2 d) := by
  unfold_payloads
  pointwise

theorem bias3 (x0 x1 x2 : Vec Ideal S1x512x768 .f32) (x3 x4 x5 x6 : Vec Ideal S768x768 .f32) (x7 : Vec Ideal S4x768 .f32) (d : Fin 768) :
    k0_pay9 x0 x1 x2 x3 x4 x5 x6 x7 (ix1 d) = x7 (ix2 3 d) := by
  unfold_payloads
  pointwise

theorem vop_fin (x0 x1 x2 : Vec Ideal S1x512x768 .f32) (x3 x4 x5 x6 : Vec Ideal S768x768 .f32) (x7 : Vec Ideal S4x768 .f32)
    (X : FVec Ideal S4x4096x768 .f32) (W W' : FVec Ideal S768x768 .f32) (B : FVec Ideal S4x768 .f32)
    (s : Fin 2) (l : Fin 512) (d : Fin 768) (b : Fin 4) (r : Fin 4096)
    (hx : ∀ j, x2 (ix3 0 l j) = X (ix3 b r j)) (hw : ∀ j d, x5 (ix2 j d) = W (ix2 j d)) (hw' : ∀ j d, x6 (ix2 j d) = W' (ix2 j d))
    (h7 : ∀ i d, x7 (ix2 i d) = B (ix2 i d)) :
    (View.canon [(⟨r0_7, k0_pay3 (k0_pay8 x0 x1 x2 x3 x4 x5 x6 x7) (k0_pay9 x0 x1 x2 x3 x4 x5 x6 x7) x2 x5 x6⟩ : View.Piece (Elt Ideal) S1x2x512x768 .f32),
      ⟨r0_6, k0_pay2 (k0_pay8 x0 x1 x2 x3 x4 x5 x6 x7) (k0_pay9 x0 x1 x2 x3 x4 x5 x6 x7) x2 x5 x6⟩] : Vec Ideal S1x2x512x768 .f32) (ix4 0 s l d)
      = vopG X W W' B (ix4 b s r d) := by
  let G : Vec Ideal S1x2x512x768 .f32 :=
    fun y => (∑ e : Fin 768, ((∑ j : Fin 768, x2 (ix3 0 (y 2) j) * x5 (ix2 j e)) + x7 (ix2 2 e)) * x6 (ix2 e (y 3))) + x7 (ix2 3 (y 3))
  have hG := View.canon_apply_of_pieces G
    [⟨r0_7, k0_pay3 (k0_pay8 x0 x1 x2 x3 x4 x5 x6 x7) (k0_pay9 x0 x1 x2 x3 x4 x5 x6 x7) x2 x5 x6⟩,
      ⟨r0_6, k0_pay2 (k0_pay8 x0 x1 x2 x3 x4 x5 x6 x7) (k0_pay9 x0 x1 x2 x3 x4 x5 x6 x7) x2 x5 x6⟩]
    (by
      intro p hp x
      simp only [List.mem_cons, List.not_mem_nil, or_false] at hp
      rcases hp with rfl | rfl
      · obtain ⟨y0, y1, y2, y3, rfl⟩ : ∃ (y0 : Fin 1) (y1 : Fin 1) (y2 : Fin 512) (y3 : Fin 768), x = ix4 y0 y1 y2 y3 := ⟨x 0, x 1, x 2, x 3, by funext i; fin_cases i <;> rfl⟩
        obtain rfl : y0 = 0 := Subsingleton.elim _ _
        obtain rfl : y1 = 0 := Subsingleton.elim _ _
        have he : (r0_7.emb (ix4 0 0 y2 y3) : S1x2x512x768.Idx) = ix4 0 1 y2 y3 := by blk_ext
        refine Eq.trans ?_ (congrArg G he).symm
        refine (Pay.proj_v1 _ _ _ _ _ _ _).trans ?_
        simp only [bias2, bias3]
        rfl
      · obtain ⟨y0, y1, y2, y3, rfl⟩ : ∃ (y0 : Fin 1) (y1 : Fin 1) (y2 : Fin 512) (y3 : Fin 768), x = ix4 y0 y1 y2 y3 := ⟨x 0, x 1, x 2, x 3, by funext i; fin_cases i <;> rfl⟩
        obtain rfl : y0 = 0 := Subsingleton.elim _ _
        obtain rfl : y1 = 0 := Subsingleton.elim _ _
        have he : (r0_6.emb (ix4 0 0 y2 y3) : S1x2x512x768.Idx) = ix4 0 0 y2 y3 := by blk_ext
        refine Eq.trans ?_ (congrArg G he).symm
        refine (Pay.proj_v0 _ _ _ _ _ _ _).trans ?_
        simp only [bias2, bias3]
        rfl) (ix4 0 s l d) (cover0_10 _ _ _)
  rw [hG]
  show _ = (∑ e : Fin 768, ((∑ j : Fin 768, X (ix3 b r j) * W (ix2 j e)) + B (ix2 2 e)) * W' (ix2 e d)) + B (ix2 3 d)
  simp only [← hx, ← hw, ← hw', ← h7]
  rfl

variable (V : (c : Dev nD) → (b : Ref sig .tc) → Buf (Elt Ideal) ((c.tc : Thread nD τ).loc b)) (c : Dev nD)

theorem exB (t : Fin cfg0.N) : ∃ b : Fin 4, b.val = (grid0.coords t 0).val := ⟨grid0.coords t 0, rfl⟩

theorem exR (t : Fin cfg0.N) (l : Fin 512) : ∃ r : Fin 4096, r.val = (grid0.coords t 1).val * 512 + l.val :=
  ⟨⟨(grid0.coords t 1).val * 512 + l.val, by have h : (grid0.coords t 1).val < 8 := (grid0.coords t 1).isLt; have := l.isLt; omega⟩, rfl⟩

section reads

variable (t : Fin cfg0.N) (l : Fin 512) (j d : Fin 768) (b : Fin 4) (r : Fin 4096)
  (hb : b.val = (grid0.coords t 0).val) (hr : r.val = (grid0.coords t 1).val * 512 + l.val)

include hb hr in
theorem rd0 : iblk0 V c 0 t (ix3 0 l j) = V c main_arg0 (ix3 b r j) := by
  have e := (idx t).1
  blk_ext [iblk0, e, hb, hr]

include hb hr in
theorem rd1 : iblk0 V c 1 t (ix3 0 l j) = V c main_arg1 (ix3 b r j) := by
  have e := (idx t).2.1
  blk_ext [iblk0, e, hb, hr]

include hb hr in
theorem rd2 : iblk0 V c 2 t (ix3 0 l j) = V c main_arg2 (ix3 b r j) := by
  have e := (idx t).2.2.1
  blk_ext [iblk0, e, hb, hr]

theorem rd3 : iblk0 V c 3 t (ix2 j d) = V c main_v47 (ix2 j d) := by
  have e := (idx t).2.2.2.1
  blk_ext [iblk0, e]

theorem rd4 : iblk0 V c 4 t (ix2 j d) = V c main_v48 (ix2 j d) := by
  have e := (idx t).2.2.2.2.1
  blk_ext [iblk0, e]

theorem rd5 : iblk0 V c 5 t (ix2 j d) = V c main_v49 (ix2 j d) := by
  have e := (idx t).2.2.2.2.2.1
  blk_ext [iblk0, e]

theorem rd6 : iblk0 V c 6 t (ix2 j d) = V c main_v50 (ix2 j d) := by
  have e := (idx t).2.2.2.2.2.2.1
  blk_ext [iblk0, e]

theorem rd7 (i : Fin 4) : iblk0 V c 7 t (ix2 i d) = V c main_v55 (ix2 i d) := by
  have e := (idx t).2.2.2.2.2.2.2.1
  blk_ext [iblk0, e]

include hb hr in
theorem em8 : ((View.whole main_v56_0).slice (win0_8.rect t)).emb (ix3 0 l d) = ix3 b r d := by
  have e := (idx t).2.2.2.2.2.2.2.2.1
  blk_ext [e, hb, hr]

include hb hr in
theorem em9 : ((View.whole main_v56_1).slice (win0_9.rect t)).emb (ix3 0 l d) = ix3 b r d := by
  have e := (idx t).2.2.2.2.2.2.2.2.2.1
  blk_ext [e, hb, hr]

include hb hr in
theorem em10 (s : Fin 2) : ((View.whole main_v56_2).slice (win0_10.rect t)).emb (ix4 0 s l d) = ix4 b s r d := by
  have e := (idx t).2.2.2.2.2.2.2.2.2.2
  blk_ext [e, hb, hr]

end reads

theorem q_arr : (dat0 V c).arrAt 8 cfg0.N = projG (V c main_arg0) (V c main_v47) (V c main_v55) 0 := by
  refine (dat0 V c).arrAt_eq_of_covers 8 _ (by decide +kernel) fun t hf y => ?_
  blk_simp
  rw [after0_8]
  frame_out
  idx_vars y
  obtain rfl : y0 = 0 := Subsingleton.elim _ _
  obtain ⟨b, hb⟩ := exB t
  obtain ⟨r, hr⟩ := exR t y1
  rw [em8 t y1 y2 b r hb hr]
  exact q_fin _ _ _ _ _ _ y1 y2 b r (fun j => rd0 V c t y1 j b r hb hr) (rd3 V c t) (fun i d => rd7 V c t d i)

theorem k_arr : (dat0 V c).arrAt 9 cfg0.N = projG (V c main_arg1) (V c main_v48) (V c main_v55) 1 := by
  refine (dat0 V c).arrAt_eq_of_covers 9 _ (by decide +kernel) fun t hf y => ?_
  blk_simp
  rw [after0_9]
  frame_out
  idx_vars y
  obtain rfl : y0 = 0 := Subsingleton.elim _ _
  obtain ⟨b, hb⟩ := exB t
  obtain ⟨r, hr⟩ := exR t y1
  rw [em9 t y1 y2 b r hb hr]
  exact k_fin _ _ _ _ _ _ y1 y2 b r (fun j => rd1 V c t y1 j b r hb hr) (rd4 V c t) (fun i d => rd7 V c t d i)

theorem vop_arr : (dat0 V c).arrAt 10 cfg0.N = vopG (V c main_arg2) (V c main_v49) (V c main_v50) (V c main_v55) := by
  refine (dat0 V c).arrAt_eq_of_covers 10 _ (by decide +kernel) fun t hf y => ?_
  blk_simp
  rw [after0_10]
  frame_out
  idx_vars y
  obtain rfl : y0 = 0 := Subsingleton.elim _ _
  obtain ⟨b, hb⟩ := exB t
  obtain ⟨r, hr⟩ := exR t y2
  rw [em10 t y2 y3 b r hb hr y1]
  exact vop_fin _ _ _ _ _ _ _ _ _ _ _ _ y1 y2 y3 b r (fun j => rd2 V c t y2 j b r hb hr) (rd5 V c t) (rd6 V c t) (fun i d => rd7 V c t d i)

end Cert.Reg0

end
-- ==== Proof.Fourier.lean ====
/- The factorisation of the discrete Fourier transform of length 4096 = 64 · 64 that the kernel's three transform
   calls carry out, over the real numbers: no program is mentioned here. -/
module

public import Mathlib.Analysis.SpecialFunctions.Trigonometric.Basic
public import Mathlib.Data.Complex.BigOperators
public import Mathlib.Algebra.BigOperators.Fin
public import Mathlib.Logic.Equiv.Fin.Basic
public import Mathlib.Tactic.Ring

@[expose] public section

noncomputable section

namespace Cert.Fourier

open Complex Finset

/-- The `n`-th power of the primitive root `exp (-2πi/4096)`. -/
def root (n : ℕ) : ℂ := Complex.exp (((-(n * (Real.pi / 2048)) : ℝ) : ℂ) * I)

theorem root_re (n : ℕ) : (root n).re = Real.cos (n * (Real.pi / 2048)) := by
  rw [root, Complex.exp_ofReal_mul_I_re, Real.cos_neg]

theorem root_im (n : ℕ) : (root n).im = -Real.sin (n * (Real.pi / 2048)) := by
  rw [root, Complex.exp_ofReal_mul_I_im, Real.sin_neg]

theorem root_add (a b : ℕ) : root (a + b) = root a * root b := by
  rw [root, root, root, ← Complex.exp_add]
  congr 1
  push_cast
  ring

theorem root_period (a : ℕ) : root (4096 * a) = 1 := by
  have h : ((4096 * a : ℕ) : ℝ) * (Real.pi / 2048) = (a : ℝ) * (2 * Real.pi) := by push_cast; ring
  apply Complex.ext
  · rw [root_re, h, Real.cos_nat_mul_two_pi, Complex.one_re]
  · rw [root_im, h, ← mul_assoc, show (a : ℝ) * 2 = ((a * 2 : ℕ) : ℝ) by push_cast; ring, Real.sin_nat_mul_pi, neg_zero,
      Complex.one_im]

theorem root_mod (a : ℕ) : root (a % 4096) = root a := by
  conv_rhs => rw [← Nat.div_add_mod a 4096, root_add, root_period, one_mul]

/-- The 64-point table's real and imaginary part. -/
def fr (j k : Fin 64) : ℝ := Real.cos (((j : ℕ) * (k : ℕ) : ℕ) * (Real.pi / 32))
def fi (j k : Fin 64) : ℝ := -Real.sin (((j : ℕ) * (k : ℕ) : ℕ) * (Real.pi / 32))
/-- The twiddle table's real and imaginary part. -/
def tr (j k : Fin 64) : ℝ := Real.cos (((j : ℕ) * (k : ℕ) : ℕ) * (Real.pi / 2048))
def ti (j k : Fin 64) : ℝ := -Real.sin (((j : ℕ) * (k : ℕ) : ℕ) * (Real.pi / 2048))
/-- The full-length table, its exponent reduced. -/
def cosT (k n : Fin 4096) : ℝ := Real.cos (((k : ℕ) * (n : ℕ) % 4096 : ℕ) * (Real.pi / 2048))
def sinT (k n : Fin 4096) : ℝ := Real.sin (((k : ℕ) * (n : ℕ) % 4096 : ℕ) * (Real.pi / 2048))

theorem table (j k : Fin 64) : (⟨fr j k, fi j k⟩ : ℂ) = root (64 * ((j : ℕ) * k)) := by
  have h : ((64 * ((j : ℕ) * (k : ℕ)) : ℕ) : ℝ) * (Real.pi / 2048) = (((j : ℕ) * (k : ℕ) : ℕ) : ℝ) * (Real.pi / 32) := by
    push_cast; ring
  apply Complex.ext
  · rw [root_re, h, fr]
  · rw [root_im, h, fi]

theorem twiddle (j k : Fin 64) : (⟨tr j k, ti j k⟩ : ℂ) = root ((j : ℕ) * k) := by
  apply Complex.ext
  · rw [root_re, tr]
  · rw [root_im, ti]

theorem full (k n : Fin 4096) : (⟨cosT k n, -sinT k n⟩ : ℂ) = root ((k : ℕ) * n) := by
  rw [← root_mod]
  apply Complex.ext
  · rw [root_re, cosT]
  · rw [root_im, sinT]

/-- Position `64 a + b` of the sequence. -/
def pos (a b : Fin 64) : Fin 4096 := ⟨64 * a + b, by omega⟩

theorem sum_pos {M : Type*} [AddCommMonoid M] (f : Fin 4096 → M) : ∑ n, f n = ∑ a, ∑ b, f (pos a b) := by
  rw [← Fintype.sum_prod_type' (fun a b => f (pos a b))]
  symm
  refine Fintype.sum_equiv (finProdFinEquiv (m := 64) (n := 64)) _ _ fun x => congrArg f (Fin.ext ?_)
  simp only [pos, finProdFinEquiv_apply_val]
  omega

/-! ## The kernel's steps, as they are computed -/

section steps

variable (x : Fin 4096 → ℝ)

def b1r (k1 n2 : Fin 64) : ℝ := ∑ n1, fr k1 n1 * x (pos n1 n2)
def b1i (k1 n2 : Fin 64) : ℝ := ∑ n1, fi k1 n1 * x (pos n1 n2)
def c1r (k1 n2 : Fin 64) : ℝ := b1r x k1 n2 * tr k1 n2 - b1i x k1 n2 * ti k1 n2
def c1i (k1 n2 : Fin 64) : ℝ := b1r x k1 n2 * ti k1 n2 + b1i x k1 n2 * tr k1 n2
def x2r (k1 k2 : Fin 64) : ℝ := ∑ n2, fr k2 n2 * c1r x k1 n2 - ∑ n2, fi k2 n2 * c1i x k1 n2
def x2i (k1 k2 : Fin 64) : ℝ := ∑ n2, fi k2 n2 * c1r x k1 n2 + ∑ n2, fr k2 n2 * c1i x k1 n2

end steps

section back

variable (q k : Fin 4096 → ℝ)

def sr (k1 k2 : Fin 64) : ℝ := x2r q k1 k2 * x2r k k1 k2 + x2i q k1 k2 * x2i k k1 k2
def si (k1 k2 : Fin 64) : ℝ := x2i q k1 k2 * x2r k k1 k2 - x2r q k1 k2 * x2i k k1 k2
def er (k1 m2 : Fin 64) : ℝ := ∑ k2, fr m2 k2 * sr q k k1 k2 + ∑ k2, fi m2 k2 * si q k k1 k2
def ei (k1 m2 : Fin 64) : ℝ := ∑ k2, fr m2 k2 * si q k k1 k2 - ∑ k2, fi m2 k2 * sr q k k1 k2
def c3r (k1 m2 : Fin 64) : ℝ := er q k k1 m2 * tr k1 m2 + ei q k k1 m2 * ti k1 m2
def c3i (k1 m2 : Fin 64) : ℝ := ei q k k1 m2 * tr k1 m2 - er q k k1 m2 * ti k1 m2
def ar (m1 m2 : Fin 64) : ℝ := (∑ k1, fr m1 k1 * c3r q k k1 m2 + ∑ k1, fi m1 k1 * c3i q k k1 m2) * (1 / 4096)

/-! ## The plain transform -/

/-- The real part of the transform at frequency `f`. -/
def dftr (x : Fin 4096 → ℝ) (f : Fin 4096) : ℝ := ∑ n, cosT f n * x n
/-- The imaginary part of the transform at frequency `f`. -/
def dfti (x : Fin 4096 → ℝ) (f : Fin 4096) : ℝ := -∑ n, sinT f n * x n
def pr (f : Fin 4096) : ℝ := dftr q f * dftr k f + dfti q f * dfti k f
def pim (f : Fin 4096) : ℝ := dfti q f * dftr k f - dftr q f * dfti k f
/-- The circular correlation at lag `t`, as the inverse transform of the product. -/
def corr (t : Fin 4096) : ℝ := (∑ f, cosT t f * pr q k f - ∑ f, sinT t f * pim q k f) / 4096

end back

/-! ## The two agree -/

/-- Frequency `a + 64 b`. -/
def freq (a b : Fin 64) : Fin 4096 := pos b a

def dft (x : Fin 4096 → ℝ) (f : Fin 4096) : ℂ := ∑ n : Fin 4096, root ((f : ℕ) * (n : ℕ)) * (x n : ℂ)

theorem dft_eq (x : Fin 4096 → ℝ) (f : Fin 4096) : (⟨dftr x f, dfti x f⟩ : ℂ) = dft x f := by
  rw [dft]
  apply Complex.ext
  · rw [Complex.re_sum, dftr]
    dsimp only
    refine sum_congr rfl fun n _ => ?_
    rw [← full, Complex.re_mul_ofReal]
  · rw [Complex.im_sum, dfti, ← sum_neg_distrib]
    dsimp only
    refine sum_congr rfl fun n _ => ?_
    rw [← full, Complex.im_mul_ofReal]
    ring

/-- The exponent of the full table at a split frequency and a split position. -/
theorem root_split (k1 k2 n1 n2 : Fin 64) :
    root ((freq k1 k2 : ℕ) * (pos n1 n2 : ℕ))
      = root (64 * ((k2 : ℕ) * n2)) * (root ((k1 : ℕ) * n2) * root (64 * ((k1 : ℕ) * n1))) := by
  have h : (freq k1 k2 : ℕ) * (pos n1 n2 : ℕ)
      = 64 * ((k2 : ℕ) * n2) + ((k1 : ℕ) * n2 + (64 * ((k1 : ℕ) * n1) + 4096 * ((k2 : ℕ) * n1))) := by
    simp only [freq, pos]; ring
  rw [h, root_add, root_add, root_add, root_period, mul_one]

theorem b1_eq (x : Fin 4096 → ℝ) (k1 n2 : Fin 64) :
    (⟨b1r x k1 n2, b1i x k1 n2⟩ : ℂ) = ∑ n1 : Fin 64, root (64 * ((k1 : ℕ) * (n1 : ℕ))) * (x (pos n1 n2) : ℂ) := by
  apply Complex.ext
  · rw [Complex.re_sum, b1r]
    dsimp only
    refine sum_congr rfl fun n _ => ?_
    rw [← table, Complex.re_mul_ofReal]
  · rw [Complex.im_sum, b1i]
    dsimp only
    refine sum_congr rfl fun n _ => ?_
    rw [← table, Complex.im_mul_ofReal]

theorem c1_eq (x : Fin 4096 → ℝ) (k1 n2 : Fin 64) :
    (⟨c1r x k1 n2, c1i x k1 n2⟩ : ℂ) = root ((k1 : ℕ) * n2) * (⟨b1r x k1 n2, b1i x k1 n2⟩ : ℂ) := by
  rw [← twiddle]
  apply Complex.ext
  · rw [Complex.mul_re, c1r]; ring
  · rw [Complex.mul_im, c1i]; ring

/-- A product of a table with a complex sequence, its parts summed apart. -/
theorem table_sum (j : Fin 64) (u v : Fin 64 → ℝ) :
    (⟨∑ k, fr j k * u k - ∑ k, fi j k * v k, ∑ k, fi j k * u k + ∑ k, fr j k * v k⟩ : ℂ)
      = ∑ k : Fin 64, root (64 * ((j : ℕ) * (k : ℕ))) * (⟨u k, v k⟩ : ℂ) := by
  apply Complex.ext
  · rw [Complex.re_sum, ← sum_sub_distrib]
    dsimp only
    refine sum_congr rfl fun n _ => ?_
    rw [← table, Complex.mul_re]
  · rw [Complex.im_sum, ← sum_add_distrib]
    dsimp only
    refine sum_congr rfl fun n _ => ?_
    rw [← table, Complex.mul_im]; ring

theorem x2_eq (x : Fin 4096 → ℝ) (k1 k2 : Fin 64) :
    (⟨x2r x k1 k2, x2i x k1 k2⟩ : ℂ) = dft x (freq k1 k2) := by
  rw [x2r, x2i, table_sum, dft, sum_pos, sum_comm]
  refine sum_congr rfl fun n2 _ => ?_
  rw [c1_eq, b1_eq, mul_sum, mul_sum]
  refine sum_congr rfl fun n1 _ => ?_
  rw [root_split]
  ring

theorem x2r_eq (x : Fin 4096 → ℝ) (k1 k2 : Fin 64) : x2r x k1 k2 = dftr x (freq k1 k2) :=
  congrArg Complex.re ((x2_eq x k1 k2).trans (dft_eq x _).symm)

theorem x2i_eq (x : Fin 4096 → ℝ) (k1 k2 : Fin 64) : x2i x k1 k2 = dfti x (freq k1 k2) :=
  congrArg Complex.im ((x2_eq x k1 k2).trans (dft_eq x _).symm)

open ComplexConjugate in
theorem conj_table_sum (j : Fin 64) (u v : Fin 64 → ℝ) :
    (⟨∑ k, fr j k * u k + ∑ k, fi j k * v k, ∑ k, fr j k * v k - ∑ k, fi j k * u k⟩ : ℂ)
      = ∑ k : Fin 64, conj (root (64 * ((j : ℕ) * (k : ℕ)))) * (⟨u k, v k⟩ : ℂ) := by
  apply Complex.ext
  · rw [Complex.re_sum, ← sum_add_distrib]
    dsimp only
    refine sum_congr rfl fun n _ => ?_
    rw [← table, Complex.mul_re, Complex.conj_re, Complex.conj_im]; ring
  · rw [Complex.im_sum, ← sum_sub_distrib]
    dsimp only
    refine sum_congr rfl fun n _ => ?_
    rw [← table, Complex.mul_im, Complex.conj_re, Complex.conj_im]; ring

open ComplexConjugate in
theorem corr_eq (q k : Fin 4096 → ℝ) (m1 m2 : Fin 64) : ar q k m1 m2 = corr q k (pos m1 m2) := by
  have hs : ∀ k1 k2, (⟨sr q k k1 k2, si q k k1 k2⟩ : ℂ) = ⟨pr q k (freq k1 k2), pim q k (freq k1 k2)⟩ := fun k1 k2 => by
    rw [sr, si, pr, pim, x2r_eq, x2i_eq, x2r_eq, x2i_eq]
  have he : ∀ k1, (⟨er q k k1 m2, ei q k k1 m2⟩ : ℂ)
      = ∑ k2 : Fin 64, conj (root (64 * ((m2 : ℕ) * (k2 : ℕ)))) * (⟨pr q k (freq k1 k2), pim q k (freq k1 k2)⟩ : ℂ) := fun k1 => by
    rw [er, ei, conj_table_sum]
    exact sum_congr rfl fun k2 _ => by rw [hs]
  have hc : ∀ k1, (⟨c3r q k k1 m2, c3i q k k1 m2⟩ : ℂ) = conj (root ((k1 : ℕ) * m2)) * (⟨er q k k1 m2, ei q k k1 m2⟩ : ℂ) := fun k1 => by
    rw [← twiddle]
    apply Complex.ext
    · rw [Complex.mul_re, Complex.conj_re, Complex.conj_im, c3r]; ring
    · rw [Complex.mul_im, Complex.conj_re, Complex.conj_im, c3i]; ring
  have hl : ∑ k1, fr m1 k1 * c3r q k k1 m2 + ∑ k1, fi m1 k1 * c3i q k k1 m2
      = (∑ f : Fin 4096, conj (root ((pos m1 m2 : ℕ) * (f : ℕ))) * (⟨pr q k f, pim q k f⟩ : ℂ)).re := by
    refine (congrArg Complex.re (conj_table_sum m1 (fun k1 => c3r q k k1 m2) (fun k1 => c3i q k k1 m2))).trans ?_
    congr 1
    rw [sum_pos, sum_comm]
    refine sum_congr rfl fun k1 _ => ?_
    rw [hc, he, mul_sum, mul_sum]
    refine sum_congr rfl fun k2 _ => ?_
    have hr := root_split k1 k2 m1 m2
    rw [mul_comm (freq k1 k2 : ℕ)] at hr
    rw [show pos k2 k1 = freq k1 k2 from rfl, hr, map_mul, map_mul, mul_comm (m1 : ℕ), mul_comm (m2 : ℕ) (k2 : ℕ)]
    ring
  rw [ar, hl, corr, Complex.re_sum, ← sum_sub_distrib, mul_one_div]
  congr 1
  refine sum_congr rfl fun f _ => ?_
  rw [← full, Complex.mul_re, Complex.conj_re, Complex.conj_im]
  ring

end Cert.Fourier

end
-- ==== Proof.Steps.lean ====
/- The kernel's steps on one column, on extended reals; on real data they are the steps of `Fourier`. -/
module

public import proofs.«01_k».proof.Proof.Fourier
public import Mathlib.Data.EReal.Operations

@[expose] public section

noncomputable section

namespace Cert.Steps

section defs

variable (fr fi : Fin 64 → Fin 64 → EReal)

/-- The first transform of a column, times the twiddle `t + u i`: real and imaginary part. -/
def f1r (t u : EReal) (x : Fin 64 → EReal) (k : Fin 64) : EReal := (∑ j, fr k j * x j) * t - (∑ j, fi k j * x j) * u
def f1i (t u : EReal) (x : Fin 64 → EReal) (k : Fin 64) : EReal := (∑ j, fr k j * x j) * u + (∑ j, fi k j * x j) * t

/-- The second transform of a column. -/
def x2r (cr ci : Fin 64 → EReal) (k : Fin 64) : EReal := (∑ n, fr k n * cr n) - ∑ n, fi k n * ci n
def x2i (cr ci : Fin 64 → EReal) (k : Fin 64) : EReal := (∑ n, fi k n * cr n) + ∑ n, fr k n * ci n

/-- The spectrum of the correlation. -/
def sr (qr qi kr ki : Fin 64 → EReal) (k : Fin 64) : EReal :=
  x2r fr fi qr qi k * x2r fr fi kr ki k + x2i fr fi qr qi k * x2i fr fi kr ki k
def si (qr qi kr ki : Fin 64 → EReal) (k : Fin 64) : EReal :=
  x2i fr fi qr qi k * x2r fr fi kr ki k - x2r fr fi qr qi k * x2i fr fi kr ki k

/-- Its first inverse transform. -/
def er (qr qi kr ki : Fin 64 → EReal) (m : Fin 64) : EReal :=
  (∑ k, fr m k * sr fr fi qr qi kr ki k) + ∑ k, fi m k * si fr fi qr qi kr ki k
def ei (qr qi kr ki : Fin 64 → EReal) (m : Fin 64) : EReal :=
  (∑ k, fr m k * si fr fi qr qi kr ki k) - ∑ k, fi m k * sr fr fi qr qi kr ki k

/-- The twiddle undone and the last transform, scaled by `s`. -/
def f3 (s : EReal) (t u : Fin 64 → EReal) (xr xi : Fin 64 → EReal) (m : Fin 64) : EReal :=
  ((∑ k, fr m k * (xr k * t k + xi k * u k)) + ∑ k, fi m k * (xi k * t k - xr k * u k)) * s

end defs

/-! ## On reals -/

theorem coe_sum {ι : Type*} (s : Finset ι) (f : ι → ℝ) : (∑ i ∈ s, ((f i : ℝ) : EReal)) = ((∑ i ∈ s, f i : ℝ) : EReal) := by
  induction s using Finset.cons_induction with
  | empty => simp
  | cons a s h ih => rw [Finset.sum_cons, Finset.sum_cons, ih, EReal.coe_add]

section coe

variable {fr fi : Fin 64 → Fin 64 → EReal}
  (hfr : ∀ j k, fr j k = ((Fourier.fr j k : ℝ) : EReal)) (hfi : ∀ j k, fi j k = ((Fourier.fi j k : ℝ) : EReal))

include hfr hfi

theorem f1r_coe {t u : EReal} {x : Fin 64 → EReal} (X : Fin 4096 → ℝ) (k n : Fin 64)
    (ht : t = ((Fourier.tr k n : ℝ) : EReal)) (hu : u = ((Fourier.ti k n : ℝ) : EReal))
    (hx : ∀ j, x j = ((X (Fourier.pos j n) : ℝ) : EReal)) :
    f1r fr fi t u x k = ((Fourier.c1r X k n : ℝ) : EReal) := by
  simp only [f1r, hfr, hfi, ht, hu, hx, ← EReal.coe_mul, coe_sum, ← EReal.coe_sub, ← EReal.coe_add]
  rfl

theorem f1i_coe {t u : EReal} {x : Fin 64 → EReal} (X : Fin 4096 → ℝ) (k n : Fin 64)
    (ht : t = ((Fourier.tr k n : ℝ) : EReal)) (hu : u = ((Fourier.ti k n : ℝ) : EReal))
    (hx : ∀ j, x j = ((X (Fourier.pos j n) : ℝ) : EReal)) :
    f1i fr fi t u x k = ((Fourier.c1i X k n : ℝ) : EReal) := by
  simp only [f1i, hfr, hfi, ht, hu, hx, ← EReal.coe_mul, coe_sum, ← EReal.coe_sub, ← EReal.coe_add]
  rfl

theorem er_coe {qr qi kr ki : Fin 64 → EReal} (Q K : Fin 4096 → ℝ) (k1 m2 : Fin 64)
    (hqr : ∀ n, qr n = ((Fourier.c1r Q k1 n : ℝ) : EReal)) (hqi : ∀ n, qi n = ((Fourier.c1i Q k1 n : ℝ) : EReal))
    (hkr : ∀ n, kr n = ((Fourier.c1r K k1 n : ℝ) : EReal)) (hki : ∀ n, ki n = ((Fourier.c1i K k1 n : ℝ) : EReal)) :
    er fr fi qr qi kr ki m2 = ((Fourier.er Q K k1 m2 : ℝ) : EReal) := by
  simp only [er, sr, si, x2r, x2i, hfr, hfi, hqr, hqi, hkr, hki, ← EReal.coe_mul, coe_sum, ← EReal.coe_sub, ← EReal.coe_add]
  rfl

theorem ei_coe {qr qi kr ki : Fin 64 → EReal} (Q K : Fin 4096 → ℝ) (k1 m2 : Fin 64)
    (hqr : ∀ n, qr n = ((Fourier.c1r Q k1 n : ℝ) : EReal)) (hqi : ∀ n, qi n = ((Fourier.c1i Q k1 n : ℝ) : EReal))
    (hkr : ∀ n, kr n = ((Fourier.c1r K k1 n : ℝ) : EReal)) (hki : ∀ n, ki n = ((Fourier.c1i K k1 n : ℝ) : EReal)) :
    ei fr fi qr qi kr ki m2 = ((Fourier.ei Q K k1 m2 : ℝ) : EReal) := by
  simp only [ei, sr, si, x2r, x2i, hfr, hfi, hqr, hqi, hkr, hki, ← EReal.coe_mul, coe_sum, ← EReal.coe_sub, ← EReal.coe_add]
  rfl

theorem f3_coe {s : EReal} {t u xr xi : Fin 64 → EReal} (Q K : Fin 4096 → ℝ) (m1 m2 : Fin 64)
    (hs : s = ((1 / 4096 : ℝ) : EReal))
    (ht : ∀ k, t k = ((Fourier.tr k m2 : ℝ) : EReal)) (hu : ∀ k, u k = ((Fourier.ti k m2 : ℝ) : EReal))
    (hr : ∀ k, xr k = ((Fourier.er Q K k m2 : ℝ) : EReal)) (hi : ∀ k, xi k = ((Fourier.ei Q K k m2 : ℝ) : EReal)) :
    f3 fr fi s t u xr xi m1 = ((Fourier.corr Q K (Fourier.pos m1 m2) : ℝ) : EReal) := by
  rw [← Fourier.corr_eq]
  simp only [f3, hs, hfr, hfi, ht, hu, hr, hi, ← EReal.coe_mul, coe_sum, ← EReal.coe_sub, ← EReal.coe_add]
  rfl

end coe

end Cert.Steps

end
-- ==== Proof.Reg1.lean ====
/- What the second call leaves: the first 64-point transform of each column, twiddled. -/
module

public import proofs.«01_k».proof.Proof.PayA
public import proofs.«01_k».proof.Proof.Steps
public import proofs.«01_k».proof.Proof.Gen.KernelIdeal.Frame
public import Idealize.ShloMosaic.Lib.Pipeline.ValueKit

@[expose] public section

set_option maxRecDepth 16384

noncomputable section

namespace Cert.Reg1

open Idealize.ShloMosaic Idealize.ShloMosaic.Pipeline Idealize.ShloMosaic.Thread Cert.KernelIdeal Cert.KernelIdeal.Gen

theorem idx : ∀ t : Fin grid1.N,
    win1_0.index t = ![(grid1.coords t 1).val, 0, (grid1.coords t 0).val]
    ∧ win1_1.index t = ![(grid1.coords t 1).val, 0, (grid1.coords t 0).val]
    ∧ win1_2.index t = ![0, 0]
    ∧ win1_3.index t = ![0, 0]
    ∧ win1_4.index t = ![0, (grid1.coords t 0).val]
    ∧ win1_5.index t = ![0, (grid1.coords t 0).val]
    ∧ win1_6.index t = ![(grid1.coords t 1).val, 0, (grid1.coords t 0).val]
    ∧ win1_7.index t = ![(grid1.coords t 1).val, 0, (grid1.coords t 0).val]
    ∧ win1_8.index t = ![(grid1.coords t 1).val, 0, (grid1.coords t 0).val]
    ∧ win1_9.index t = ![(grid1.coords t 1).val, 0, (grid1.coords t 0).val] := by
  decide +kernel

/-- The first transform of every column of `x`. -/
def g1r (fr fi : FVec Ideal S64x64 .f32) (tr ti : FVec Ideal S64x49152 .f32) (x : FVec Ideal S4x64x49152 .f32) : FVec Ideal S4x64x49152 .f32 :=
  fun y => Steps.f1r (fun k j => fr (ix2 k j)) (fun k j => fi (ix2 k j)) (tr (ix2 (y 1) (y 2))) (ti (ix2 (y 1) (y 2)))
    (fun j => x (ix3 (y 0) j (y 2))) (y 1)
def g1i (fr fi : FVec Ideal S64x64 .f32) (tr ti : FVec Ideal S64x49152 .f32) (x : FVec Ideal S4x64x49152 .f32) : FVec Ideal S4x64x49152 .f32 :=
  fun y => Steps.f1i (fun k j => fr (ix2 k j)) (fun k j => fi (ix2 k j)) (tr (ix2 (y 1) (y 2))) (ti (ix2 (y 1) (y 2)))
    (fun j => x (ix3 (y 0) j (y 2))) (y 1)

theorem qr_fin (fr fi : Vec Ideal S64x64 .f32) (tr ti : Vec Ideal S64x6144 .f32) (x : Vec Ideal S1x64x6144 .f32)
    (FR FI : FVec Ideal S64x64 .f32) (TR TI : FVec Ideal S64x49152 .f32) (X : FVec Ideal S4x64x49152 .f32)
    (k : Fin 64) (n : Fin 6144) (b : Fin 4) (r : Fin 49152)
    (hfr : ∀ i j, fr (ix2 i j) = FR (ix2 i j)) (hfi : ∀ i j, fi (ix2 i j) = FI (ix2 i j))
    (htr : ∀ i, tr (ix2 i n) = TR (ix2 i r)) (hti : ∀ i, ti (ix2 i n) = TI (ix2 i r)) (hx : ∀ j, x (ix3 0 j n) = X (ix3 b j r)) :
    k1_pay10 fr fi tr ti x (ix3 0 k n) = g1r FR FI TR TI X (ix3 b k r) := by
  rw [Pay.f1_qr]
  show _ = Steps.f1r (fun k j => FR (ix2 k j)) (fun k j => FI (ix2 k j)) (TR (ix2 k r)) (TI (ix2 k r)) (fun j => X (ix3 b j r)) k
  unfold Steps.f1r Pay.f1r
  simp only [hfr, hfi, htr, hti, hx]

theorem qi_fin (fr fi : Vec Ideal S64x64 .f32) (tr ti : Vec Ideal S64x6144 .f32) (x : Vec Ideal S1x64x6144 .f32)
    (FR FI : FVec Ideal S64x64 .f32) (TR TI : FVec Ideal S64x49152 .f32) (X : FVec Ideal S4x64x49152 .f32)
    (k : Fin 64) (n : Fin 6144) (b : Fin 4) (r : Fin 49152)
    (hfr : ∀ i j, fr (ix2 i j) = FR (ix2 i j)) (hfi : ∀ i j, fi (ix2 i j) = FI (ix2 i j))
    (htr : ∀ i, tr (ix2 i n) = TR (ix2 i r)) (hti : ∀ i, ti (ix2 i n) = TI (ix2 i r)) (hx : ∀ j, x (ix3 0 j n) = X (ix3 b j r)) :
    k1_pay11 fr fi tr ti x (ix3 0 k n) = g1i FR FI TR TI X (ix3 b k r) := by
  rw [Pay.f1_qi]
  show _ = Steps.f1i (fun k j => FR (ix2 k j)) (fun k j => FI (ix2 k j)) (TR (ix2 k r)) (TI (ix2 k r)) (fun j => X (ix3 b j r)) k
  unfold Steps.f1i Pay.f1i
  simp only [hfr, hfi, htr, hti, hx]

theorem kr_fin (fr fi : Vec Ideal S64x64 .f32) (tr ti : Vec Ideal S64x6144 .f32) (x : Vec Ideal S1x64x6144 .f32)
    (FR FI : FVec Ideal S64x64 .f32) (TR TI : FVec Ideal S64x49152 .f32) (X : FVec Ideal S4x64x49152 .f32)
    (k : Fin 64) (n : Fin 6144) (b : Fin 4) (r : Fin 49152)
    (hfr : ∀ i j, fr (ix2 i j) = FR (ix2 i j)) (hfi : ∀ i j, fi (ix2 i j) = FI (ix2 i j))
    (htr : ∀ i, tr (ix2 i n) = TR (ix2 i r)) (hti : ∀ i, ti (ix2 i n) = TI (ix2 i r)) (hx : ∀ j, x (ix3 0 j n) = X (ix3 b j r)) :
    k1_pay1 (k1_pay15 fr fi tr ti x) (ix3 0 k n) = g1r FR FI TR TI X (ix3 b k r) := by
  rw [Pay.f1_kr]
  show _ = Steps.f1r (fun k j => FR (ix2 k j)) (fun k j => FI (ix2 k j)) (TR (ix2 k r)) (TI (ix2 k r)) (fun j => X (ix3 b j r)) k
  unfold Steps.f1r Pay.f1r
  simp only [hfr, hfi, htr, hti, hx]

theorem ki_fin (fr fi : Vec Ideal S64x64 .f32) (tr ti : Vec Ideal S64x6144 .f32) (x : Vec Ideal S1x64x6144 .f32)
    (FR FI : FVec Ideal S64x64 .f32) (TR TI : FVec Ideal S64x49152 .f32) (X : FVec Ideal S4x64x49152 .f32)
    (k : Fin 64) (n : Fin 6144) (b : Fin 4) (r : Fin 49152)
    (hfr : ∀ i j, fr (ix2 i j) = FR (ix2 i j)) (hfi : ∀ i j, fi (ix2 i j) = FI (ix2 i j))
    (htr : ∀ i, tr (ix2 i n) = TR (ix2 i r)) (hti : ∀ i, ti (ix2 i n) = TI (ix2 i r)) (hx : ∀ j, x (ix3 0 j n) = X (ix3 b j r)) :
    k1_pay2 (k1_pay5 tr) (k1_pay14 fi x) (k1_pay16 fr ti x) (ix3 0 k n) = g1i FR FI TR TI X (ix3 b k r) := by
  rw [Pay.f1_ki]
  show _ = Steps.f1i (fun k j => FR (ix2 k j)) (fun k j => FI (ix2 k j)) (TR (ix2 k r)) (TI (ix2 k r)) (fun j => X (ix3 b j r)) k
  unfold Steps.f1i Pay.f1i
  simp only [hfr, hfi, htr, hti, hx]

variable (V : (c : Dev nD) → (b : Ref sig .tc) → Buf (Elt Ideal) ((c.tc : Thread nD τ).loc b)) (c : Dev nD)

theorem exB (t : Fin cfg1.N) : ∃ b : Fin 4, b.val = (grid1.coords t 1).val := ⟨grid1.coords t 1, rfl⟩

theorem exR (t : Fin cfg1.N) (n : Fin 6144) : ∃ r : Fin 49152, r.val = (grid1.coords t 0).val * 6144 + n.val :=
  ⟨⟨(grid1.coords t 0).val * 6144 + n.val, by have h : (grid1.coords t 0).val < 8 := (grid1.coords t 0).isLt; have := n.isLt; omega⟩, rfl⟩

section reads

variable (t : Fin cfg1.N) (n : Fin 6144) (j k : Fin 64) (b : Fin 4) (r : Fin 49152)
  (hb : b.val = (grid1.coords t 1).val) (hr : r.val = (grid1.coords t 0).val * 6144 + n.val)

include hb hr in
theorem rd0 : iblk1 V c 0 t (ix3 0 j n) = V c main_v57 (ix3 b j r) := by
  have e := (idx t).1
  blk_ext [iblk1, e, hb, hr]

include hb hr in
theorem rd1 : iblk1 V c 1 t (ix3 0 j n) = V c main_v58 (ix3 b j r) := by
  have e := (idx t).2.1
  blk_ext [iblk1, e, hb, hr]

theorem rd2 : iblk1 V c 2 t (ix2 j k) = V c main_v8 (ix2 j k) := by
  have e := (idx t).2.2.1
  blk_ext [iblk1, e]

theorem rd3 : iblk1 V c 3 t (ix2 j k) = V c main_v18 (ix2 j k) := by
  have e := (idx t).2.2.2.1
  blk_ext [iblk1, e]

include hr in
theorem rd4 : iblk1 V c 4 t (ix2 j n) = V c main_v29 (ix2 j r) := by
  have e := (idx t).2.2.2.2.1
  blk_ext [iblk1, e, hr]

include hr in
theorem rd5 : iblk1 V c 5 t (ix2 j n) = V c main_v41 (ix2 j r) := by
  have e := (idx t).2.2.2.2.2.1
  blk_ext [iblk1, e, hr]

include hb hr in
theorem em6 : ((View.whole main_v59_0).slice (win1_6.rect t)).emb (ix3 0 j n) = ix3 b j r := by
  have e := (idx t).2.2.2.2.2.2.1
  blk_ext [e, hb, hr]

include hb hr in
theorem em7 : ((View.whole main_v59_1).slice (win1_7.rect t)).emb (ix3 0 j n) = ix3 b j r := by
  have e := (idx t).2.2.2.2.2.2.2.1
  blk_ext [e, hb, hr]

include hb hr in
theorem em8 : ((View.whole main_v59_2).slice (win1_8.rect t)).emb (ix3 0 j n) = ix3 b j r := by
  have e := (idx t).2.2.2.2.2.2.2.2.1
  blk_ext [e, hb, hr]

include hb hr in
theorem em9 : ((View.whole main_v59_3).slice (win1_9.rect t)).emb (ix3 0 j n) = ix3 b j r := by
  have e := (idx t).2.2.2.2.2.2.2.2.2
  blk_ext [e, hb, hr]

end reads

theorem qr_arr : (dat1 V c).arrAt 6 cfg1.N
    = g1r (V c main_v8) (V c main_v18) (V c main_v29) (V c main_v41) (V c main_v57) := by
  refine (dat1 V c).arrAt_eq_of_covers 6 _ (by decide +kernel) fun t hf y => ?_
  blk_simp
  rw [after1_6]
  frame_out
  idx_vars y
  obtain rfl : y0 = 0 := Subsingleton.elim _ _
  obtain ⟨b, hb⟩ := exB t
  obtain ⟨r, hr⟩ := exR t y2
  rw [em6 t y2 y1 b r hb hr]
  exact qr_fin _ _ _ _ _ _ _ _ _ _ y1 y2 b r (rd2 V c t) (rd3 V c t) (fun i => rd4 V c t y2 i r hr) (fun i => rd5 V c t y2 i r hr)
    (fun j => rd0 V c t y2 j b r hb hr)

theorem qi_arr : (dat1 V c).arrAt 7 cfg1.N
    = g1i (V c main_v8) (V c main_v18) (V c main_v29) (V c main_v41) (V c main_v57) := by
  refine (dat1 V c).arrAt_eq_of_covers 7 _ (by decide +kernel) fun t hf y => ?_
  blk_simp
  rw [after1_7]
  frame_out
  idx_vars y
  obtain rfl : y0 = 0 := Subsingleton.elim _ _
  obtain ⟨b, hb⟩ := exB t
  obtain ⟨r, hr⟩ := exR t y2
  rw [em7 t y2 y1 b r hb hr]
  exact qi_fin _ _ _ _ _ _ _ _ _ _ y1 y2 b r (rd2 V c t) (rd3 V c t) (fun i => rd4 V c t y2 i r hr) (fun i => rd5 V c t y2 i r hr)
    (fun j => rd0 V c t y2 j b r hb hr)

theorem kr_arr : (dat1 V c).arrAt 8 cfg1.N
    = g1r (V c main_v8) (V c main_v18) (V c main_v29) (V c main_v41) (V c main_v58) := by
  refine (dat1 V c).arrAt_eq_of_covers 8 _ (by decide +kernel) fun t hf y => ?_
  blk_simp
  rw [after1_8]
  frame_out
  idx_vars y
  obtain rfl : y0 = 0 := Subsingleton.elim _ _
  obtain ⟨b, hb⟩ := exB t
  obtain ⟨r, hr⟩ := exR t y2
  rw [em8 t y2 y1 b r hb hr]
  exact kr_fin _ _ _ _ _ _ _ _ _ _ y1 y2 b r (rd2 V c t) (rd3 V c t) (fun i => rd4 V c t y2 i r hr) (fun i => rd5 V c t y2 i r hr)
    (fun j => rd1 V c t y2 j b r hb hr)

theorem ki_arr : (dat1 V c).arrAt 9 cfg1.N
    = g1i (V c main_v8) (V c main_v18) (V c main_v29) (V c main_v41) (V c main_v58) := by
  refine (dat1 V c).arrAt_eq_of_covers 9 _ (by decide +kernel) fun t hf y => ?_
  blk_simp
  rw [after1_9]
  frame_out
  idx_vars y
  obtain rfl : y0 = 0 := Subsingleton.elim _ _
  obtain ⟨b, hb⟩ := exB t
  obtain ⟨r, hr⟩ := exR t y2
  rw [em9 t y2 y1 b r hb hr]
  exact ki_fin _ _ _ _ _ _ _ _ _ _ y1 y2 b r (rd2 V c t) (rd3 V c t) (fun i => rd4 V c t y2 i r hr) (fun i => rd5 V c t y2 i r hr)
    (fun j => rd1 V c t y2 j b r hb hr)

end Cert.Reg1

end
-- ==== Proof.Reg2.lean ====
/- What the third call leaves: the second transform, the spectrum's product and the first inverse transform. -/
module

public import proofs.«01_k».proof.Proof.PayA
public import proofs.«01_k».proof.Proof.Steps
public import proofs.«01_k».proof.Proof.Gen.KernelIdeal.Frame
public import Idealize.ShloMosaic.Lib.Pipeline.ValueKit

@[expose] public section

set_option maxRecDepth 16384

noncomputable section

namespace Cert.Reg2

open Idealize.ShloMosaic Idealize.ShloMosaic.Pipeline Idealize.ShloMosaic.Thread Cert.KernelIdeal Cert.KernelIdeal.Gen

theorem idx : ∀ t : Fin grid2.N,
    win2_0.index t = ![(grid2.coords t 1).val, (grid2.coords t 0).val, 0, 0]
    ∧ win2_1.index t = ![(grid2.coords t 1).val, (grid2.coords t 0).val, 0, 0]
    ∧ win2_2.index t = ![(grid2.coords t 1).val, (grid2.coords t 0).val, 0, 0]
    ∧ win2_3.index t = ![(grid2.coords t 1).val, (grid2.coords t 0).val, 0, 0]
    ∧ win2_4.index t = ![0, 0]
    ∧ win2_5.index t = ![0, 0]
    ∧ win2_6.index t = ![(grid2.coords t 1).val, (grid2.coords t 0).val, 0, 0]
    ∧ win2_7.index t = ![(grid2.coords t 1).val, (grid2.coords t 0).val, 0, 0] := by
  decide +kernel

/-- The middle of the correlation along every column. -/
def g2r (fr fi : FVec Ideal S64x64 .f32) (qr qi kr ki : FVec Ideal S4x64x64x768 .f32) : FVec Ideal S4x64x64x768 .f32 :=
  fun y => Steps.er (fun k j => fr (ix2 k j)) (fun k j => fi (ix2 k j)) (fun n => qr (ix4 (y 0) (y 1) n (y 3)))
    (fun n => qi (ix4 (y 0) (y 1) n (y 3))) (fun n => kr (ix4 (y 0) (y 1) n (y 3))) (fun n => ki (ix4 (y 0) (y 1) n (y 3))) (y 2)
/-- The middle of the correlation along every column. -/
def g2i (fr fi : FVec Ideal S64x64 .f32) (qr qi kr ki : FVec Ideal S4x64x64x768 .f32) : FVec Ideal S4x64x64x768 .f32 :=
  fun y => Steps.ei (fun k j => fr (ix2 k j)) (fun k j => fi (ix2 k j)) (fun n => qr (ix4 (y 0) (y 1) n (y 3)))
    (fun n => qi (ix4 (y 0) (y 1) n (y 3))) (fun n => kr (ix4 (y 0) (y 1) n (y 3))) (fun n => ki (ix4 (y 0) (y 1) n (y 3))) (y 2)

theorem er_7 (x0 x1 x2 x3 : Vec Ideal S1x8x64x768 .f32) (x4 x5 : Vec Ideal S64x64 .f32) (m : Fin 64) (d : Fin 768) :
    k2_pay1 (k2_pay103 (k2_pay104 x0 x1 x2 x3 x4 x5) (k2_pay105 x0 x1 x2 x3 x4 x5) (View.ld x0 r2_8) (View.ld x1 r2_8) (View.ld x2 r2_8) (View.ld x3 r2_8)) (ix4 0 0 m d)
      = Steps.er (fun k j => x4 (ix2 k j)) (fun k j => x5 (ix2 k j)) (fun n => x0 (ix4 0 7 n d)) (fun n => x1 (ix4 0 7 n d))
          (fun n => x2 (ix4 0 7 n d)) (fun n => x3 (ix4 0 7 n d)) m := by
  unfold Steps.er Steps.sr Steps.si Steps.x2r Steps.x2i
  unfold_payloads
  pointwise

theorem er_6 (x0 x1 x2 x3 : Vec Ideal S1x8x64x768 .f32) (x4 x5 : Vec Ideal S64x64 .f32) (m : Fin 64) (d : Fin 768) :
    k2_pay90 (k2_pay104 x0 x1 x2 x3 x4 x5) (k2_pay105 x0 x1 x2 x3 x4 x5) (k2_pay125 x0 x1 x2 x3 x4 x5) (k2_pay126 x0 x1 x2 x3 x4 x5) (k2_pay127 x0 x1 x2 x3 x4 x5) (View.ld x2 r2_7) (View.ld x3 r2_7) (ix4 0 0 m d)
      = Steps.er (fun k j => x4 (ix2 k j)) (fun k j => x5 (ix2 k j)) (fun n => x0 (ix4 0 6 n d)) (fun n => x1 (ix4 0 6 n d))
          (fun n => x2 (ix4 0 6 n d)) (fun n => x3 (ix4 0 6 n d)) m := by
  unfold Steps.er Steps.sr Steps.si Steps.x2r Steps.x2i
  unfold_payloads
  pointwise

theorem er_5 (x0 x1 x2 x3 : Vec Ideal S1x8x64x768 .f32) (x4 x5 : Vec Ideal S64x64 .f32) (m : Fin 64) (d : Fin 768) :
    k2_pay77 (k2_pay104 x0 x1 x2 x3 x4 x5) (k2_pay105 x0 x1 x2 x3 x4 x5) (k2_pay122 x0 x1 x2 x3 x4 x5) (k2_pay123 x0 x1 x2 x3 x4 x5) (k2_pay124 x0 x1 x2 x3 x4 x5) (View.ld x3 r2_6) (ix4 0 0 m d)
      = Steps.er (fun k j => x4 (ix2 k j)) (fun k j => x5 (ix2 k j)) (fun n => x0 (ix4 0 5 n d)) (fun n => x1 (ix4 0 5 n d))
          (fun n => x2 (ix4 0 5 n d)) (fun n => x3 (ix4 0 5 n d)) m := by
  unfold Steps.er Steps.sr Steps.si Steps.x2r Steps.x2i
  unfold_payloads
  pointwise

theorem er_4 (x0 x1 x2 x3 : Vec Ideal S1x8x64x768 .f32) (x4 x5 : Vec Ideal S64x64 .f32) (m : Fin 64) (d : Fin 768) :
    k2_pay65 (k2_pay104 x0 x1 x2 x3 x4 x5) (k2_pay105 x0 x1 x2 x3 x4 x5) (k2_pay116 x0 x1 x2 x3 x4 x5) (k2_pay117 x0 x1 x2 x3 x4 x5) (k2_pay118 x0 x1 x2 x3 x4 x5) (k2_pay119 x0 x1 x2 x3 x4 x5) (k2_pay120 x0 x1 x2 x3 x4 x5) (k2_pay121 x0 x1 x2 x3 x4 x5) (ix4 0 0 m d)
      = Steps.er (fun k j => x4 (ix2 k j)) (fun k j => x5 (ix2 k j)) (fun n => x0 (ix4 0 4 n d)) (fun n => x1 (ix4 0 4 n d))
          (fun n => x2 (ix4 0 4 n d)) (fun n => x3 (ix4 0 4 n d)) m := by
  unfold Steps.er Steps.sr Steps.si Steps.x2r Steps.x2i
  unfold_payloads
  pointwise

theorem er_3 (x0 x1 x2 x3 : Vec Ideal S1x8x64x768 .f32) (x4 x5 : Vec Ideal S64x64 .f32) (m : Fin 64) (d : Fin 768) :
    k2_pay51 (k2_pay104 x0 x1 x2 x3 x4 x5) (k2_pay105 x0 x1 x2 x3 x4 x5) (View.ld x0 r2_4) (View.ld x1 r2_4) (View.ld x2 r2_4) (View.ld x3 r2_4) (ix4 0 0 m d)
      = Steps.er (fun k j => x4 (ix2 k j)) (fun k j => x5 (ix2 k j)) (fun n => x0 (ix4 0 3 n d)) (fun n => x1 (ix4 0 3 n d))
          (fun n => x2 (ix4 0 3 n d)) (fun n => x3 (ix4 0 3 n d)) m := by
  unfold Steps.er Steps.sr Steps.si Steps.x2r Steps.x2i
  unfold_payloads
  pointwise

theorem er_2 (x0 x1 x2 x3 : Vec Ideal S1x8x64x768 .f32) (x4 x5 : Vec Ideal S64x64 .f32) (m : Fin 64) (d : Fin 768) :
    k2_pay39 (k2_pay104 x0 x1 x2 x3 x4 x5) (k2_pay105 x0 x1 x2 x3 x4 x5) (k2_pay113 x0 x1 x2 x3 x4 x5) (k2_pay114 x0 x1 x2 x3 x4 x5) (k2_pay115 x0 x1 x2 x3 x4 x5) (k2_pay112 x0 x1 x2 x3 x4 x5) (View.ld x2 r2_3) (View.ld x3 r2_3) (ix4 0 0 m d)
      = Steps.er (fun k j => x4 (ix2 k j)) (fun k j => x5 (ix2 k j)) (fun n => x0 (ix4 0 2 n d)) (fun n => x1 (ix4 0 2 n d))
          (fun n => x2 (ix4 0 2 n d)) (fun n => x3 (ix4 0 2 n d)) m := by
  unfold Steps.er Steps.sr Steps.si Steps.x2r Steps.x2i
  unfold_payloads
  pointwise

theorem er_1 (x0 x1 x2 x3 : Vec Ideal S1x8x64x768 .f32) (x4 x5 : Vec Ideal S64x64 .f32) (m : Fin 64) (d : Fin 768) :
    k2_pay27 (k2_pay104 x0 x1 x2 x3 x4 x5) (k2_pay105 x0 x1 x2 x3 x4 x5) (k2_pay108 x0 x1 x2 x3 x4 x5) (k2_pay109 x0 x1 x2 x3 x4 x5) (k2_pay110 x0 x1 x2 x3 x4 x5) (k2_pay111 x0 x1 x2 x3 x4 x5) (ix4 0 0 m d)
      = Steps.er (fun k j => x4 (ix2 k j)) (fun k j => x5 (ix2 k j)) (fun n => x0 (ix4 0 1 n d)) (fun n => x1 (ix4 0 1 n d))
          (fun n => x2 (ix4 0 1 n d)) (fun n => x3 (ix4 0 1 n d)) m := by
  unfold Steps.er Steps.sr Steps.si Steps.x2r Steps.x2i
  unfold_payloads
  pointwise

theorem er_0 (x0 x1 x2 x3 : Vec Ideal S1x8x64x768 .f32) (x4 x5 : Vec Ideal S64x64 .f32) (m : Fin 64) (d : Fin 768) :
    k2_pay15 (k2_pay104 x0 x1 x2 x3 x4 x5) (k2_pay105 x0 x1 x2 x3 x4 x5) (k2_pay106 x0 x1 x2 x3 x4 x5) (k2_pay107 x0 x1 x2 x3 x4 x5) (ix4 0 0 m d)
      = Steps.er (fun k j => x4 (ix2 k j)) (fun k j => x5 (ix2 k j)) (fun n => x0 (ix4 0 0 n d)) (fun n => x1 (ix4 0 0 n d))
          (fun n => x2 (ix4 0 0 n d)) (fun n => x3 (ix4 0 0 n d)) m := by
  unfold Steps.er Steps.sr Steps.si Steps.x2r Steps.x2i
  unfold_payloads
  pointwise

theorem out6_at (x0 x1 x2 x3 : Vec Ideal S1x8x64x768 .f32) (x4 x5 : Vec Ideal S64x64 .f32) (s : Fin 8) (m : Fin 64) (d : Fin 768) :
    out2_6 x0 x1 x2 x3 x4 x5 (ix4 0 s m d)
      = Steps.er (fun k j => x4 (ix2 k j)) (fun k j => x5 (ix2 k j)) (fun n => x0 (ix4 0 s n d)) (fun n => x1 (ix4 0 s n d))
          (fun n => x2 (ix4 0 s n d)) (fun n => x3 (ix4 0 s n d)) m := by
  let G : Vec Ideal S1x8x64x768 .f32 := fun y => Steps.er (fun k j => x4 (ix2 k j)) (fun k j => x5 (ix2 k j))
    (fun n => x0 (ix4 0 (y 1) n (y 3))) (fun n => x1 (ix4 0 (y 1) n (y 3))) (fun n => x2 (ix4 0 (y 1) n (y 3))) (fun n => x3 (ix4 0 (y 1) n (y 3))) (y 2)
  unfold out2_6
  refine (View.canon_apply_of_pieces G _ (fun p hp x => ?_) (ix4 0 s m d) (cover2_6 _ _ _ _ _ _ _ _ _)).trans rfl
  simp only [List.mem_cons, List.not_mem_nil, or_false] at hp
  rcases hp with rfl | rfl | rfl | rfl | rfl | rfl | rfl | rfl
  · obtain ⟨y0, y1, y2, y3, rfl⟩ : ∃ (y0 : Fin 1) (y1 : Fin 1) (y2 : Fin 64) (y3 : Fin 768), x = ix4 y0 y1 y2 y3 :=
      ⟨x 0, x 1, x 2, x 3, by funext i; fin_cases i <;> rfl⟩
    obtain rfl : y0 = 0 := Subsingleton.elim _ _
    obtain rfl : y1 = 0 := Subsingleton.elim _ _
    have he : (r2_8.emb (ix4 0 0 y2 y3) : S1x8x64x768.Idx) = ix4 0 7 y2 y3 := by blk_ext
    exact (er_7 x0 x1 x2 x3 x4 x5 y2 y3).trans (congrArg G he).symm
  · obtain ⟨y0, y1, y2, y3, rfl⟩ : ∃ (y0 : Fin 1) (y1 : Fin 1) (y2 : Fin 64) (y3 : Fin 768), x = ix4 y0 y1 y2 y3 :=
      ⟨x 0, x 1, x 2, x 3, by funext i; fin_cases i <;> rfl⟩
    obtain rfl : y0 = 0 := Subsingleton.elim _ _
    obtain rfl : y1 = 0 := Subsingleton.elim _ _
    have he : (r2_7.emb (ix4 0 0 y2 y3) : S1x8x64x768.Idx) = ix4 0 6 y2 y3 := by blk_ext
    exact (er_6 x0 x1 x2 x3 x4 x5 y2 y3).trans (congrArg G he).symm
  · obtain ⟨y0, y1, y2, y3, rfl⟩ : ∃ (y0 : Fin 1) (y1 : Fin 1) (y2 : Fin 64) (y3 : Fin 768), x = ix4 y0 y1 y2 y3 :=
      ⟨x 0, x 1, x 2, x 3, by funext i; fin_cases i <;> rfl⟩
    obtain rfl : y0 = 0 := Subsingleton.elim _ _
    obtain rfl : y1 = 0 := Subsingleton.elim _ _
    have he : (r2_6.emb (ix4 0 0 y2 y3) : S1x8x64x768.Idx) = ix4 0 5 y2 y3 := by blk_ext
    exact (er_5 x0 x1 x2 x3 x4 x5 y2 y3).trans (congrArg G he).symm
  · obtain ⟨y0, y1, y2, y3, rfl⟩ : ∃ (y0 : Fin 1) (y1 : Fin 1) (y2 : Fin 64) (y3 : Fin 768), x = ix4 y0 y1 y2 y3 :=
      ⟨x 0, x 1, x 2, x 3, by funext i; fin_cases i <;> rfl⟩
    obtain rfl : y0 = 0 := Subsingleton.elim _ _
    obtain rfl : y1 = 0 := Subsingleton.elim _ _
    have he : (r2_5.emb (ix4 0 0 y2 y3) : S1x8x64x768.Idx) = ix4 0 4 y2 y3 := by blk_ext
    exact (er_4 x0 x1 x2 x3 x4 x5 y2 y3).trans (congrArg G he).symm
  · obtain ⟨y0, y1, y2, y3, rfl⟩ : ∃ (y0 : Fin 1) (y1 : Fin 1) (y2 : Fin 64) (y3 : Fin 768), x = ix4 y0 y1 y2 y3 :=
      ⟨x 0, x 1, x 2, x 3, by funext i; fin_cases i <;> rfl⟩
    obtain rfl : y0 = 0 := Subsingleton.elim _ _
    obtain rfl : y1 = 0 := Subsingleton.elim _ _
    have he : (r2_4.emb (ix4 0 0 y2 y3) : S1x8x64x768.Idx) = ix4 0 3 y2 y3 := by blk_ext
    exact (er_3 x0 x1 x2 x3 x4 x5 y2 y3).trans (congrArg G he).symm
  · obtain ⟨y0, y1, y2, y3, rfl⟩ : ∃ (y0 : Fin 1) (y1 : Fin 1) (y2 : Fin 64) (y3 : Fin 768), x = ix4 y0 y1 y2 y3 :=
      ⟨x 0, x 1, x 2, x 3, by funext i; fin_cases i <;> rfl⟩
    obtain rfl : y0 = 0 := Subsingleton.elim _ _
    obtain rfl : y1 = 0 := Subsingleton.elim _ _
    have he : (r2_3.emb (ix4 0 0 y2 y3) : S1x8x64x768.Idx) = ix4 0 2 y2 y3 := by blk_ext
    exact (er_2 x0 x1 x2 x3 x4 x5 y2 y3).trans (congrArg G he).symm
  · obtain ⟨y0, y1, y2, y3, rfl⟩ : ∃ (y0 : Fin 1) (y1 : Fin 1) (y2 : Fin 64) (y3 : Fin 768), x = ix4 y0 y1 y2 y3 :=
      ⟨x 0, x 1, x 2, x 3, by funext i; fin_cases i <;> rfl⟩
    obtain rfl : y0 = 0 := Subsingleton.elim _ _
    obtain rfl : y1 = 0 := Subsingleton.elim _ _
    have he : (r2_2.emb (ix4 0 0 y2 y3) : S1x8x64x768.Idx) = ix4 0 1 y2 y3 := by blk_ext
    exact (er_1 x0 x1 x2 x3 x4 x5 y2 y3).trans (congrArg G he).symm
  · obtain ⟨y0, y1, y2, y3, rfl⟩ : ∃ (y0 : Fin 1) (y1 : Fin 1) (y2 : Fin 64) (y3 : Fin 768), x = ix4 y0 y1 y2 y3 :=
      ⟨x 0, x 1, x 2, x 3, by funext i; fin_cases i <;> rfl⟩
    obtain rfl : y0 = 0 := Subsingleton.elim _ _
    obtain rfl : y1 = 0 := Subsingleton.elim _ _
    have he : (r2_1.emb (ix4 0 0 y2 y3) : S1x8x64x768.Idx) = ix4 0 0 y2 y3 := by blk_ext
    exact (er_0 x0 x1 x2 x3 x4 x5 y2 y3).trans (congrArg G he).symm

theorem out6_fin (x0 x1 x2 x3 : Vec Ideal S1x8x64x768 .f32) (x4 x5 : Vec Ideal S64x64 .f32) (s : Fin 8) (m : Fin 64) (d : Fin 768)
    (X0 X1 X2 X3 : FVec Ideal S4x64x64x768 .f32) (FR FI : FVec Ideal S64x64 .f32) (b : Fin 4) (r : Fin 64)
    (hfr : ∀ i j, x4 (ix2 i j) = FR (ix2 i j)) (hfi : ∀ i j, x5 (ix2 i j) = FI (ix2 i j))
    (h0 : ∀ n, x0 (ix4 0 s n d) = X0 (ix4 b r n d)) (h1 : ∀ n, x1 (ix4 0 s n d) = X1 (ix4 b r n d))
    (h2 : ∀ n, x2 (ix4 0 s n d) = X2 (ix4 b r n d)) (h3 : ∀ n, x3 (ix4 0 s n d) = X3 (ix4 b r n d)) :
    out2_6 x0 x1 x2 x3 x4 x5 (ix4 0 s m d) = g2r FR FI X0 X1 X2 X3 (ix4 b r m d) := by
  rw [out6_at]
  simp only [hfr, hfi, h0, h1, h2, h3]
  rfl

theorem ei_7 (x0 x1 x2 x3 : Vec Ideal S1x8x64x768 .f32) (x4 x5 : Vec Ideal S64x64 .f32) (m : Fin 64) (d : Fin 768) :
    k2_pay2 (k2_pay104 x0 x1 x2 x3 x4 x5) (k2_pay105 x0 x1 x2 x3 x4 x5) (k2_pay101 (k2_pay104 x0 x1 x2 x3 x4 x5) (k2_pay105 x0 x1 x2 x3 x4 x5) (View.ld x0 r2_8) (View.ld x1 r2_8) (View.ld x2 r2_8) (View.ld x3 r2_8)) (k2_pay102 (k2_pay104 x0 x1 x2 x3 x4 x5) (k2_pay105 x0 x1 x2 x3 x4 x5) (View.ld x0 r2_8) (View.ld x1 r2_8) (View.ld x2 r2_8) (View.ld x3 r2_8)) (ix4 0 0 m d)
      = Steps.ei (fun k j => x4 (ix2 k j)) (fun k j => x5 (ix2 k j)) (fun n => x0 (ix4 0 7 n d)) (fun n => x1 (ix4 0 7 n d))
          (fun n => x2 (ix4 0 7 n d)) (fun n => x3 (ix4 0 7 n d)) m := by
  unfold Steps.ei Steps.sr Steps.si Steps.x2r Steps.x2i
  unfold_payloads
  pointwise

theorem ei_6 (x0 x1 x2 x3 : Vec Ideal S1x8x64x768 .f32) (x4 x5 : Vec Ideal S64x64 .f32) (m : Fin 64) (d : Fin 768) :
    k2_pay92 (k2_pay91 (k2_pay104 x0 x1 x2 x3 x4 x5) (k2_pay105 x0 x1 x2 x3 x4 x5) (k2_pay125 x0 x1 x2 x3 x4 x5) (k2_pay126 x0 x1 x2 x3 x4 x5) (k2_pay127 x0 x1 x2 x3 x4 x5) (View.ld x2 r2_7) (View.ld x3 r2_7)) (ix4 0 0 m d)
      = Steps.ei (fun k j => x4 (ix2 k j)) (fun k j => x5 (ix2 k j)) (fun n => x0 (ix4 0 6 n d)) (fun n => x1 (ix4 0 6 n d))
          (fun n => x2 (ix4 0 6 n d)) (fun n => x3 (ix4 0 6 n d)) m := by
  unfold Steps.ei Steps.sr Steps.si Steps.x2r Steps.x2i
  unfold_payloads
  pointwise

theorem ei_5 (x0 x1 x2 x3 : Vec Ideal S1x8x64x768 .f32) (x4 x5 : Vec Ideal S64x64 .f32) (m : Fin 64) (d : Fin 768) :
    k2_pay78 (k2_pay104 x0 x1 x2 x3 x4 x5) (k2_pay105 x0 x1 x2 x3 x4 x5) (k2_pay122 x0 x1 x2 x3 x4 x5) (k2_pay123 x0 x1 x2 x3 x4 x5) (k2_pay124 x0 x1 x2 x3 x4 x5) (View.ld x3 r2_6) (ix4 0 0 m d)
      = Steps.ei (fun k j => x4 (ix2 k j)) (fun k j => x5 (ix2 k j)) (fun n => x0 (ix4 0 5 n d)) (fun n => x1 (ix4 0 5 n d))
          (fun n => x2 (ix4 0 5 n d)) (fun n => x3 (ix4 0 5 n d)) m := by
  unfold Steps.ei Steps.sr Steps.si Steps.x2r Steps.x2i
  unfold_payloads
  pointwise

theorem ei_4 (x0 x1 x2 x3 : Vec Ideal S1x8x64x768 .f32) (x4 x5 : Vec Ideal S64x64 .f32) (m : Fin 64) (d : Fin 768) :
    k2_pay66 (k2_pay104 x0 x1 x2 x3 x4 x5) (k2_pay105 x0 x1 x2 x3 x4 x5) (k2_pay116 x0 x1 x2 x3 x4 x5) (k2_pay117 x0 x1 x2 x3 x4 x5) (k2_pay118 x0 x1 x2 x3 x4 x5) (k2_pay119 x0 x1 x2 x3 x4 x5) (k2_pay120 x0 x1 x2 x3 x4 x5) (k2_pay121 x0 x1 x2 x3 x4 x5) (ix4 0 0 m d)
      = Steps.ei (fun k j => x4 (ix2 k j)) (fun k j => x5 (ix2 k j)) (fun n => x0 (ix4 0 4 n d)) (fun n => x1 (ix4 0 4 n d))
          (fun n => x2 (ix4 0 4 n d)) (fun n => x3 (ix4 0 4 n d)) m := by
  unfold Steps.ei Steps.sr Steps.si Steps.x2r Steps.x2i
  unfold_payloads
  pointwise

theorem ei_3 (x0 x1 x2 x3 : Vec Ideal S1x8x64x768 .f32) (x4 x5 : Vec Ideal S64x64 .f32) (m : Fin 64) (d : Fin 768) :
    k2_pay52 (k2_pay104 x0 x1 x2 x3 x4 x5) (k2_pay105 x0 x1 x2 x3 x4 x5) (k2_pay49 (k2_pay104 x0 x1 x2 x3 x4 x5) (k2_pay105 x0 x1 x2 x3 x4 x5) (View.ld x0 r2_4) (View.ld x1 r2_4) (View.ld x2 r2_4) (View.ld x3 r2_4)) (k2_pay50 (k2_pay104 x0 x1 x2 x3 x4 x5) (k2_pay105 x0 x1 x2 x3 x4 x5) (View.ld x0 r2_4) (View.ld x1 r2_4) (View.ld x2 r2_4) (View.ld x3 r2_4)) (ix4 0 0 m d)
      = Steps.ei (fun k j => x4 (ix2 k j)) (fun k j => x5 (ix2 k j)) (fun n => x0 (ix4 0 3 n d)) (fun n => x1 (ix4 0 3 n d))
          (fun n => x2 (ix4 0 3 n d)) (fun n => x3 (ix4 0 3 n d)) m := by
  unfold Steps.ei Steps.sr Steps.si Steps.x2r Steps.x2i
  unfold_payloads
  pointwise

theorem ei_2 (x0 x1 x2 x3 : Vec Ideal S1x8x64x768 .f32) (x4 x5 : Vec Ideal S64x64 .f32) (m : Fin 64) (d : Fin 768) :
    k2_pay40 (k2_pay104 x0 x1 x2 x3 x4 x5) (k2_pay105 x0 x1 x2 x3 x4 x5) (k2_pay113 x0 x1 x2 x3 x4 x5) (k2_pay114 x0 x1 x2 x3 x4 x5) (k2_pay115 x0 x1 x2 x3 x4 x5) (k2_pay112 x0 x1 x2 x3 x4 x5) (View.ld x2 r2_3) (View.ld x3 r2_3) (ix4 0 0 m d)
      = Steps.ei (fun k j => x4 (ix2 k j)) (fun k j => x5 (ix2 k j)) (fun n => x0 (ix4 0 2 n d)) (fun n => x1 (ix4 0 2 n d))
          (fun n => x2 (ix4 0 2 n d)) (fun n => x3 (ix4 0 2 n d)) m := by
  unfold Steps.ei Steps.sr Steps.si Steps.x2r Steps.x2i
  unfold_payloads
  pointwise

theorem ei_1 (x0 x1 x2 x3 : Vec Ideal S1x8x64x768 .f32) (x4 x5 : Vec Ideal S64x64 .f32) (m : Fin 64) (d : Fin 768) :
    k2_pay28 (k2_pay104 x0 x1 x2 x3 x4 x5) (k2_pay105 x0 x1 x2 x3 x4 x5) (k2_pay108 x0 x1 x2 x3 x4 x5) (k2_pay109 x0 x1 x2 x3 x4 x5) (k2_pay110 x0 x1 x2 x3 x4 x5) (k2_pay111 x0 x1 x2 x3 x4 x5) (ix4 0 0 m d)
      = Steps.ei (fun k j => x4 (ix2 k j)) (fun k j => x5 (ix2 k j)) (fun n => x0 (ix4 0 1 n d)) (fun n => x1 (ix4 0 1 n d))
          (fun n => x2 (ix4 0 1 n d)) (fun n => x3 (ix4 0 1 n d)) m := by
  unfold Steps.ei Steps.sr Steps.si Steps.x2r Steps.x2i
  unfold_payloads
  pointwise

theorem ei_0 (x0 x1 x2 x3 : Vec Ideal S1x8x64x768 .f32) (x4 x5 : Vec Ideal S64x64 .f32) (m : Fin 64) (d : Fin 768) :
    k2_pay16 (k2_pay104 x0 x1 x2 x3 x4 x5) (k2_pay105 x0 x1 x2 x3 x4 x5) (k2_pay106 x0 x1 x2 x3 x4 x5) (k2_pay107 x0 x1 x2 x3 x4 x5) (ix4 0 0 m d)
      = Steps.ei (fun k j => x4 (ix2 k j)) (fun k j => x5 (ix2 k j)) (fun n => x0 (ix4 0 0 n d)) (fun n => x1 (ix4 0 0 n d))
          (fun n => x2 (ix4 0 0 n d)) (fun n => x3 (ix4 0 0 n d)) m := by
  unfold Steps.ei Steps.sr Steps.si Steps.x2r Steps.x2i
  unfold_payloads
  pointwise

theorem out7_at (x0 x1 x2 x3 : Vec Ideal S1x8x64x768 .f32) (x4 x5 : Vec Ideal S64x64 .f32) (s : Fin 8) (m : Fin 64) (d : Fin 768) :
    out2_7 x0 x1 x2 x3 x4 x5 (ix4 0 s m d)
      = Steps.ei (fun k j => x4 (ix2 k j)) (fun k j => x5 (ix2 k j)) (fun n => x0 (ix4 0 s n d)) (fun n => x1 (ix4 0 s n d))
          (fun n => x2 (ix4 0 s n d)) (fun n => x3 (ix4 0 s n d)) m := by
  let G : Vec Ideal S1x8x64x768 .f32 := fun y => Steps.ei (fun k j => x4 (ix2 k j)) (fun k j => x5 (ix2 k j))
    (fun n => x0 (ix4 0 (y 1) n (y 3))) (fun n => x1 (ix4 0 (y 1) n (y 3))) (fun n => x2 (ix4 0 (y 1) n (y 3))) (fun n => x3 (ix4 0 (y 1) n (y 3))) (y 2)
  unfold out2_7
  refine (View.canon_apply_of_pieces G _ (fun p hp x => ?_) (ix4 0 s m d) (cover2_7 _ _ _ _ _ _ _ _ _)).trans rfl
  simp only [List.mem_cons, List.not_mem_nil, or_false] at hp
  rcases hp with rfl | rfl | rfl | rfl | rfl | rfl | rfl | rfl
  · obtain ⟨y0, y1, y2, y3, rfl⟩ : ∃ (y0 : Fin 1) (y1 : Fin 1) (y2 : Fin 64) (y3 : Fin 768), x = ix4 y0 y1 y2 y3 :=
      ⟨x 0, x 1, x 2, x 3, by funext i; fin_cases i <;> rfl⟩
    obtain rfl : y0 = 0 := Subsingleton.elim _ _
    obtain rfl : y1 = 0 := Subsingleton.elim _ _
    have he : (r2_8.emb (ix4 0 0 y2 y3) : S1x8x64x768.Idx) = ix4 0 7 y2 y3 := by blk_ext
    exact (ei_7 x0 x1 x2 x3 x4 x5 y2 y3).trans (congrArg G he).symm
  · obtain ⟨y0, y1, y2, y3, rfl⟩ : ∃ (y0 : Fin 1) (y1 : Fin 1) (y2 : Fin 64) (y3 : Fin 768), x = ix4 y0 y1 y2 y3 :=
      ⟨x 0, x 1, x 2, x 3, by funext i; fin_cases i <;> rfl⟩
    obtain rfl : y0 = 0 := Subsingleton.elim _ _
    obtain rfl : y1 = 0 := Subsingleton.elim _ _
    have he : (r2_7.emb (ix4 0 0 y2 y3) : S1x8x64x768.Idx) = ix4 0 6 y2 y3 := by blk_ext
    exact (ei_6 x0 x1 x2 x3 x4 x5 y2 y3).trans (congrArg G he).symm
  · obtain ⟨y0, y1, y2, y3, rfl⟩ : ∃ (y0 : Fin 1) (y1 : Fin 1) (y2 : Fin 64) (y3 : Fin 768), x = ix4 y0 y1 y2 y3 :=
      ⟨x 0, x 1, x 2, x 3, by funext i; fin_cases i <;> rfl⟩
    obtain rfl : y0 = 0 := Subsingleton.elim _ _
    obtain rfl : y1 = 0 := Subsingleton.elim _ _
    have he : (r2_6.emb (ix4 0 0 y2 y3) : S1x8x64x768.Idx) = ix4 0 5 y2 y3 := by blk_ext
    exact (ei_5 x0 x1 x2 x3 x4 x5 y2 y3).trans (congrArg G he).symm
  · obtain ⟨y0, y1, y2, y3, rfl⟩ : ∃ (y0 : Fin 1) (y1 : Fin 1) (y2 : Fin 64) (y3 : Fin 768), x = ix4 y0 y1 y2 y3 :=
      ⟨x 0, x 1, x 2, x 3, by funext i; fin_cases i <;> rfl⟩
    obtain rfl : y0 = 0 := Subsingleton.elim _ _
    obtain rfl : y1 = 0 := Subsingleton.elim _ _
    have he : (r2_5.emb (ix4 0 0 y2 y3) : S1x8x64x768.Idx) = ix4 0 4 y2 y3 := by blk_ext
    exact (ei_4 x0 x1 x2 x3 x4 x5 y2 y3).trans (congrArg G he).symm
  · obtain ⟨y0, y1, y2, y3, rfl⟩ : ∃ (y0 : Fin 1) (y1 : Fin 1) (y2 : Fin 64) (y3 : Fin 768), x = ix4 y0 y1 y2 y3 :=
      ⟨x 0, x 1, x 2, x 3, by funext i; fin_cases i <;> rfl⟩
    obtain rfl : y0 = 0 := Subsingleton.elim _ _
    obtain rfl : y1 = 0 := Subsingleton.elim _ _
    have he : (r2_4.emb (ix4 0 0 y2 y3) : S1x8x64x768.Idx) = ix4 0 3 y2 y3 := by blk_ext
    exact (ei_3 x0 x1 x2 x3 x4 x5 y2 y3).trans (congrArg G he).symm
  · obtain ⟨y0, y1, y2, y3, rfl⟩ : ∃ (y0 : Fin 1) (y1 : Fin 1) (y2 : Fin 64) (y3 : Fin 768), x = ix4 y0 y1 y2 y3 :=
      ⟨x 0, x 1, x 2, x 3, by funext i; fin_cases i <;> rfl⟩
    obtain rfl : y0 = 0 := Subsingleton.elim _ _
    obtain rfl : y1 = 0 := Subsingleton.elim _ _
    have he : (r2_3.emb (ix4 0 0 y2 y3) : S1x8x64x768.Idx) = ix4 0 2 y2 y3 := by blk_ext
    exact (ei_2 x0 x1 x2 x3 x4 x5 y2 y3).trans (congrArg G he).symm
  · obtain ⟨y0, y1, y2, y3, rfl⟩ : ∃ (y0 : Fin 1) (y1 : Fin 1) (y2 : Fin 64) (y3 : Fin 768), x = ix4 y0 y1 y2 y3 :=
      ⟨x 0, x 1, x 2, x 3, by funext i; fin_cases i <;> rfl⟩
    obtain rfl : y0 = 0 := Subsingleton.elim _ _
    obtain rfl : y1 = 0 := Subsingleton.elim _ _
    have he : (r2_2.emb (ix4 0 0 y2 y3) : S1x8x64x768.Idx) = ix4 0 1 y2 y3 := by blk_ext
    exact (ei_1 x0 x1 x2 x3 x4 x5 y2 y3).trans (congrArg G he).symm
  · obtain ⟨y0, y1, y2, y3, rfl⟩ : ∃ (y0 : Fin 1) (y1 : Fin 1) (y2 : Fin 64) (y3 : Fin 768), x = ix4 y0 y1 y2 y3 :=
      ⟨x 0, x 1, x 2, x 3, by funext i; fin_cases i <;> rfl⟩
    obtain rfl : y0 = 0 := Subsingleton.elim _ _
    obtain rfl : y1 = 0 := Subsingleton.elim _ _
    have he : (r2_1.emb (ix4 0 0 y2 y3) : S1x8x64x768.Idx) = ix4 0 0 y2 y3 := by blk_ext
    exact (ei_0 x0 x1 x2 x3 x4 x5 y2 y3).trans (congrArg G he).symm

theorem out7_fin (x0 x1 x2 x3 : Vec Ideal S1x8x64x768 .f32) (x4 x5 : Vec Ideal S64x64 .f32) (s : Fin 8) (m : Fin 64) (d : Fin 768)
    (X0 X1 X2 X3 : FVec Ideal S4x64x64x768 .f32) (FR FI : FVec Ideal S64x64 .f32) (b : Fin 4) (r : Fin 64)
    (hfr : ∀ i j, x4 (ix2 i j) = FR (ix2 i j)) (hfi : ∀ i j, x5 (ix2 i j) = FI (ix2 i j))
    (h0 : ∀ n, x0 (ix4 0 s n d) = X0 (ix4 b r n d)) (h1 : ∀ n, x1 (ix4 0 s n d) = X1 (ix4 b r n d))
    (h2 : ∀ n, x2 (ix4 0 s n d) = X2 (ix4 b r n d)) (h3 : ∀ n, x3 (ix4 0 s n d) = X3 (ix4 b r n d)) :
    out2_7 x0 x1 x2 x3 x4 x5 (ix4 0 s m d) = g2i FR FI X0 X1 X2 X3 (ix4 b r m d) := by
  rw [out7_at]
  simp only [hfr, hfi, h0, h1, h2, h3]
  rfl

variable (V : (c : Dev nD) → (b : Ref sig .tc) → Buf (Elt Ideal) ((c.tc : Thread nD τ).loc b)) (c : Dev nD)

theorem exB (t : Fin cfg2.N) : ∃ b : Fin 4, b.val = (grid2.coords t 1).val := ⟨grid2.coords t 1, rfl⟩

theorem exR (t : Fin cfg2.N) (n : Fin 8) : ∃ r : Fin 64, r.val = (grid2.coords t 0).val * 8 + n.val :=
  ⟨⟨(grid2.coords t 0).val * 8 + n.val, by have h : (grid2.coords t 0).val < 8 := (grid2.coords t 0).isLt; have := n.isLt; omega⟩, rfl⟩

section reads

variable (t : Fin cfg2.N) (s : Fin 8) (j k : Fin 64) (d : Fin 768) (b : Fin 4) (r : Fin 64)
  (hb : b.val = (grid2.coords t 1).val) (hr : r.val = (grid2.coords t 0).val * 8 + s.val)

include hb hr in
theorem rd0 : iblk2 V c 0 t (ix4 0 s j d) = V c main_v60 (ix4 b r j d) := by
  have e := (idx t).1
  blk_ext [iblk2, e, hb, hr]

include hb hr in
theorem rd1 : iblk2 V c 1 t (ix4 0 s j d) = V c main_v61 (ix4 b r j d) := by
  have e := (idx t).2.1
  blk_ext [iblk2, e, hb, hr]

include hb hr in
theorem rd2 : iblk2 V c 2 t (ix4 0 s j d) = V c main_v62 (ix4 b r j d) := by
  have e := (idx t).2.2.1
  blk_ext [iblk2, e, hb, hr]

include hb hr in
theorem rd3 : iblk2 V c 3 t (ix4 0 s j d) = V c main_v63 (ix4 b r j d) := by
  have e := (idx t).2.2.2.1
  blk_ext [iblk2, e, hb, hr]

theorem rd4 : iblk2 V c 4 t (ix2 j k) = V c main_v8 (ix2 j k) := by
  have e := (idx t).2.2.2.2.1
  blk_ext [iblk2, e]

theorem rd5 : iblk2 V c 5 t (ix2 j k) = V c main_v18 (ix2 j k) := by
  have e := (idx t).2.2.2.2.2.1
  blk_ext [iblk2, e]

include hb hr in
theorem em6 : ((View.whole main_v64_0).slice (win2_6.rect t)).emb (ix4 0 s j d) = ix4 b r j d := by
  have e := (idx t).2.2.2.2.2.2.1
  blk_ext [e, hb, hr]

include hb hr in
theorem em7 : ((View.whole main_v64_1).slice (win2_7.rect t)).emb (ix4 0 s j d) = ix4 b r j d := by
  have e := (idx t).2.2.2.2.2.2.2
  blk_ext [e, hb, hr]

end reads

theorem er_arr : (dat2 V c).arrAt 6 cfg2.N
    = g2r (V c main_v8) (V c main_v18) (V c main_v60) (V c main_v61) (V c main_v62) (V c main_v63) := by
  refine (dat2 V c).arrAt_eq_of_covers 6 _ (by decide +kernel) fun t hf y => ?_
  blk_simp
  rw [after2_6]
  idx_vars y
  obtain rfl : y0 = 0 := Subsingleton.elim _ _
  obtain ⟨b, hb⟩ := exB t
  obtain ⟨r, hr⟩ := exR t y1
  rw [em6 t y1 y2 y3 b r hb hr]
  exact out6_fin _ _ _ _ _ _ y1 y2 y3 _ _ _ _ _ _ b r (rd4 V c t) (rd5 V c t) (fun n => rd0 V c t y1 n y3 b r hb hr)
    (fun n => rd1 V c t y1 n y3 b r hb hr) (fun n => rd2 V c t y1 n y3 b r hb hr) (fun n => rd3 V c t y1 n y3 b r hb hr)

theorem ei_arr : (dat2 V c).arrAt 7 cfg2.N
    = g2i (V c main_v8) (V c main_v18) (V c main_v60) (V c main_v61) (V c main_v62) (V c main_v63) := by
  refine (dat2 V c).arrAt_eq_of_covers 7 _ (by decide +kernel) fun t hf y => ?_
  blk_simp
  rw [after2_7]
  idx_vars y
  obtain rfl : y0 = 0 := Subsingleton.elim _ _
  obtain ⟨b, hb⟩ := exB t
  obtain ⟨r, hr⟩ := exR t y1
  rw [em7 t y1 y2 y3 b r hb hr]
  exact out7_fin _ _ _ _ _ _ y1 y2 y3 _ _ _ _ _ _ b r (rd4 V c t) (rd5 V c t) (fun n => rd0 V c t y1 n y3 b r hb hr)
    (fun n => rd1 V c t y1 n y3 b r hb hr) (fun n => rd2 V c t y1 n y3 b r hb hr) (fun n => rd3 V c t y1 n y3 b r hb hr)

end Cert.Reg2

end
-- ==== Proof.Reg3.lean ====
/- What the last call taken here leaves: the correlation, and its sums over groups of columns. -/
module

public import proofs.«01_k».proof.Proof.PayA
public import proofs.«01_k».proof.Proof.Steps
public import proofs.«01_k».proof.Proof.Gen.KernelIdeal.Frame
public import Idealize.ShloMosaic.Lib.Pipeline.ValueKit

@[expose] public section

set_option maxRecDepth 16384

noncomputable section

namespace Cert.Reg3

open Idealize.ShloMosaic Idealize.ShloMosaic.Pipeline Idealize.ShloMosaic.Thread Cert.KernelIdeal Cert.KernelIdeal.Gen

theorem idx : ∀ t : Fin grid3.N,
    win3_0.index t = ![(grid3.coords t 1).val, 0, (grid3.coords t 0).val]
    ∧ win3_1.index t = ![(grid3.coords t 1).val, 0, (grid3.coords t 0).val]
    ∧ win3_2.index t = ![0, 0]
    ∧ win3_3.index t = ![0, 0]
    ∧ win3_4.index t = ![0, (grid3.coords t 0).val]
    ∧ win3_5.index t = ![0, (grid3.coords t 0).val]
    ∧ win3_6.index t = ![0, 0]
    ∧ win3_7.index t = ![(grid3.coords t 1).val, 0, (grid3.coords t 0).val]
    ∧ win3_8.index t = ![(grid3.coords t 1).val * 8 + (grid3.coords t 0).val, 0, 0] := by
  decide +kernel

/-- The last transform of every column. -/
def g3 (fr fi : FVec Ideal S64x64 .f32) (tr ti : FVec Ideal S64x49152 .f32) (xr xi : FVec Ideal S4x64x49152 .f32) : FVec Ideal S4x64x49152 .f32 :=
  fun y => Steps.f3 (fun k j => fr (ix2 k j)) (fun k j => fi (ix2 k j)) (Ideal.ofBits FTy.f32 964689920#32)
    (fun k => tr (ix2 k (y 2))) (fun k => ti (ix2 k (y 2))) (fun k => xr (ix3 (y 0) k (y 2))) (fun k => xi (ix3 (y 0) k (y 2))) (y 1)

/-- Column `n` of the group of columns that row `a` of the partial sums takes. -/
def col (a : Fin 32) (n : Fin 6144) : Fin 49152 := ⟨a.val % 8 * 6144 + n.val, by have := n.isLt; omega⟩
def row (a : Fin 32) : Fin 4 := ⟨a.val / 8, by have := a.isLt; omega⟩

/-- The sums of every group of columns, each column with its weights. -/
def g3r (fr fi : FVec Ideal S64x64 .f32) (tr ti : FVec Ideal S64x49152 .f32) (xr xi : FVec Ideal S4x64x49152 .f32)
    (jo : FVec Ideal S6144x64 .f32) : FVec Ideal S32x64x64 .f32 :=
  fun y => ∑ n : Fin 6144, g3 fr fi tr ti xr xi (ix3 (row (y 0)) (y 1) (col (y 0) n)) * jo (ix2 n (y 2))

section fin

variable (fr fi : Vec Ideal S64x64 .f32) (tr ti : Vec Ideal S64x6144 .f32) (er ei : Vec Ideal S1x64x6144 .f32) (jo : Vec Ideal S6144x64 .f32)
    (FR FI : FVec Ideal S64x64 .f32) (TR TI : FVec Ideal S64x49152 .f32) (ER EI : FVec Ideal S4x64x49152 .f32) (JO : FVec Ideal S6144x64 .f32)
    (hfr : ∀ i j, fr (ix2 i j) = FR (ix2 i j)) (hfi : ∀ i j, fi (ix2 i j) = FI (ix2 i j))

include hfr hfi in
theorem f3_fin (k : Fin 64) (n : Fin 6144) (b : Fin 4) (r : Fin 49152)
    (htr : ∀ i, tr (ix2 i n) = TR (ix2 i r)) (hti : ∀ i, ti (ix2 i n) = TI (ix2 i r))
    (her : ∀ j, er (ix3 0 j n) = ER (ix3 b j r)) (hei : ∀ j, ei (ix3 0 j n) = EI (ix3 b j r)) :
    Pay.f3 fr fi tr ti er ei k n = g3 FR FI TR TI ER EI (ix3 b k r) := by
  show _ = Steps.f3 (fun k j => FR (ix2 k j)) (fun k j => FI (ix2 k j)) (Ideal.ofBits FTy.f32 964689920#32)
    (fun k => TR (ix2 k r)) (fun k => TI (ix2 k r)) (fun k => ER (ix3 b k r)) (fun k => EI (ix3 b k r)) k
  unfold Steps.f3 Pay.f3
  simp only [hfr, hfi, htr, hti, her, hei]

include hfr hfi in
theorem corr_fin (k : Fin 64) (n : Fin 6144) (b : Fin 4) (r : Fin 49152)
    (htr : ∀ i, tr (ix2 i n) = TR (ix2 i r)) (hti : ∀ i, ti (ix2 i n) = TI (ix2 i r))
    (her : ∀ j, er (ix3 0 j n) = ER (ix3 b j r)) (hei : ∀ j, ei (ix3 0 j n) = EI (ix3 b j r)) :
    k3_pay3 fr fi tr ti er ei (ix3 0 k n) = g3 FR FI TR TI ER EI (ix3 b k r) :=
  (Pay.f3_corr fr fi tr ti er ei k n).trans (f3_fin fr fi tr ti er ei FR FI TR TI ER EI hfr hfi k n b r htr hti her hei)

include hfr hfi in
theorem r_fin (k g : Fin 64) (a : Fin 32)
    (htr : ∀ i n, tr (ix2 i n) = TR (ix2 i (col a n))) (hti : ∀ i n, ti (ix2 i n) = TI (ix2 i (col a n)))
    (her : ∀ j n, er (ix3 0 j n) = ER (ix3 (row a) j (col a n))) (hei : ∀ j n, ei (ix3 0 j n) = EI (ix3 (row a) j (col a n)))
    (hjo : ∀ n g, jo (ix2 n g) = JO (ix2 n g)) :
    k3_pay1 (k3_pay4 fr fi tr ti er ei jo) (ix3 0 k g) = g3r FR FI TR TI ER EI JO (ix3 a k g) := by
  refine (Pay.f3_r fr fi tr ti er ei jo k g).trans ?_
  show _ = ∑ n : Fin 6144, g3 FR FI TR TI ER EI (ix3 (row a) k (col a n)) * JO (ix2 n g)
  refine Finset.sum_congr rfl fun n _ => ?_
  rw [f3_fin fr fi tr ti er ei FR FI TR TI ER EI hfr hfi k n (row a) (col a n) (fun i => htr i n) (fun i => hti i n) (fun j => her j n) (fun j => hei j n), hjo]

end fin

variable (V : (c : Dev nD) → (b : Ref sig .tc) → Buf (Elt Ideal) ((c.tc : Thread nD τ).loc b)) (c : Dev nD)

theorem exB (t : Fin cfg3.N) : ∃ b : Fin 4, b.val = (grid3.coords t 1).val := ⟨grid3.coords t 1, rfl⟩

theorem exR (t : Fin cfg3.N) (n : Fin 6144) : ∃ r : Fin 49152, r.val = (grid3.coords t 0).val * 6144 + n.val :=
  ⟨⟨(grid3.coords t 0).val * 6144 + n.val, by have h : (grid3.coords t 0).val < 8 := (grid3.coords t 0).isLt; have := n.isLt; omega⟩, rfl⟩

theorem exA (t : Fin cfg3.N) : ∃ a : Fin 32, a.val = (grid3.coords t 1).val * 8 + (grid3.coords t 0).val
    ∧ (row a).val = (grid3.coords t 1).val ∧ ∀ n, (col a n).val = (grid3.coords t 0).val * 6144 + n.val := by
  have h0 : (grid3.coords t 0).val < 8 := (grid3.coords t 0).isLt
  have h1 : (grid3.coords t 1).val < 4 := (grid3.coords t 1).isLt
  refine ⟨⟨(grid3.coords t 1).val * 8 + (grid3.coords t 0).val, by omega⟩, rfl, ?_, fun n => ?_⟩
  · show ((grid3.coords t 1).val * 8 + (grid3.coords t 0).val) / 8 = _
    omega
  · show ((grid3.coords t 1).val * 8 + (grid3.coords t 0).val) % 8 * 6144 + n.val = _
    omega

section reads

variable (t : Fin cfg3.N) (n : Fin 6144) (j k : Fin 64) (b : Fin 4) (r : Fin 49152) (a : Fin 32)
  (hb : b.val = (grid3.coords t 1).val) (hr : r.val = (grid3.coords t 0).val * 6144 + n.val)
  (ha : a.val = (grid3.coords t 1).val * 8 + (grid3.coords t 0).val)

include hb hr in
theorem rd0 : iblk3 V c 0 t (ix3 0 j n) = V c main_v65 (ix3 b j r) := by
  have e := (idx t).1
  blk_ext [iblk3, e, hb, hr]

include hb hr in
theorem rd1 : iblk3 V c 1 t (ix3 0 j n) = V c main_v66 (ix3 b j r) := by
  have e := (idx t).2.1
  blk_ext [iblk3, e, hb, hr]

theorem rd2 : iblk3 V c 2 t (ix2 j k) = V c main_v8 (ix2 j k) := by
  have e := (idx t).2.2.1
  blk_ext [iblk3, e]

theorem rd3 : iblk3 V c 3 t (ix2 j k) = V c main_v18 (ix2 j k) := by
  have e := (idx t).2.2.2.1
  blk_ext [iblk3, e]

include hr in
theorem rd4 : iblk3 V c 4 t (ix2 j n) = V c main_v29 (ix2 j r) := by
  have e := (idx t).2.2.2.2.1
  blk_ext [iblk3, e, hr]

include hr in
theorem rd5 : iblk3 V c 5 t (ix2 j n) = V c main_v41 (ix2 j r) := by
  have e := (idx t).2.2.2.2.2.1
  blk_ext [iblk3, e, hr]

theorem rd6 : iblk3 V c 6 t (ix2 n k) = V c main_v46 (ix2 n k) := by
  have e := (idx t).2.2.2.2.2.2.1
  blk_ext [iblk3, e]

include hb hr in
theorem em7 : ((View.whole main_v67_0).slice (win3_7.rect t)).emb (ix3 0 j n) = ix3 b j r := by
  have e := (idx t).2.2.2.2.2.2.2.1
  blk_ext [e, hb, hr]

include ha in
theorem em8 : ((View.whole main_v67_1).slice (win3_8.rect t)).emb (ix3 0 j k) = ix3 a j k := by
  have e := (idx t).2.2.2.2.2.2.2.2
  blk_ext [e, ha]

end reads

theorem corr_arr : (dat3 V c).arrAt 7 cfg3.N
    = g3 (V c main_v8) (V c main_v18) (V c main_v29) (V c main_v41) (V c main_v65) (V c main_v66) := by
  refine (dat3 V c).arrAt_eq_of_covers 7 _ (by decide +kernel) fun t hf y => ?_
  blk_simp
  rw [after3_7]
  frame_out
  idx_vars y
  obtain rfl : y0 = 0 := Subsingleton.elim _ _
  obtain ⟨b, hb⟩ := exB t
  obtain ⟨r, hr⟩ := exR t y2
  rw [em7 t y2 y1 b r hb hr]
  exact corr_fin _ _ _ _ _ _ _ _ _ _ _ _ (rd2 V c t) (rd3 V c t) y1 y2 b r (fun i => rd4 V c t y2 i r hr) (fun i => rd5 V c t y2 i r hr)
    (fun j => rd0 V c t y2 j b r hb hr) (fun j => rd1 V c t y2 j b r hb hr)

theorem r_arr : (dat3 V c).arrAt 8 cfg3.N
    = g3r (V c main_v8) (V c main_v18) (V c main_v29) (V c main_v41) (V c main_v65) (V c main_v66) (V c main_v46) := by
  refine (dat3 V c).arrAt_eq_of_covers 8 _ (by decide +kernel) fun t hf y => ?_
  blk_simp
  rw [after3_8]
  frame_out
  idx_vars y
  obtain rfl : y0 = 0 := Subsingleton.elim _ _
  obtain ⟨a, ha, hb, hr⟩ := exA t
  rw [em8 t y1 y2 a ha]
  exact r_fin _ _ _ _ _ _ _ _ _ _ _ _ _ _ (rd2 V c t) (rd3 V c t) y1 y2 a (fun i n => rd4 V c t n i _ (hr n)) (fun i n => rd5 V c t n i _ (hr n))
    (fun j n => rd0 V c t n j _ _ hb (hr n)) (fun j n => rd1 V c t n j _ _ hb (hr n)) (fun n g => rd6 V c t n g)

end Cert.Reg3

end
-- ==== Proof.Layout.lean ====
/- The rearrangements between the calls, read at an index. -/
module

public import proofs.«01_k».proof.Proof.Gen.KernelIdeal.Launch
public import proofs.«01_k».proof.Proof.Fourier
public import Idealize.ShloMosaic.Lib.Pointwise
public import Idealize.ShloMosaic.Lib.StableHlo.ReadAt

@[expose] public section

set_option maxRecDepth 16384

noncomputable section

namespace Cert.Layout

open Idealize.ShloMosaic Cert.KernelIdeal Cert.KernelIdeal.Gen

/-- Column of the wide layout: position `a` in its row, channel `d`. -/
def colOf (a : Fin 64) (d : Fin 768) : Fin 49152 := ⟨768 * a + d, by omega⟩

variable (V : Valuation τ sig (Elt Ideal)) (b : Fin 4) (k a m1 m2 : Fin 64) (d : Fin 768)

theorem v57_at : (StableHlo.after hostOps1 V (Proc.devRef .tc main_v57) : Vec Ideal S4x64x49152 .f32) (ix3 b k (colOf a d))
    = (V (Proc.devRef .tc main_v56_0) : Vec Ideal S4x4096x768 .f32) (ix3 b (Fourier.pos k a) d) := by
  after_reads_at
  refine congrArg _ (congrArg₂ (ix3 b) (Fin.ext ?_) (Fin.ext ?_)) <;> simp only [colOf, Fourier.pos] <;> omega

theorem v58_at : (StableHlo.after hostOps1 V (Proc.devRef .tc main_v58) : Vec Ideal S4x64x49152 .f32) (ix3 b k (colOf a d))
    = (V (Proc.devRef .tc main_v56_1) : Vec Ideal S4x4096x768 .f32) (ix3 b (Fourier.pos k a) d) := by
  after_reads_at
  refine congrArg _ (congrArg₂ (ix3 b) (Fin.ext ?_) (Fin.ext ?_)) <;> simp only [colOf, Fourier.pos] <;> omega

theorem v60_at : (StableHlo.after hostOps2 V (Proc.devRef .tc main_v60) : Vec Ideal S4x64x64x768 .f32) (ix4 b k a d)
    = (V (Proc.devRef .tc main_v59_0) : Vec Ideal S4x64x49152 .f32) (ix3 b k (colOf a d)) := by
  after_reads_at
  refine congrArg _ (congrArg (ix3 b k) (Fin.ext ?_)) <;> simp only [colOf] <;> omega

theorem v61_at : (StableHlo.after hostOps2 V (Proc.devRef .tc main_v61) : Vec Ideal S4x64x64x768 .f32) (ix4 b k a d)
    = (V (Proc.devRef .tc main_v59_1) : Vec Ideal S4x64x49152 .f32) (ix3 b k (colOf a d)) := by
  after_reads_at
  refine congrArg _ (congrArg (ix3 b k) (Fin.ext ?_)) <;> simp only [colOf] <;> omega

theorem v62_at : (StableHlo.after hostOps2 V (Proc.devRef .tc main_v62) : Vec Ideal S4x64x64x768 .f32) (ix4 b k a d)
    = (V (Proc.devRef .tc main_v59_2) : Vec Ideal S4x64x49152 .f32) (ix3 b k (colOf a d)) := by
  after_reads_at
  refine congrArg _ (congrArg (ix3 b k) (Fin.ext ?_)) <;> simp only [colOf] <;> omega

theorem v63_at : (StableHlo.after hostOps2 V (Proc.devRef .tc main_v63) : Vec Ideal S4x64x64x768 .f32) (ix4 b k a d)
    = (V (Proc.devRef .tc main_v59_3) : Vec Ideal S4x64x49152 .f32) (ix3 b k (colOf a d)) := by
  after_reads_at
  refine congrArg _ (congrArg (ix3 b k) (Fin.ext ?_)) <;> simp only [colOf] <;> omega

theorem v65_at : (StableHlo.after hostOps3 V (Proc.devRef .tc main_v65) : Vec Ideal S4x64x49152 .f32) (ix3 b k (colOf a d))
    = (V (Proc.devRef .tc main_v64_0) : Vec Ideal S4x64x64x768 .f32) (ix4 b k a d) := by
  after_reads_at
  refine congrArg _ (congrArg₂ (ix4 b k) (Fin.ext ?_) (Fin.ext ?_)) <;> simp only [colOf] <;> omega

theorem v66_at : (StableHlo.after hostOps3 V (Proc.devRef .tc main_v66) : Vec Ideal S4x64x49152 .f32) (ix3 b k (colOf a d))
    = (V (Proc.devRef .tc main_v64_1) : Vec Ideal S4x64x64x768 .f32) (ix4 b k a d) := by
  after_reads_at
  refine congrArg _ (congrArg₂ (ix4 b k) (Fin.ext ?_) (Fin.ext ?_)) <;> simp only [colOf] <;> omega

theorem v69_at (h : Fin 12) (e : Fin 64) (hd : d.val = 64 * h + e) :
    (StableHlo.after hostOps4 V (Proc.devRef .tc main_v69) : Vec Ideal S4x4096x12x64 .f32) (ix4 b (Fourier.pos m1 m2) h e)
    = (V (Proc.devRef .tc main_v67_0) : Vec Ideal S4x64x49152 .f32) (ix3 b m1 (colOf m2 d)) := by
  after_reads_at
  refine congrArg _ (congrArg₂ (ix3 b) (Fin.ext ?_) (Fin.ext ?_)) <;> simp only [colOf, Fourier.pos] <;> omega

theorem v72_at :
    (StableHlo.after hostOps4 V (Proc.devRef .tc main_v72) : Vec Ideal S4x64x64 .f32) (ix3 b m1 m2)
    = (V (Proc.devRef .tc main_v67_1) : Vec Ideal S32x64x64 .f32) (ix3 ⟨b * 8 + m2 / 8, by omega⟩ m1 ⟨m2 % 8, by omega⟩) := by
  after_reads_at

end Cert.Layout

end
-- ==== Proof.Tables.lean ====
/- The tables the kernel's host operations build, at the ideal reading. -/
module

public import proofs.«01_k».proof.Proof.Gen.KernelIdeal.Launch
public import proofs.«01_k».proof.Proof.Fourier
public import Idealize.ShloMosaic.Lib.Pointwise
public import Idealize.ShloMosaic.Lib.StableHlo.ReadAt
public import Idealize.ShloMosaic.Lib.IdealHost

@[expose] public section

set_option maxRecDepth 16384

noncomputable section

namespace Cert.Tables

open Idealize.ShloMosaic

/-! ## Constants -/

theorem c32 : Ideal.ofBits .f32 0x3D000000#32 = (((1 : ℝ) / 32 : ℝ) : EReal) := by
  simp [Ideal.ofBits, Ideal.ieee, -EReal.coe_mul]; norm_num

theorem c2048 : Ideal.ofBits .f32 0x3A000000#32 = (((1 : ℝ) / 2048 : ℝ) : EReal) := by
  simp [Ideal.ofBits, Ideal.ieee, -EReal.coe_mul]; norm_num

theorem c4096 : Ideal.ofBits .f32 0x39800000#32 = (((1 : ℝ) / 4096 : ℝ) : EReal) := by
  simp [Ideal.ofBits, Ideal.ieee, -EReal.coe_mul]; norm_num

theorem length : Ideal.ofBits .f32 0x45800000#32 = ((4096 : ℝ) : EReal) := by
  simp [Ideal.ofBits, Ideal.ieee, -EReal.coe_mul]; norm_num

theorem neg_one : Ideal.ofBits .f32 0xBF800000#32 = ((-1 : ℝ) : EReal) := by
  simp [Ideal.ofBits, Ideal.ieee, -EReal.coe_mul, -EReal.coe_neg]; norm_num

theorem angle_pi : Ideal.atan2 0 ((-1 : ℝ) : EReal) = ((Real.pi : ℝ) : EReal) := by
  have h : Ideal.atan2 ((0 : ℝ) : EReal) ((-1 : ℝ) : EReal)
      = ((if 0 < (-1 : ℝ) then Real.arctan (0 / (-1)) else if (-1 : ℝ) < 0 then
          (if (0 : ℝ) ≤ 0 then Real.arctan (0 / (-1)) + Real.pi else Real.arctan (0 / (-1)) - Real.pi)
        else if (0 : ℝ) < 0 then Real.pi / 2 else if (0 : ℝ) < 0 then -(Real.pi / 2) else 0 : ℝ) : EReal) := rfl
  rw [← EReal.coe_zero, h]
  norm_num

open Cert.KernelIdeal Cert.KernelIdeal.Gen

theorem sitofp_prod (j k : Fin 64) :
    (FloatOps.sitofp .f32 (IntOp.muli (BitVec.ofNat 32 j.val) (BitVec.ofNat 32 k.val)) : Ideal .f32)
      = ((((j : ℕ) * (k : ℕ) : ℕ) : ℝ) : EReal) := by
  have h : (IntOp.muli (BitVec.ofNat 32 j.val) (BitVec.ofNat 32 k.val)).toInt = ((j.val * k.val : ℕ) : ℤ) := by
    have : j.val * k.val < 4096 := by nlinarith [j.isLt, k.isLt]
    rw [show IntOp.muli (BitVec.ofNat 32 j.val) (BitVec.ofNat 32 k.val) = BitVec.ofNat 32 (j.val * k.val) from
      (BitVec.ofNat_mul ..).symm]
    rw [BitVec.toInt_eq_toNat_of_lt (by rw [BitVec.toNat_ofNat, Nat.mod_eq_of_lt (by omega)]; omega), BitVec.toNat_ofNat,
      Nat.mod_eq_of_lt (by omega)]
  show (((IntOp.muli (BitVec.ofNat 32 j.val) (BitVec.ofNat 32 k.val)).toInt : ℝ) : EReal) = _
  rw [h]
  norm_cast

variable (V : Valuation τ sig (Elt Ideal))

theorem fre_at (j k : Fin 64) :
    (StableHlo.after hostOps0 V (Proc.devRef .tc main_v8) : Vec Ideal S64x64 .f32) (ix2 j k) = ((Fourier.fr j k : ℝ) : EReal) := by
  after_reads_at
  rw [sitofp_prod, neg_one, angle_pi, c32, ← EReal.coe_mul, ← EReal.coe_mul, Ideal.cos_coe, Fourier.fr]
  ring_nf

theorem fim_at (j k : Fin 64) :
    (StableHlo.after hostOps0 V (Proc.devRef .tc main_v18) : Vec Ideal S64x64 .f32) (ix2 j k) = ((Fourier.fi j k : ℝ) : EReal) := by
  after_reads_at
  rw [sitofp_prod, neg_one, angle_pi, c32, ← EReal.coe_mul, ← EReal.coe_mul, Ideal.sin_coe, Fourier.fi, ← EReal.coe_neg]
  ring_nf

theorem tre_at (j : Fin 64) (n : Fin 49152) (k : Fin 64) (h : n.val / 768 = k.val) :
    (StableHlo.after hostOps0 V (Proc.devRef .tc main_v29) : Vec Ideal S64x49152 .f32) (ix2 j n) = ((Fourier.tr j k : ℝ) : EReal) := by
  after_reads_at
  rw [h, sitofp_prod, neg_one, angle_pi, c2048, ← EReal.coe_mul, ← EReal.coe_mul, Ideal.cos_coe, Fourier.tr]
  ring_nf

theorem tim_at (j : Fin 64) (n : Fin 49152) (k : Fin 64) (h : n.val / 768 = k.val) :
    (StableHlo.after hostOps0 V (Proc.devRef .tc main_v41) : Vec Ideal S64x49152 .f32) (ix2 j n) = ((Fourier.ti j k : ℝ) : EReal) := by
  after_reads_at
  rw [h, sitofp_prod, neg_one, angle_pi, c2048, ← EReal.coe_mul, ← EReal.coe_mul, Ideal.sin_coe, Fourier.ti, ← EReal.coe_neg]
  ring_nf

/-! ## The channel-sum table -/

/-- Division by 768 as the host computes it on 32-bit words. -/
theorem word_div (n : Fin 6144) :
    Scalar.select
          (IntOp.andi
            (IntOp.cmpi CmpIPredicate.ne
              (if BitVec.ofNat 32 n.val = 0 then (0 : BitVec 32) else if (BitVec.ofNat 32 n.val).msb = true then -1 else 1)
              (if (768#32 : BitVec 32) = 0 then (0 : BitVec 32)
              else if BitVec.msb 768#32 = true then -1 else 1))
            (IntOp.cmpi CmpIPredicate.ne
              (IntOp.remsi ArithUnit.host (BitVec.ofNat 32 n.val) 768#32) 0#32))
          (IntOp.subi (IntOp.divsi ArithUnit.host (BitVec.ofNat 32 n.val) 768#32) 1#32)
          (IntOp.divsi ArithUnit.host (BitVec.ofNat 32 n.val) 768#32) = BitVec.ofNat 32 (n.val / 768) := by
  revert n
  decide +kernel

theorem word_eq (a g : Fin 64) :
    (FloatOps.uitofp .f32 (IntOp.cmpi CmpIPredicate.eq (BitVec.ofNat 32 a.val) (BitVec.ofNat 32 g.val)) : Ideal .f32)
      = if a.val = g.val then (1 : EReal) else 0 := by
  have h : ∀ a g : Fin 64, IntOp.cmpi CmpIPredicate.eq (BitVec.ofNat 32 a.val) (BitVec.ofNat 32 g.val)
      = if a.val = g.val then 1#1 else 0#1 := by decide +kernel
  rw [h]
  by_cases e : a.val = g.val
  · rw [if_pos e, if_pos e]
    show (((1#1 : BitVec 1).toNat : ℝ) : EReal) = 1
    norm_num
  · rw [if_neg e, if_neg e]
    show (((0#1 : BitVec 1).toNat : ℝ) : EReal) = 0
    norm_num

theorem group_at (n : Fin 6144) (g : Fin 64) :
    (StableHlo.after hostOps0_2 (StableHlo.after hostOps0_1 (StableHlo.after hostOps0 V)) (Proc.devRef .tc main_v46) : Vec Ideal S6144x64 .f32) (ix2 n g)
      = if n.val / 768 = g.val then (1 : EReal) else (0 : EReal) := by
  after_reads_at
  exact (congrArg (fun w => (FloatOps.uitofp .f32 (IntOp.cmpi CmpIPredicate.eq w (BitVec.ofNat 32 g.val)) : Ideal .f32)) (word_div n)).trans
    (word_eq ⟨n.val / 768, by omega⟩ g)

/-! ## The weights -/

theorem wqt_at (j d : Fin 768) :
    (StableHlo.after hostOps0_2 V (Proc.devRef .tc main_v47) : Vec Ideal S768x768 .f32) (ix2 j d)
      = (V (Proc.devRef .tc main_arg3) : Vec Ideal S768x768 .f32) (ix2 d j) := by
  after_reads_at

theorem wkt_at (j d : Fin 768) :
    (StableHlo.after hostOps0_2 V (Proc.devRef .tc main_v48) : Vec Ideal S768x768 .f32) (ix2 j d)
      = (V (Proc.devRef .tc main_arg5) : Vec Ideal S768x768 .f32) (ix2 d j) := by
  after_reads_at

theorem wvt_at (j d : Fin 768) :
    (StableHlo.after hostOps0_2 V (Proc.devRef .tc main_v49) : Vec Ideal S768x768 .f32) (ix2 j d)
      = (V (Proc.devRef .tc main_arg7) : Vec Ideal S768x768 .f32) (ix2 d j) := by
  after_reads_at

theorem wot_at (j d : Fin 768) :
    (StableHlo.after hostOps0_2 V (Proc.devRef .tc main_v50) : Vec Ideal S768x768 .f32) (ix2 j d)
      = (V (Proc.devRef .tc main_arg9) : Vec Ideal S768x768 .f32) (ix2 d j) := by
  after_reads_at

theorem bias0_at (d : Fin 768) :
    (StableHlo.after hostOps0_2 V (Proc.devRef .tc main_v55) : Vec Ideal S4x768 .f32) (ix2 0 d)
      = (V (Proc.devRef .tc main_arg4) : Vec Ideal S768 .f32) (ix1 d) := by
  after_reads_at
  rw [StableHlo.unary_result']
  pointwise
  have h := StableHlo.upto_unwritten (ops := hostOps0_2) (n := 7) (r := main_arg4) [main_v44, main_v45, main_v46, main_v47, main_v48, main_v49, main_v50] rfl (by decide) V
  rw [h]

theorem bias1_at (d : Fin 768) :
    (StableHlo.after hostOps0_2 V (Proc.devRef .tc main_v55) : Vec Ideal S4x768 .f32) (ix2 1 d)
      = (V (Proc.devRef .tc main_arg6) : Vec Ideal S768 .f32) (ix1 d) := by
  after_reads_at
  rw [StableHlo.unary_result']
  pointwise
  have h := StableHlo.upto_unwritten (ops := hostOps0_2) (n := 8) (r := main_arg6) [main_v44, main_v45, main_v46, main_v47, main_v48, main_v49, main_v50, main_v51] rfl (by decide) V
  rw [h]

theorem bias2_at (d : Fin 768) :
    (StableHlo.after hostOps0_2 V (Proc.devRef .tc main_v55) : Vec Ideal S4x768 .f32) (ix2 2 d)
      = (V (Proc.devRef .tc main_arg8) : Vec Ideal S768 .f32) (ix1 d) := by
  after_reads_at
  rw [StableHlo.unary_result']
  pointwise
  have h := StableHlo.upto_unwritten (ops := hostOps0_2) (n := 9) (r := main_arg8) [main_v44, main_v45, main_v46, main_v47, main_v48, main_v49, main_v50, main_v51, main_v52] rfl (by decide) V
  rw [h]

theorem bias3_at (d : Fin 768) :
    (StableHlo.after hostOps0_2 V (Proc.devRef .tc main_v55) : Vec Ideal S4x768 .f32) (ix2 3 d)
      = (V (Proc.devRef .tc main_arg10) : Vec Ideal S768 .f32) (ix1 d) := by
  after_reads_at
  rw [StableHlo.unary_result']
  pointwise
  have h := StableHlo.upto_unwritten (ops := hostOps0_2) (n := 10) (r := main_arg10) [main_v44, main_v45, main_v46, main_v47, main_v48, main_v49, main_v50, main_v51, main_v52, main_v53] rfl (by decide) V
  rw [h]

end Cert.Tables

end
-- ==== Proof.RefValue.lean ====
/- The reference's results at the ideal reading, on finite arguments: the real correlation. -/
module

public import proofs.«01_k».proof.Proof.Gen.ReferenceIdeal.Read
public import proofs.«01_k».proof.Proof.Tables
public import Idealize.ShloMosaic.Lib.Affine

@[expose] public section

set_option maxRecDepth 16384

noncomputable section

namespace Cert.RefValue

open Idealize.ShloMosaic Cert.ReferenceIdeal Cert.ReferenceIdeal.Read Cert.Fourier

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A projection of real arrays, as a sequence for each batch and channel. -/
def proj (X : Fin 4 → Fin 4096 → Fin 768 → ℝ) (W : Fin 768 → Fin 768 → ℝ) (b : Fin 768 → ℝ) (bt : Fin 4) (d : Fin 768)
    (l : Fin 4096) : ℝ := (∑ j, X bt l j * W d j) + b d

/-! ## The table -/

theorem word_rem (k n : Fin 4096) :
    (FloatOps.sitofp .f32 (IntOp.remsi ArithUnit.host (IntOp.muli (BitVec.ofNat 32 k.val) (BitVec.ofNat 32 n.val)) 4096#32) : Ideal .f32)
      = ((((k : ℕ) * (n : ℕ) % 4096 : ℕ) : ℝ) : EReal) := by
  have hlt : k.val * n.val < 16777216 := by nlinarith [k.isLt, n.isLt]
  have hm : IntOp.muli (BitVec.ofNat 32 k.val) (BitVec.ofNat 32 n.val) = BitVec.ofNat 32 (k.val * n.val) :=
    (BitVec.ofNat_mul ..).symm
  have hx : (BitVec.ofNat 32 (k.val * n.val)).toNat = k.val * n.val := by
    rw [BitVec.toNat_ofNat, Nat.mod_eq_of_lt (by omega)]
  have hr := IntOp.toNat_remsi ArithUnit.host (x := BitVec.ofNat 32 (k.val * n.val)) (by rw [hx]; omega) 4096 (by norm_num) (by norm_num)
  rw [hx] at hr
  rw [hm]
  show (((IntOp.remsi ArithUnit.host (BitVec.ofNat 32 (k.val * n.val)) (BitVec.ofNat 32 4096)).toInt : ℝ) : EReal) = _
  rw [BitVec.toInt_eq_toNat_of_lt (by rw [hr]; omega), hr]
  norm_cast

theorem cos_at (k n : Fin 4096) : val_main_v25 (F := Ideal) (ix2 k n) = ((cosT k n : ℝ) : EReal) := by
  pointwise [val_main_v25, val_main_v24, val_main_v20, val_main_v19, val_main_v17, val_main_v15, val_main_v16, val_main_v18, val_main_c,
    val_main_v23, val_main_v22, val_main_v21, val_main_cst, val_main_cst_0, val_main_cst_1]
  rw [word_rem, Tables.neg_one, Tables.angle_pi, Tables.c2048, ← EReal.coe_mul, ← EReal.coe_mul, Ideal.cos_coe, cosT]
  ring_nf

theorem sin_at (k n : Fin 4096) : val_main_v36 (F := Ideal) (ix2 k n) = ((sinT k n : ℝ) : EReal) := by
  pointwise [val_main_v36, val_main_v35, val_main_v31, val_main_v30, val_main_v28, val_main_v26, val_main_v27, val_main_v29, val_main_c_2,
    val_main_v34, val_main_v33, val_main_v32, val_main_cst_3, val_main_cst_4, val_main_cst_5]
  rw [word_rem, Tables.neg_one, Tables.angle_pi, Tables.c2048, ← EReal.coe_mul, ← EReal.coe_mul, Ideal.sin_coe, sinT]
  ring_nf

section values

variable {x0 x1 : Vec Ideal S4x4096x768 .f32} {x3 x5 : Vec Ideal S768x768 .f32} {x4 x6 : Vec Ideal S768 .f32}
  {Q K : Fin 4 → Fin 4096 → Fin 768 → ℝ} {Wq Wk : Fin 768 → Fin 768 → ℝ} {bq bk : Fin 768 → ℝ}

theorem q_at (h0 : ∀ b l j, x0 (ix3 b l j) = ((Q b l j : ℝ) : EReal)) (h3 : ∀ d j, x3 (ix2 d j) = ((Wq d j : ℝ) : EReal))
    (h4 : ∀ d, x4 (ix1 d) = ((bq d : ℝ) : EReal)) (b : Fin 4) (l : Fin 4096) (d : Fin 768) :
    val_main_v4 (F := Ideal) x0 x3 x4 (ix3 b l d) = ((proj Q Wq bq b d l : ℝ) : EReal) := by
  pointwise [val_main_v4, val_main_v3, val_main_v2, val_main_v1, val_main_v0]
  simp only [h0, h3, h4, ← EReal.coe_mul, coe_sum, ← EReal.coe_add, proj]

theorem k_at (h1 : ∀ b l j, x1 (ix3 b l j) = ((K b l j : ℝ) : EReal)) (h5 : ∀ d j, x5 (ix2 d j) = ((Wk d j : ℝ) : EReal))
    (h6 : ∀ d, x6 (ix1 d) = ((bk d : ℝ) : EReal)) (b : Fin 4) (l : Fin 4096) (d : Fin 768) :
    val_main_v9 (F := Ideal) x1 x5 x6 (ix3 b l d) = ((proj K Wk bk b d l : ℝ) : EReal) := by
  pointwise [val_main_v9, val_main_v8, val_main_v7, val_main_v6, val_main_v5]
  simp only [h1, h5, h6, ← EReal.coe_mul, coe_sum, ← EReal.coe_add, proj]

variable (h0 : ∀ b l j, x0 (ix3 b l j) = ((Q b l j : ℝ) : EReal)) (h3 : ∀ d j, x3 (ix2 d j) = ((Wq d j : ℝ) : EReal))
  (h4 : ∀ d, x4 (ix1 d) = ((bq d : ℝ) : EReal)) (h1 : ∀ b l j, x1 (ix3 b l j) = ((K b l j : ℝ) : EReal))
  (h5 : ∀ d j, x5 (ix2 d j) = ((Wk d j : ℝ) : EReal)) (h6 : ∀ d, x6 (ix1 d) = ((bk d : ℝ) : EReal))
  (b : Fin 4) (l : Fin 4096) (d : Fin 768)

include h0 h3 h4 in
theorem s1r_at : val_main_v38 (F := Ideal) x0 x3 x4 (ix3 b l d) = ((dftr (proj Q Wq bq b d) l : ℝ) : EReal) := by
  pointwise [val_main_v38, val_main_v37]
  simp only [q_at h0 h3 h4, cos_at, ← EReal.coe_mul, coe_sum, dftr, mul_comm]

include h0 h3 h4 in
theorem s1i_at : val_main_v41 (F := Ideal) x0 x3 x4 (ix3 b l d) = ((dfti (proj Q Wq bq b d) l : ℝ) : EReal) := by
  pointwise [val_main_v41, val_main_v40, val_main_v39]
  simp only [q_at h0 h3 h4, sin_at, ← EReal.coe_mul, coe_sum, ← EReal.coe_neg, dfti, mul_comm]

include h1 h5 h6 in
theorem s2r_at : val_main_v43 (F := Ideal) x1 x5 x6 (ix3 b l d) = ((dftr (proj K Wk bk b d) l : ℝ) : EReal) := by
  pointwise [val_main_v43, val_main_v42]
  simp only [k_at h1 h5 h6, cos_at, ← EReal.coe_mul, coe_sum, dftr, mul_comm]

include h1 h5 h6 in
theorem s2i_at : val_main_v46 (F := Ideal) x1 x5 x6 (ix3 b l d) = ((dfti (proj K Wk bk b d) l : ℝ) : EReal) := by
  pointwise [val_main_v46, val_main_v45, val_main_v44]
  simp only [k_at h1 h5 h6, sin_at, ← EReal.coe_mul, coe_sum, ← EReal.coe_neg, dfti, mul_comm]

include h0 h3 h4 h1 h5 h6 in
theorem pr_at : val_main_v49 (F := Ideal) x0 x1 x3 x4 x5 x6 (ix3 b l d)
    = ((pr (proj Q Wq bq b d) (proj K Wk bk b d) l : ℝ) : EReal) := by
  pointwise [val_main_v49, val_main_v48, val_main_v47]
  simp only [s1r_at h0 h3 h4, s1i_at h0 h3 h4, s2r_at h1 h5 h6, s2i_at h1 h5 h6, ← EReal.coe_mul, ← EReal.coe_add, pr]

include h0 h3 h4 h1 h5 h6 in
theorem pim_at : val_main_v52 (F := Ideal) x0 x1 x3 x4 x5 x6 (ix3 b l d)
    = ((pim (proj Q Wq bq b d) (proj K Wk bk b d) l : ℝ) : EReal) := by
  pointwise [val_main_v52, val_main_v51, val_main_v50]
  simp only [s1r_at h0 h3 h4, s1i_at h0 h3 h4, s2r_at h1 h5 h6, s2i_at h1 h5 h6, ← EReal.coe_mul, ← EReal.coe_sub, pim]

include h0 h3 h4 h1 h5 h6 in
theorem corr_at : val_main_v59 (F := Ideal) x0 x1 x3 x4 x5 x6 (ix3 b l d)
    = ((corr (proj Q Wq bq b d) (proj K Wk bk b d) l : ℝ) : EReal) := by
  pointwise [val_main_v59, val_main_v58, val_main_cst_6, val_main_v57, val_main_v56, val_main_v55, val_main_v54, val_main_v53]
  simp only [pr_at h0 h3 h4 h1 h5 h6, pim_at h0 h3 h4 h1 h5 h6, cos_at, sin_at, Tables.length, ← EReal.coe_mul, coe_sum, ← EReal.coe_sub, corr]
  rw [Ideal.div_coe (by norm_num), ← EReal.coe_mul, mul_one_div]
  simp only [mul_comm (cosT _ _), mul_comm (sinT _ _)]

include h0 h3 h4 h1 h5 h6 in
theorem corr_out (h : Fin 12) (e : Fin 64) (hd : d.val = 64 * h + e) : val_main_v70 (F := Ideal) x0 x1 x3 x4 x5 x6 (ix4 b l h e)
    = ((corr (proj Q Wq bq b d) (proj K Wk bk b d) l : ℝ) : EReal) := by
  pointwise [val_main_v70]
  rw [← corr_at h0 h3 h4 h1 h5 h6]
  exact congrArg (fun d' => val_main_v59 (F := Ideal) x0 x1 x3 x4 x5 x6 (ix3 b l d')) (Fin.ext (by simp only; omega))

include h0 h3 h4 h1 h5 h6 in
theorem r_at (m1 m2 : Fin 64) : val_main_v61 (F := Ideal) x0 x1 x3 x4 x5 x6 (ix3 b m1 m2)
    = ((∑ d, corr (proj Q Wq bq b d) (proj K Wk bk b d) (pos m1 m2) : ℝ) : EReal) := by
  pointwise [val_main_v61, val_main_v60, val_main_cst_7]
  rw [← coe_sum]
  refine Finset.sum_congr rfl fun d _ => ?_
  rw [← corr_at h0 h3 h4 h1 h5 h6]
  exact congrArg (fun l' => val_main_v59 (F := Ideal) x0 x1 x3 x4 x5 x6 (ix3 b l' d)) (Fin.ext (by simp only [pos]; omega))

end values

theorem vo_at (x2 : Vec Ideal S4x4096x768 .f32) (x7 x9 : Vec Ideal S768x768 .f32) (x8 x10 : Vec Ideal S768 .f32)
    (b : Fin 4) (t : Fin 2) (l : Fin 4096) (d : Fin 768) :
    val_main_v69 (F := Ideal) x2 x7 x8 x9 x10 (ix4 b t l d)
      = (∑ e : Fin 768, ((∑ j : Fin 768, x2 (ix3 b l j) * x7 (ix2 e j)) + x8 (ix1 e)) * x9 (ix2 d e)) + x10 (ix1 d) := by
  fin_vals t with ht
  all_goals pointwise [val_main_v69, val_main_v68, val_main_v67, val_main_v66, val_main_v65, val_main_v64, val_main_v63, val_main_v62, val_main_v14,
    val_main_v13, val_main_v12, val_main_v11, val_main_v10]
  all_goals exact ite_self _

end Cert.RefValue

end
-- ==== Proof.Value.lean ====
/- The three results of the kernel's run, read at an index. -/
module

public import proofs.«01_k».proof.Proof.Reg0
public import proofs.«01_k».proof.Proof.Reg1
public import proofs.«01_k».proof.Proof.Reg2
public import proofs.«01_k».proof.Proof.Reg3
public import proofs.«01_k».proof.Proof.Layout
public import proofs.«01_k».proof.Proof.Tables
public import proofs.«01_k».proof.Proof.RefValue

@[expose] public section

set_option maxRecDepth 16384

noncomputable section

namespace Cert.Value

open Idealize.ShloMosaic Idealize.ShloMosaic.Pipeline Idealize.ShloMosaic.Thread Cert.KernelIdeal Cert.KernelIdeal.Gen
open Cert.Layout (colOf)
open Cert.Fourier (pos)

/-! ## Sums at an index -/

theorem projG_coe (x : FVec Ideal S4x4096x768 .f32) (w : FVec Ideal S768x768 .f32) (v : FVec Ideal S4x768 .f32) (i : Fin 4)
    {X : Fin 4 → Fin 4096 → Fin 768 → ℝ} {W : Fin 768 → Fin 768 → ℝ} {B : Fin 768 → ℝ} (b : Fin 4) (l : Fin 4096) (d : Fin 768)
    (hx : ∀ j, x (ix3 b l j) = ((X b l j : ℝ) : EReal)) (hw : ∀ j, w (ix2 j d) = ((W d j : ℝ) : EReal))
    (hb : v (ix2 i d) = ((B d : ℝ) : EReal)) : Reg0.projG x w v i (ix3 b l d) = ((RefValue.proj X W B b d l : ℝ) : EReal) := by
  show (∑ j : Fin 768, x (ix3 b l j) * w (ix2 j d)) + v (ix2 i d) = _
  simp only [hx, hw, hb, ← EReal.coe_mul, Steps.coe_sum, ← EReal.coe_add]
  rfl

/-- A sum over the columns of a group that keeps one position of the row. -/
theorem sum_group (F : Fin 6144 → EReal) (g : Fin 8) :
    (∑ n : Fin 6144, F n * if n.val / 768 = g.val then (1 : EReal) else (0 : EReal)) = ∑ d : Fin 768, F ⟨768 * g + d, by omega⟩ := by
  simp only [mul_ite, mul_one, mul_zero]
  rw [← Finset.sum_filter]
  symm
  refine Finset.sum_bij (fun d _ => ⟨768 * g + d.val, by omega⟩) (fun d _ => ?_) (fun a _ b _ h => ?_) (fun n hn => ?_) (fun _ _ => rfl)
  · simp only [Finset.mem_filter, Finset.mem_univ, true_and]; omega
  · have := Fin.mk.inj h; exact Fin.ext (by omega)
  · simp only [Finset.mem_filter, Finset.mem_univ, true_and] at hn
    exact ⟨⟨n.val % 768, by omega⟩, Finset.mem_univ _, Fin.ext (by simp only; omega)⟩

theorem g3r_coe (fr fi : FVec Ideal S64x64 .f32) (tr ti : FVec Ideal S64x49152 .f32) (xr xi : FVec Ideal S4x64x49152 .f32)
    (jo : FVec Ideal S6144x64 .f32) (b : Fin 4) (m1 m2 : Fin 64) (C : Fin 768 → ℝ)
    (hjo : ∀ n g, jo (ix2 n g) = if n.val / 768 = g.val then (1 : EReal) else (0 : EReal))
    (h : ∀ d, Reg3.g3 fr fi tr ti xr xi (ix3 b m1 (colOf m2 d)) = ((C d : ℝ) : EReal)) :
    Reg3.g3r fr fi tr ti xr xi jo (ix3 ⟨b * 8 + m2 / 8, by omega⟩ m1 ⟨m2 % 8, by omega⟩) = ((∑ d, C d : ℝ) : EReal) := by
  show (∑ n : Fin 6144, Reg3.g3 fr fi tr ti xr xi (ix3 (Reg3.row ⟨b * 8 + m2 / 8, by omega⟩) m1 (Reg3.col ⟨b * 8 + m2 / 8, by omega⟩ n))
    * jo (ix2 n ⟨m2 % 8, by omega⟩)) = _
  have hrow : Reg3.row ⟨b * 8 + m2 / 8, by omega⟩ = b := Fin.ext (by simp only [Reg3.row]; omega)
  rw [hrow]
  simp only [hjo]
  refine (sum_group _ ⟨m2 % 8, by omega⟩).trans ?_
  rw [← Steps.coe_sum]
  refine Finset.sum_congr rfl fun d _ => ?_
  have hcol : Reg3.col ⟨b * 8 + m2 / 8, by omega⟩ ⟨768 * (m2 % 8) + d, by omega⟩ = colOf m2 d :=
    Fin.ext (by simp only [Reg3.col, colOf]; omega)
  exact (congrArg (fun n => Reg3.g3 fr fi tr ti xr xi (ix3 b m1 n)) hcol).trans (h d)

/-- The values' two projections at a row and channel. -/
def vo (x : FVec Ideal S4x4096x768 .f32) (w w' : FVec Ideal S768x768 .f32) (v v' : FVec Ideal S768 .f32) (b : Fin 4) (l : Fin 4096)
    (d : Fin 768) : EReal :=
  (∑ e : Fin 768, ((∑ j : Fin 768, x (ix3 b l j) * w (ix2 e j)) + v (ix1 e)) * w' (ix2 d e)) + v' (ix1 d)

theorem vopG_vo (x X : FVec Ideal S4x4096x768 .f32) (w w' W W' : FVec Ideal S768x768 .f32) (u : FVec Ideal S4x768 .f32) (v v' : FVec Ideal S768 .f32)
    (b : Fin 4) (t : Fin 2) (l : Fin 4096) (d : Fin 768) (hx : ∀ j, x (ix3 b l j) = X (ix3 b l j)) (hw : ∀ j d, w (ix2 j d) = W (ix2 d j))
    (hw' : ∀ j d, w' (ix2 j d) = W' (ix2 d j)) (h2 : ∀ d, u (ix2 2 d) = v (ix1 d)) (h3 : ∀ d, u (ix2 3 d) = v' (ix1 d)) :
    Reg0.vopG x w w' u (ix4 b t l d) = vo X W W' v v' b l d := by
  show (∑ e : Fin 768, ((∑ j : Fin 768, x (ix3 b l j) * w (ix2 j e)) + u (ix2 2 e)) * w' (ix2 e d)) + u (ix2 3 d) = _
  simp only [hx, hw, hw', h2, h3]
  rfl

variable (m : (ℓ : Loc nD τ sig) → Buf (Elt Ideal) ℓ) (ρ : Dev nD → PrngReg) (c : Dev nD)

/-! ## What a later call finds of the tables -/

theorem c5_v8 : W5 m ρ c (Proc.devRef .tc main_v8) = W3 m ρ c (Proc.devRef .tc main_v8) :=
  (W5_of m ρ c main_v8 (by decide)).trans (W4_of m ρ c main_v8 (by decide +kernel))
theorem c7_v8 : W7 m ρ c (Proc.devRef .tc main_v8) = W3 m ρ c (Proc.devRef .tc main_v8) :=
  (W7_of m ρ c main_v8 (by decide)).trans ((W6_of m ρ c main_v8 (by decide +kernel)).trans (c5_v8 m ρ c))
theorem c9_v8 : W9 m ρ c (Proc.devRef .tc main_v8) = W3 m ρ c (Proc.devRef .tc main_v8) :=
  (W9_of m ρ c main_v8 (by decide)).trans ((W8_of m ρ c main_v8 (by decide +kernel)).trans (c7_v8 m ρ c))
theorem c3_v8 : W3 m ρ c (Proc.devRef .tc main_v8) = W1 m ρ c (Proc.devRef .tc main_v8) :=
  (W3_of m ρ c main_v8 (by decide)).trans (W2_of m ρ c main_v8 (by decide))
theorem c5_v18 : W5 m ρ c (Proc.devRef .tc main_v18) = W3 m ρ c (Proc.devRef .tc main_v18) :=
  (W5_of m ρ c main_v18 (by decide)).trans (W4_of m ρ c main_v18 (by decide +kernel))
theorem c7_v18 : W7 m ρ c (Proc.devRef .tc main_v18) = W3 m ρ c (Proc.devRef .tc main_v18) :=
  (W7_of m ρ c main_v18 (by decide)).trans ((W6_of m ρ c main_v18 (by decide +kernel)).trans (c5_v18 m ρ c))
theorem c9_v18 : W9 m ρ c (Proc.devRef .tc main_v18) = W3 m ρ c (Proc.devRef .tc main_v18) :=
  (W9_of m ρ c main_v18 (by decide)).trans ((W8_of m ρ c main_v18 (by decide +kernel)).trans (c7_v18 m ρ c))
theorem c3_v18 : W3 m ρ c (Proc.devRef .tc main_v18) = W1 m ρ c (Proc.devRef .tc main_v18) :=
  (W3_of m ρ c main_v18 (by decide)).trans (W2_of m ρ c main_v18 (by decide))
theorem c5_v29 : W5 m ρ c (Proc.devRef .tc main_v29) = W3 m ρ c (Proc.devRef .tc main_v29) :=
  (W5_of m ρ c main_v29 (by decide)).trans (W4_of m ρ c main_v29 (by decide +kernel))
theorem c7_v29 : W7 m ρ c (Proc.devRef .tc main_v29) = W3 m ρ c (Proc.devRef .tc main_v29) :=
  (W7_of m ρ c main_v29 (by decide)).trans ((W6_of m ρ c main_v29 (by decide +kernel)).trans (c5_v29 m ρ c))
theorem c9_v29 : W9 m ρ c (Proc.devRef .tc main_v29) = W3 m ρ c (Proc.devRef .tc main_v29) :=
  (W9_of m ρ c main_v29 (by decide)).trans ((W8_of m ρ c main_v29 (by decide +kernel)).trans (c7_v29 m ρ c))
theorem c3_v29 : W3 m ρ c (Proc.devRef .tc main_v29) = W1 m ρ c (Proc.devRef .tc main_v29) :=
  (W3_of m ρ c main_v29 (by decide)).trans (W2_of m ρ c main_v29 (by decide))
theorem c5_v41 : W5 m ρ c (Proc.devRef .tc main_v41) = W3 m ρ c (Proc.devRef .tc main_v41) :=
  (W5_of m ρ c main_v41 (by decide)).trans (W4_of m ρ c main_v41 (by decide +kernel))
theorem c7_v41 : W7 m ρ c (Proc.devRef .tc main_v41) = W3 m ρ c (Proc.devRef .tc main_v41) :=
  (W7_of m ρ c main_v41 (by decide)).trans ((W6_of m ρ c main_v41 (by decide +kernel)).trans (c5_v41 m ρ c))
theorem c9_v41 : W9 m ρ c (Proc.devRef .tc main_v41) = W3 m ρ c (Proc.devRef .tc main_v41) :=
  (W9_of m ρ c main_v41 (by decide)).trans ((W8_of m ρ c main_v41 (by decide +kernel)).trans (c7_v41 m ρ c))
theorem c3_v41 : W3 m ρ c (Proc.devRef .tc main_v41) = W1 m ρ c (Proc.devRef .tc main_v41) :=
  (W3_of m ρ c main_v41 (by decide)).trans (W2_of m ρ c main_v41 (by decide))
theorem c5_v46 : W5 m ρ c (Proc.devRef .tc main_v46) = W3 m ρ c (Proc.devRef .tc main_v46) :=
  (W5_of m ρ c main_v46 (by decide)).trans (W4_of m ρ c main_v46 (by decide +kernel))
theorem c7_v46 : W7 m ρ c (Proc.devRef .tc main_v46) = W3 m ρ c (Proc.devRef .tc main_v46) :=
  (W7_of m ρ c main_v46 (by decide)).trans ((W6_of m ρ c main_v46 (by decide +kernel)).trans (c5_v46 m ρ c))
theorem c9_v46 : W9 m ρ c (Proc.devRef .tc main_v46) = W3 m ρ c (Proc.devRef .tc main_v46) :=
  (W9_of m ρ c main_v46 (by decide)).trans ((W8_of m ρ c main_v46 (by decide +kernel)).trans (c7_v46 m ρ c))

theorem fre5 (j k : Fin 64) : (W5 m ρ c (Proc.devRef .tc main_v8) : Vec Ideal S64x64 .f32) (ix2 j k) = ((Fourier.fr j k : ℝ) : EReal) := by
  rw [c5_v8, c3_v8]
  exact Tables.fre_at _ j k
theorem fim5 (j k : Fin 64) : (W5 m ρ c (Proc.devRef .tc main_v18) : Vec Ideal S64x64 .f32) (ix2 j k) = ((Fourier.fi j k : ℝ) : EReal) := by
  rw [c5_v18, c3_v18]
  exact Tables.fim_at _ j k
theorem tre5 (j a : Fin 64) (d : Fin 768) :
    (W5 m ρ c (Proc.devRef .tc main_v29) : Vec Ideal S64x49152 .f32) (ix2 j (colOf a d)) = ((Fourier.tr j a : ℝ) : EReal) := by
  rw [c5_v29, c3_v29]
  exact Tables.tre_at _ j (colOf a d) a (by simp only [colOf]; omega)
theorem tim5 (j a : Fin 64) (d : Fin 768) :
    (W5 m ρ c (Proc.devRef .tc main_v41) : Vec Ideal S64x49152 .f32) (ix2 j (colOf a d)) = ((Fourier.ti j a : ℝ) : EReal) := by
  rw [c5_v41, c3_v41]
  exact Tables.tim_at _ j (colOf a d) a (by simp only [colOf]; omega)
theorem fre7 (j k : Fin 64) : (W7 m ρ c (Proc.devRef .tc main_v8) : Vec Ideal S64x64 .f32) (ix2 j k) = ((Fourier.fr j k : ℝ) : EReal) := by
  rw [c7_v8, c3_v8]
  exact Tables.fre_at _ j k
theorem fim7 (j k : Fin 64) : (W7 m ρ c (Proc.devRef .tc main_v18) : Vec Ideal S64x64 .f32) (ix2 j k) = ((Fourier.fi j k : ℝ) : EReal) := by
  rw [c7_v18, c3_v18]
  exact Tables.fim_at _ j k
theorem fre9 (j k : Fin 64) : (W9 m ρ c (Proc.devRef .tc main_v8) : Vec Ideal S64x64 .f32) (ix2 j k) = ((Fourier.fr j k : ℝ) : EReal) := by
  rw [c9_v8, c3_v8]
  exact Tables.fre_at _ j k
theorem fim9 (j k : Fin 64) : (W9 m ρ c (Proc.devRef .tc main_v18) : Vec Ideal S64x64 .f32) (ix2 j k) = ((Fourier.fi j k : ℝ) : EReal) := by
  rw [c9_v18, c3_v18]
  exact Tables.fim_at _ j k
theorem tre9 (j a : Fin 64) (d : Fin 768) :
    (W9 m ρ c (Proc.devRef .tc main_v29) : Vec Ideal S64x49152 .f32) (ix2 j (colOf a d)) = ((Fourier.tr j a : ℝ) : EReal) := by
  rw [c9_v29, c3_v29]
  exact Tables.tre_at _ j (colOf a d) a (by simp only [colOf]; omega)
theorem tim9 (j a : Fin 64) (d : Fin 768) :
    (W9 m ρ c (Proc.devRef .tc main_v41) : Vec Ideal S64x49152 .f32) (ix2 j (colOf a d)) = ((Fourier.ti j a : ℝ) : EReal) := by
  rw [c9_v41, c3_v41]
  exact Tables.tim_at _ j (colOf a d) a (by simp only [colOf]; omega)
theorem jones9 (n : Fin 6144) (g : Fin 64) :
    (W9 m ρ c (Proc.devRef .tc main_v46) : Vec Ideal S6144x64 .f32) (ix2 n g) = if n.val / 768 = g.val then (1 : EReal) else (0 : EReal) := by
  rw [c9_v46]
  exact Tables.group_at _ n g

/-! ## The projections -/

section real

variable {Q K : Fin 4 → Fin 4096 → Fin 768 → ℝ} {Wq Wk : Fin 768 → Fin 768 → ℝ} {bq bk : Fin 768 → ℝ}

theorem q4 (hx : ∀ b l j, (m (c.tc.loc main_arg0) : Vec Ideal S4x4096x768 .f32) (ix3 b l j) = ((Q b l j : ℝ) : EReal))
    (hw : ∀ d j, (m (c.tc.loc main_arg3) : Vec Ideal S768x768 .f32) (ix2 d j) = ((Wq d j : ℝ) : EReal))
    (hb : ∀ d, (m (c.tc.loc main_arg4) : Vec Ideal S768 .f32) (ix1 d) = ((bq d : ℝ) : EReal)) (b : Fin 4) (l : Fin 4096) (d : Fin 768) :
    (W4 m ρ c (Proc.devRef .tc main_v56_0) : Vec Ideal S4x4096x768 .f32) (ix3 b l d) = ((RefValue.proj Q Wq bq b d l : ℝ) : EReal) := by
  have e : W4 m ρ c (Proc.devRef .tc main_v56_0) = _ := (W4_arr m ρ c 8).trans (Reg0.q_arr (V3 m ρ) c)
  rw [e]
  have h0 : ∀ b l j, (W3 m ρ c (Proc.devRef .tc main_arg0) : Vec Ideal S4x4096x768 .f32) (ix3 b l j) = ((Q b l j : ℝ) : EReal) := fun b l j => by
    rw [W3_args m ρ c main_arg0 (by decide)]; exact hx b l j
  have h1 : ∀ j d, (W3 m ρ c (Proc.devRef .tc main_v47) : Vec Ideal S768x768 .f32) (ix2 j d) = ((Wq d j : ℝ) : EReal) := fun j d => by
    refine (Tables.wqt_at (W2 m ρ c) j d).trans ?_
    rw [W2_args m ρ c main_arg3 (by decide)]; exact hw d j
  have h2 : ∀ d, (W3 m ρ c (Proc.devRef .tc main_v55) : Vec Ideal S4x768 .f32) (ix2 0 d) = ((bq d : ℝ) : EReal) := fun d => by
    refine (Tables.bias0_at (W2 m ρ c) d).trans ?_
    rw [W2_args m ρ c main_arg4 (by decide)]; exact hb d
  exact projG_coe _ _ _ _ b l d (fun j => h0 b l j) (fun j => h1 j d) (h2 d)

theorem k4 (hx : ∀ b l j, (m (c.tc.loc main_arg1) : Vec Ideal S4x4096x768 .f32) (ix3 b l j) = ((K b l j : ℝ) : EReal))
    (hw : ∀ d j, (m (c.tc.loc main_arg5) : Vec Ideal S768x768 .f32) (ix2 d j) = ((Wk d j : ℝ) : EReal))
    (hb : ∀ d, (m (c.tc.loc main_arg6) : Vec Ideal S768 .f32) (ix1 d) = ((bk d : ℝ) : EReal)) (b : Fin 4) (l : Fin 4096) (d : Fin 768) :
    (W4 m ρ c (Proc.devRef .tc main_v56_1) : Vec Ideal S4x4096x768 .f32) (ix3 b l d) = ((RefValue.proj K Wk bk b d l : ℝ) : EReal) := by
  have e : W4 m ρ c (Proc.devRef .tc main_v56_1) = _ := (W4_arr m ρ c 9).trans (Reg0.k_arr (V3 m ρ) c)
  rw [e]
  have h0 : ∀ b l j, (W3 m ρ c (Proc.devRef .tc main_arg1) : Vec Ideal S4x4096x768 .f32) (ix3 b l j) = ((K b l j : ℝ) : EReal) := fun b l j => by
    rw [W3_args m ρ c main_arg1 (by decide)]; exact hx b l j
  have h1 : ∀ j d, (W3 m ρ c (Proc.devRef .tc main_v48) : Vec Ideal S768x768 .f32) (ix2 j d) = ((Wk d j : ℝ) : EReal) := fun j d => by
    refine (Tables.wkt_at (W2 m ρ c) j d).trans ?_
    rw [W2_args m ρ c main_arg5 (by decide)]; exact hw d j
  have h2 : ∀ d, (W3 m ρ c (Proc.devRef .tc main_v55) : Vec Ideal S4x768 .f32) (ix2 1 d) = ((bk d : ℝ) : EReal) := fun d => by
    refine (Tables.bias1_at (W2 m ρ c) d).trans ?_
    rw [W2_args m ρ c main_arg6 (by decide)]; exact hb d
  exact projG_coe _ _ _ _ b l d (fun j => h0 b l j) (fun j => h1 j d) (h2 d)

variable (h0 : ∀ b l j, (m (c.tc.loc main_arg0) : Vec Ideal S4x4096x768 .f32) (ix3 b l j) = ((Q b l j : ℝ) : EReal))
  (h3 : ∀ d j, (m (c.tc.loc main_arg3) : Vec Ideal S768x768 .f32) (ix2 d j) = ((Wq d j : ℝ) : EReal))
  (h4 : ∀ d, (m (c.tc.loc main_arg4) : Vec Ideal S768 .f32) (ix1 d) = ((bq d : ℝ) : EReal))
  (h1 : ∀ b l j, (m (c.tc.loc main_arg1) : Vec Ideal S4x4096x768 .f32) (ix3 b l j) = ((K b l j : ℝ) : EReal))
  (h5 : ∀ d j, (m (c.tc.loc main_arg5) : Vec Ideal S768x768 .f32) (ix2 d j) = ((Wk d j : ℝ) : EReal))
  (h6 : ∀ d, (m (c.tc.loc main_arg6) : Vec Ideal S768 .f32) (ix1 d) = ((bk d : ℝ) : EReal))
  (b : Fin 4) (d : Fin 768)

/-! ## The transforms -/

include h0 h3 h4 in
theorem qr7 (k a : Fin 64) : (W7 m ρ c (Proc.devRef .tc main_v60) : Vec Ideal S4x64x64x768 .f32) (ix4 b k a d)
    = ((Fourier.c1r (RefValue.proj Q Wq bq b d) k a : ℝ) : EReal) := by
  refine (Layout.v60_at (W6 m ρ c) b k a d).trans ?_
  have e : W6 m ρ c (Proc.devRef .tc main_v59_0) = _ := (W6_arr m ρ c 6).trans (Reg1.qr_arr (V5 m ρ) c)
  rw [e]
  exact Steps.f1r_coe (fre5 m ρ c) (fim5 m ρ c) (RefValue.proj Q Wq bq b d) k a (tre5 m ρ c k a d) (tim5 m ρ c k a d)
    (fun j => (Layout.v57_at (W4 m ρ c) b j a d).trans (q4 m ρ c h0 h3 h4 b (pos j a) d))

include h0 h3 h4 in
theorem qi7 (k a : Fin 64) : (W7 m ρ c (Proc.devRef .tc main_v61) : Vec Ideal S4x64x64x768 .f32) (ix4 b k a d)
    = ((Fourier.c1i (RefValue.proj Q Wq bq b d) k a : ℝ) : EReal) := by
  refine (Layout.v61_at (W6 m ρ c) b k a d).trans ?_
  have e : W6 m ρ c (Proc.devRef .tc main_v59_1) = _ := (W6_arr m ρ c 7).trans (Reg1.qi_arr (V5 m ρ) c)
  rw [e]
  exact Steps.f1i_coe (fre5 m ρ c) (fim5 m ρ c) (RefValue.proj Q Wq bq b d) k a (tre5 m ρ c k a d) (tim5 m ρ c k a d)
    (fun j => (Layout.v57_at (W4 m ρ c) b j a d).trans (q4 m ρ c h0 h3 h4 b (pos j a) d))

include h1 h5 h6 in
theorem kr7 (k a : Fin 64) : (W7 m ρ c (Proc.devRef .tc main_v62) : Vec Ideal S4x64x64x768 .f32) (ix4 b k a d)
    = ((Fourier.c1r (RefValue.proj K Wk bk b d) k a : ℝ) : EReal) := by
  refine (Layout.v62_at (W6 m ρ c) b k a d).trans ?_
  have e : W6 m ρ c (Proc.devRef .tc main_v59_2) = _ := (W6_arr m ρ c 8).trans (Reg1.kr_arr (V5 m ρ) c)
  rw [e]
  exact Steps.f1r_coe (fre5 m ρ c) (fim5 m ρ c) (RefValue.proj K Wk bk b d) k a (tre5 m ρ c k a d) (tim5 m ρ c k a d)
    (fun j => (Layout.v58_at (W4 m ρ c) b j a d).trans (k4 m ρ c h1 h5 h6 b (pos j a) d))

include h1 h5 h6 in
theorem ki7 (k a : Fin 64) : (W7 m ρ c (Proc.devRef .tc main_v63) : Vec Ideal S4x64x64x768 .f32) (ix4 b k a d)
    = ((Fourier.c1i (RefValue.proj K Wk bk b d) k a : ℝ) : EReal) := by
  refine (Layout.v63_at (W6 m ρ c) b k a d).trans ?_
  have e : W6 m ρ c (Proc.devRef .tc main_v59_3) = _ := (W6_arr m ρ c 9).trans (Reg1.ki_arr (V5 m ρ) c)
  rw [e]
  exact Steps.f1i_coe (fre5 m ρ c) (fim5 m ρ c) (RefValue.proj K Wk bk b d) k a (tre5 m ρ c k a d) (tim5 m ρ c k a d)
    (fun j => (Layout.v58_at (W4 m ρ c) b j a d).trans (k4 m ρ c h1 h5 h6 b (pos j a) d))

include h0 h3 h4 h1 h5 h6 in
theorem er9 (k a : Fin 64) : (W9 m ρ c (Proc.devRef .tc main_v65) : Vec Ideal S4x64x49152 .f32) (ix3 b k (colOf a d))
    = ((Fourier.er (RefValue.proj Q Wq bq b d) (RefValue.proj K Wk bk b d) k a : ℝ) : EReal) := by
  refine (Layout.v65_at (W8 m ρ c) b k a d).trans ?_
  have e : W8 m ρ c (Proc.devRef .tc main_v64_0) = _ := (W8_arr m ρ c 6).trans (Reg2.er_arr (V7 m ρ) c)
  rw [e]
  exact Steps.er_coe (fre7 m ρ c) (fim7 m ρ c) (RefValue.proj Q Wq bq b d) (RefValue.proj K Wk bk b d) k a
    (fun n => qr7 m ρ c h0 h3 h4 b d k n) (fun n => qi7 m ρ c h0 h3 h4 b d k n)
    (fun n => kr7 m ρ c h1 h5 h6 b d k n) (fun n => ki7 m ρ c h1 h5 h6 b d k n)

include h0 h3 h4 h1 h5 h6 in
theorem ei9 (k a : Fin 64) : (W9 m ρ c (Proc.devRef .tc main_v66) : Vec Ideal S4x64x49152 .f32) (ix3 b k (colOf a d))
    = ((Fourier.ei (RefValue.proj Q Wq bq b d) (RefValue.proj K Wk bk b d) k a : ℝ) : EReal) := by
  refine (Layout.v66_at (W8 m ρ c) b k a d).trans ?_
  have e : W8 m ρ c (Proc.devRef .tc main_v64_1) = _ := (W8_arr m ρ c 7).trans (Reg2.ei_arr (V7 m ρ) c)
  rw [e]
  exact Steps.ei_coe (fre7 m ρ c) (fim7 m ρ c) (RefValue.proj Q Wq bq b d) (RefValue.proj K Wk bk b d) k a
    (fun n => qr7 m ρ c h0 h3 h4 b d k n) (fun n => qi7 m ρ c h0 h3 h4 b d k n)
    (fun n => kr7 m ρ c h1 h5 h6 b d k n) (fun n => ki7 m ρ c h1 h5 h6 b d k n)

include h0 h3 h4 h1 h5 h6 in
theorem corr10 (m1 m2 : Fin 64) :
    Reg3.g3 (W9 m ρ c (Proc.devRef .tc main_v8)) (W9 m ρ c (Proc.devRef .tc main_v18)) (W9 m ρ c (Proc.devRef .tc main_v29))
      (W9 m ρ c (Proc.devRef .tc main_v41)) (W9 m ρ c (Proc.devRef .tc main_v65)) (W9 m ρ c (Proc.devRef .tc main_v66)) (ix3 b m1 (colOf m2 d))
    = ((Fourier.corr (RefValue.proj Q Wq bq b d) (RefValue.proj K Wk bk b d) (pos m1 m2) : ℝ) : EReal) :=
  Steps.f3_coe (fre9 m ρ c) (fim9 m ρ c) (RefValue.proj Q Wq bq b d) (RefValue.proj K Wk bk b d) m1 m2 Tables.c4096
    (fun k => tre9 m ρ c k m2 d) (fun k => tim9 m ρ c k m2 d)
    (fun k => er9 m ρ c h0 h3 h4 h1 h5 h6 b d k m2) (fun k => ei9 m ρ c h0 h3 h4 h1 h5 h6 b d k m2)

include h0 h3 h4 h1 h5 h6 in
/-- The correlation. -/
theorem corr_value (m1 m2 : Fin 64) (h : Fin 12) (e : Fin 64) (hd : d.val = 64 * h + e) :
    (W11 m ρ c (Proc.devRef .tc main_v69) : Vec Ideal S4x4096x12x64 .f32) (ix4 b (pos m1 m2) h e)
    = ((Fourier.corr (RefValue.proj Q Wq bq b d) (RefValue.proj K Wk bk b d) (pos m1 m2) : ℝ) : EReal) := by
  refine (Layout.v69_at (W10 m ρ c) b m1 m2 d h e hd).trans ?_
  have e : W10 m ρ c (Proc.devRef .tc main_v67_0) = _ := (W10_arr m ρ c 7).trans (Reg3.corr_arr (V9 m ρ) c)
  rw [e]
  exact corr10 m ρ c h0 h3 h4 h1 h5 h6 b d m1 m2

omit d in
include h0 h3 h4 h1 h5 h6 in
/-- The sums over the channels. -/
theorem r_value (m1 m2 : Fin 64) :
    (W11 m ρ c (Proc.devRef .tc main_v72) : Vec Ideal S4x64x64 .f32) (ix3 b m1 m2)
    = ((∑ d, Fourier.corr (RefValue.proj Q Wq bq b d) (RefValue.proj K Wk bk b d) (pos m1 m2) : ℝ) : EReal) := by
  refine (Layout.v72_at (W10 m ρ c) b m1 m2).trans ?_
  have e : W10 m ρ c (Proc.devRef .tc main_v67_1) = _ := (W10_arr m ρ c 8).trans (Reg3.r_arr (V9 m ρ) c)
  rw [e]
  exact g3r_coe _ _ _ _ _ _ _ b m1 m2 (fun d => Fourier.corr (RefValue.proj Q Wq bq b d) (RefValue.proj K Wk bk b d) (pos m1 m2)) (jones9 m ρ c)
    (fun d => corr10 m ρ c h0 h3 h4 h1 h5 h6 b d m1 m2)

end real

/-- The values' two projections, in both layers. -/
theorem vop_value (b : Fin 4) (t : Fin 2) (l : Fin 4096) (d : Fin 768) :
    (W11 m ρ c (Proc.devRef .tc main_v56_2) : Vec Ideal S4x2x4096x768 .f32) (ix4 b t l d)
    = vo (m (c.tc.loc main_arg2)) (m (c.tc.loc main_arg7)) (m (c.tc.loc main_arg9)) (m (c.tc.loc main_arg8)) (m (c.tc.loc main_arg10)) b l d := by
  have e : W11 m ρ c (Proc.devRef .tc main_v56_2) = W4 m ρ c (Proc.devRef .tc main_v56_2) :=
    (W11_of m ρ c main_v56_2 (by decide)).trans <| (W10_of m ρ c main_v56_2 (by decide +kernel)).trans <|
    (W9_of m ρ c main_v56_2 (by decide)).trans <| (W8_of m ρ c main_v56_2 (by decide +kernel)).trans <|
    (W7_of m ρ c main_v56_2 (by decide)).trans <| (W6_of m ρ c main_v56_2 (by decide +kernel)).trans <|
    (W5_of m ρ c main_v56_2 (by decide))
  have e' : W4 m ρ c (Proc.devRef .tc main_v56_2) = _ := (W4_arr m ρ c 10).trans (Reg0.vop_arr (V3 m ρ) c)
  rw [e, e']
  have h2 : W3 m ρ c (Proc.devRef .tc main_arg2) = m (c.tc.loc main_arg2) := W3_args m ρ c main_arg2 (by decide)
  have h5 : ∀ j d, (W3 m ρ c (Proc.devRef .tc main_v49) : Vec Ideal S768x768 .f32) (ix2 j d) = (m (c.tc.loc main_arg7) : Vec Ideal S768x768 .f32) (ix2 d j) := fun j d => by
    refine (Tables.wvt_at (W2 m ρ c) j d).trans ?_
    rw [W2_args m ρ c main_arg7 (by decide)]
  have h6 : ∀ j d, (W3 m ρ c (Proc.devRef .tc main_v50) : Vec Ideal S768x768 .f32) (ix2 j d) = (m (c.tc.loc main_arg9) : Vec Ideal S768x768 .f32) (ix2 d j) := fun j d => by
    refine (Tables.wot_at (W2 m ρ c) j d).trans ?_
    rw [W2_args m ρ c main_arg9 (by decide)]
  have b2 : ∀ d, (W3 m ρ c (Proc.devRef .tc main_v55) : Vec Ideal S4x768 .f32) (ix2 2 d) = (m (c.tc.loc main_arg8) : Vec Ideal S768 .f32) (ix1 d) := fun d => by
    refine (Tables.bias2_at (W2 m ρ c) d).trans ?_
    rw [W2_args m ρ c main_arg8 (by decide)]
  have b3 : ∀ d, (W3 m ρ c (Proc.devRef .tc main_v55) : Vec Ideal S4x768 .f32) (ix2 3 d) = (m (c.tc.loc main_arg10) : Vec Ideal S768 .f32) (ix1 d) := fun d => by
    refine (Tables.bias3_at (W2 m ρ c) d).trans ?_
    rw [W2_args m ρ c main_arg10 (by decide)]
  exact vopG_vo _ _ _ _ _ _ _ _ _ b t l d (fun j => congrFun h2 (ix3 b l j)) h5 h6 b2 b3

end Cert.Value

end
-- ==== Proof.Run.lean ====
/- The kernel's run, its three results named. -/
module

public import proofs.«01_k».proof.Proof.Gen.KernelIdeal.Frame

@[expose] public section

set_option maxRecDepth 16384
set_option maxHeartbeats 1000000 in
set_option maxHeartbeats 1000000 in
set_option maxHeartbeats 1000000 in
set_option maxHeartbeats 1000000 in
set_option backward.isDefEq.respectTransparency.types false in
set_option backward.isDefEq.respectTransparency.types false in
set_option backward.isDefEq.respectTransparency.types false in
set_option backward.isDefEq.respectTransparency.types false in
set_option backward.isDefEq.respectTransparency.types false in

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- Every run ends, the results at what the last stretch leaves, the arguments as they were. -/
theorem results_run : θ_run defs (onTc (τ := τ) (main (F := F))) ⟨m, fun _ => 0, ρ⟩ (fun r => (∀ c : Dev nD,
      r.2.mem ((c.tc : Thread nD τ).loc main_v56_2) = W11 m ρ c (Proc.devRef .tc main_v56_2)
      ∧ r.2.mem ((c.tc : Thread nD τ).loc main_v69) = W11 m ρ c (Proc.devRef .tc main_v69)
      ∧ r.2.mem ((c.tc : Thread nD τ).loc main_v72) = W11 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨(fun c =>
      ⟨h c _ (mem_uc main_v56_2 (by decide)),
       h c _ (mem_uc main_v69 (by decide)),
       h c _ (mem_uc main_v72 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩), funext fun g => hz g (.inr (no_unscoped g.2))⟩)

end Cert.KernelIdeal.Gen

end
-- ==== Proof.Finite.lean ====
/- What the precondition says: the six arrays that enter the transforms hold real numbers. -/
module

public import proofs.«01_k».proof.Proof.Gen.Pre_finite
public import Idealize.ShloMosaic.Lib.ReduceAll
public import Idealize.ShloMosaic.Lib.Pointwise
public import Idealize.ShloMosaic.Lib.Affine

@[expose] public section

noncomputable section

namespace Cert.Finite

open Idealize.ShloMosaic Cert.Pre_finite

theorem inf_bits : Ideal.ofBits .f32 0x7F800000#32 = (⊤ : EReal) := by
  simp [Ideal.ofBits, Ideal.ieee]

theorem real_of_lt {s : Shape} (x : FVec Ideal s .f32) (hb : (⟨0, ![]⟩ : Shape).BroadcastsInDim s (![] : Fin 0 → Fin s.rank)) (i : s.Idx)
    (h : cmpf (F := Ideal) .olt (Host.absf x) (broadcastInDim s ![] hb (constant ⟨0, ![]⟩ .f32 0x7F800000#32)) i = 1#1) :
    x i = (((x i : EReal).toReal : ℝ) : EReal) := by
  have h' : BitVec.ofBool (decide (max (x i : EReal) (-(x i : EReal)) < Ideal.ofBits .f32 0x7F800000#32)) = 1#1 := h
  rw [inf_bits] at h'
  have hlt : max (x i : EReal) (-(x i : EReal)) < ⊤ := by
    by_contra hn
    rw [decide_eq_false hn] at h'
    exact absurd h' (by decide)
  have h1 : (x i : EReal) ≠ ⊤ := fun e => by rw [e] at hlt; simp at hlt
  have h2 : (x i : EReal) ≠ ⊥ := fun e => by rw [e] at hlt; simp at hlt
  exact (EReal.coe_toReal h1 h2).symm

instance : Subsingleton S_.Idx := ⟨fun a b => funext fun k => k.elim0⟩

variable [Facts]

theorem finite_args (x0 x1 x2 : FVec Ideal S4x4096x768 .f32) (x3 : FVec Ideal S768x768 .f32) (x4 : FVec Ideal S768 .f32)
    (x5 : FVec Ideal S768x768 .f32) (x6 : FVec Ideal S768 .f32) (x7 : FVec Ideal S768x768 .f32) (x8 : FVec Ideal S768 .f32)
    (x9 : FVec Ideal S768x768 .f32) (x10 : FVec Ideal S768 .f32) (j : S_.Idx)
    (h : fn (F := Ideal) x0 x1 x2 x3 x4 x5 x6 x7 x8 x9 x10 j = 1#1) :
    (∀ i, x0 i = (((x0 i : EReal).toReal : ℝ) : EReal)) ∧ (∀ i, x1 i = (((x1 i : EReal).toReal : ℝ) : EReal))
      ∧ (∀ i, x3 i = (((x3 i : EReal).toReal : ℝ) : EReal)) ∧ (∀ i, x4 i = (((x4 i : EReal).toReal : ℝ) : EReal))
      ∧ (∀ i, x5 i = (((x5 i : EReal).toReal : ℝ) : EReal)) ∧ (∀ i, x6 i = (((x6 i : EReal).toReal : ℝ) : EReal)) := by
  dsimp only [fn, fn_part1] at h
  obtain ⟨h, e6⟩ := IntOp.andi_eq_one.mp h
  obtain ⟨h, e5⟩ := IntOp.andi_eq_one.mp h
  obtain ⟨h, e4⟩ := IntOp.andi_eq_one.mp h
  obtain ⟨h, e3⟩ := IntOp.andi_eq_one.mp h
  obtain ⟨e0, e1⟩ := IntOp.andi_eq_one.mp h
  exact ⟨fun i => real_of_lt x0 _ i (Host.reduce_andi_all _ _ _ _ j e0 i), fun i => real_of_lt x1 _ i (Host.reduce_andi_all _ _ _ _ j e1 i),
    fun i => real_of_lt x3 _ i (Host.reduce_andi_all _ _ _ _ j e3 i), fun i => real_of_lt x4 _ i (Host.reduce_andi_all _ _ _ _ j e4 i),
    fun i => real_of_lt x5 _ i (Host.reduce_andi_all _ _ _ _ j e5 i), fun i => real_of_lt x6 _ i (Host.reduce_andi_all _ _ _ _ j e6 i)⟩

end Cert.Finite

end
-- ==== Proof.Algebraic.lean ====
/- The two programs' results agree, and the reference's frame. -/
module

public import proofs.«01_k».proof.Defs
public import proofs.«01_k».proof.Proof.Value
public import proofs.«01_k».proof.Proof.Run
public import proofs.«01_k».proof.Proof.Finite
public import proofs.«01_k».proof.Proof.Gen.ReferenceIdeal.Run
public import proofs.«01_k».proof.Proof.Gen.ReferenceIdeal.Read
public import proofs.«01_k».proof.Proof.Gen.Pre_finite
public import Idealize.ShloMosaic.Lib.Quiescent

@[expose] public section

set_option maxRecDepth 16384

noncomputable section

namespace Cert.Algebraic

open Idealize.ShloMosaic Idealize.ShloMosaic.Thread Idealize.SL.Sem

/-- The reference's frame: arguments unchanged, no counter to be left. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0) :=
  (θ_run _ _ _).mono (fun r h => ⟨fun c => (h c).2.2.2, sem_eq_zero_of_no_sems rfl r.2⟩) (Cert.ReferenceIdeal.Value.run m g)

section values

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD)

open Cert.KernelIdeal Cert.KernelIdeal.Gen in
theorem vop_eq : Cert.ReferenceIdeal.Read.val_main_v69 (F := Ideal) (m (c.tc.loc main_arg2)) (m (c.tc.loc main_arg7)) (m (c.tc.loc main_arg8))
      (m (c.tc.loc main_arg9)) (m (c.tc.loc main_arg10))
    = W11 m ρ c (Proc.devRef .tc main_v56_2) := by
  funext y
  obtain ⟨y0, y1, y2, y3, rfl⟩ : ∃ (y0 : Fin 4) (y1 : Fin 2) (y2 : Fin 4096) (y3 : Fin 768), y = ix4 y0 y1 y2 y3 :=
    ⟨y 0, y 1, y 2, y 3, by funext i; fin_cases i <;> rfl⟩
  exact (RefValue.vo_at _ _ _ _ _ y0 y1 y2 y3).trans (Value.vop_value m ρ c y0 y1 y2 y3).symm

/-- The real numbers that an array of finite numbers holds. -/
def re3 (x : FVec Ideal ⟨3, ![4, 4096, 768]⟩ .f32) (b : Fin 4) (l : Fin 4096) (j : Fin 768) : ℝ := (x (ix3 b l j) : EReal).toReal
def re2 (x : FVec Ideal ⟨2, ![768, 768]⟩ .f32) (d j : Fin 768) : ℝ := (x (ix2 d j) : EReal).toReal
def re1 (x : FVec Ideal ⟨1, ![768]⟩ .f32) (d : Fin 768) : ℝ := (x (ix1 d) : EReal).toReal

open Cert.KernelIdeal Cert.KernelIdeal.Gen in
theorem corr_r_eq (h : Cert.Pre_KernelIdeal_finite m) :
    Cert.ReferenceIdeal.Read.val_main_v70 (F := Ideal) (m (c.tc.loc main_arg0)) (m (c.tc.loc main_arg1)) (m (c.tc.loc main_arg3))
        (m (c.tc.loc main_arg4)) (m (c.tc.loc main_arg5)) (m (c.tc.loc main_arg6)) = W11 m ρ c (Proc.devRef .tc main_v69)
    ∧ Cert.ReferenceIdeal.Read.val_main_v61 (F := Ideal) (m (c.tc.loc main_arg0)) (m (c.tc.loc main_arg1)) (m (c.tc.loc main_arg3))
        (m (c.tc.loc main_arg4)) (m (c.tc.loc main_arg5)) (m (c.tc.loc main_arg6)) = W11 m ρ c (Proc.devRef .tc main_v72) := by
  obtain ⟨f0, f1, f3, f4, f5, f6⟩ := Finite.finite_args _ _ _ _ _ _ _ _ _ _ _ (fun k => k.elim0) (congrFun (h c) _)
  have h0 : ∀ b l j, (m (c.tc.loc main_arg0) : Vec Ideal S4x4096x768 .f32) (ix3 b l j) = ((re3 (m (c.tc.loc main_arg0)) b l j : ℝ) : EReal) := fun _ _ _ => f0 _
  have h1 : ∀ b l j, (m (c.tc.loc main_arg1) : Vec Ideal S4x4096x768 .f32) (ix3 b l j) = ((re3 (m (c.tc.loc main_arg1)) b l j : ℝ) : EReal) := fun _ _ _ => f1 _
  have h3 : ∀ d j, (m (c.tc.loc main_arg3) : Vec Ideal S768x768 .f32) (ix2 d j) = ((re2 (m (c.tc.loc main_arg3)) d j : ℝ) : EReal) := fun _ _ => f3 _
  have h5 : ∀ d j, (m (c.tc.loc main_arg5) : Vec Ideal S768x768 .f32) (ix2 d j) = ((re2 (m (c.tc.loc main_arg5)) d j : ℝ) : EReal) := fun _ _ => f5 _
  have h4 : ∀ d, (m (c.tc.loc main_arg4) : Vec Ideal S768 .f32) (ix1 d) = ((re1 (m (c.tc.loc main_arg4)) d : ℝ) : EReal) := fun _ => f4 _
  have h6 : ∀ d, (m (c.tc.loc main_arg6) : Vec Ideal S768 .f32) (ix1 d) = ((re1 (m (c.tc.loc main_arg6)) d : ℝ) : EReal) := fun _ => f6 _
  constructor
  · funext y
    obtain ⟨y0, y1, y2, y3, rfl⟩ : ∃ (y0 : Fin 4) (y1 : Fin 4096) (y2 : Fin 12) (y3 : Fin 64), y = ix4 y0 y1 y2 y3 :=
      ⟨y 0, y 1, y 2, y 3, by funext i; fin_cases i <;> rfl⟩
    obtain ⟨m1, m2, rfl⟩ : ∃ m1 m2 : Fin 64, y1 = Fourier.pos m1 m2 :=
      ⟨⟨y1.val / 64, by omega⟩, ⟨y1.val % 64, by omega⟩, Fin.ext (by simp only [Fourier.pos]; omega)⟩
    exact (RefValue.corr_out h0 h3 h4 h1 h5 h6 y0 (Fourier.pos m1 m2) ⟨64 * y2 + y3, by omega⟩ y2 y3 rfl).trans
      (Value.corr_value m ρ c h0 h3 h4 h1 h5 h6 y0 ⟨64 * y2 + y3, by omega⟩ m1 m2 y2 y3 rfl).symm
  · funext y
    obtain ⟨y0, y1, y2, rfl⟩ : ∃ (y0 : Fin 4) (y1 : Fin 64) (y2 : Fin 64), y = ix3 y0 y1 y2 :=
      ⟨y 0, y 1, y 2, by funext i; fin_cases i <;> rfl⟩
    exact (RefValue.r_at h0 h3 h4 h1 h5 h6 y0 y1 y2).trans (Value.r_value m ρ c h0 h3 h4 h1 h5 h6 y0 y1 y2).symm

end values

theorem algebraic : Cert.algebraic_KernelIdeal_ReferenceIdeal_pre_finite := by
  intro m g m' g' hpre hargs
  refine ⟨fun c => Cert.KernelIdeal.Gen.W11 m g c (Proc.devRef .tc Cert.KernelIdeal.main_v56_2),
    fun c => Cert.KernelIdeal.Gen.W11 m g c (Proc.devRef .tc Cert.KernelIdeal.main_v69),
    fun c => Cert.KernelIdeal.Gen.W11 m g c (Proc.devRef .tc Cert.KernelIdeal.main_v72), ?_, ?_⟩
  · exact (θ_run _ _ _).mono (fun r h => h.1) (Cert.KernelIdeal.Gen.results_run m g)
  · refine (θ_run _ _ _).mono (fun r h c => ?_) (Cert.ReferenceIdeal.Value.run m' g')
    obtain ⟨e0, e1, e2, e3, e4, e5, e6, e7, e8, e9, e10⟩ := hargs c
    obtain ⟨r0, r1, r2, ra⟩ := h c
    refine ⟨?_, ?_, ?_, ra⟩
    · refine r0.trans ?_
      refine (Cert.ReferenceIdeal.Read.val_main_v69_eq _ _ _ _ _).trans ?_
      rw [e2, e7, e8, e9, e10]
      exact vop_eq m g c
    · refine r1.trans ?_
      rw [Cert.ReferenceIdeal.Read.val_main_v70_eq, e0, e1, e3, e4, e5, e6]
      exact (corr_r_eq m g c hpre).1
    · refine r2.trans ?_
      rw [Cert.ReferenceIdeal.Read.val_main_v61_eq, e0, e1, e3, e4, e5, e6]
      exact (corr_r_eq m g c hpre).2

end Cert.Algebraic

end
-- ==== Proof.AggWords.lean ====
/- What the second precondition says of the delays, and where a delayed block starts in the doubled array. -/
module

public import proofs.«01_k».proof.Proof.Gen.Pre_delays
public import Idealize.ShloMosaic.Lib.ReduceAll
public import Idealize.ShloMosaic.Lib.Pointwise
public import Idealize.ShloMosaic.Lib.Affine

@[expose] public section

noncomputable section

namespace Cert.AggWords

open Idealize.ShloMosaic Cert.Pre_delays

instance : Subsingleton S_.Idx := ⟨fun a b => funext fun k => k.elim0⟩

theorem word_lt (w : BitVec 32) (h0 : IntOp.cmpi .sge w 0#32 = 1#1) (h1 : IntOp.cmpi .slt w 4096#32 = 1#1) : w.toNat < 4096 := by
  have h0' : BitVec.ofBool ((0#32).sle w) = 1#1 := h0
  have h1' : BitVec.ofBool (w.slt 4096#32) = 1#1 := h1
  have a0 : (0#32).sle w = true := by
    cases hh : (0#32).sle w
    · rw [hh] at h0'; exact absurd h0' (by decide)
    · rfl
  have a1 : w.slt 4096#32 = true := by
    cases hh : w.slt 4096#32
    · rw [hh] at h1'; exact absurd h1' (by decide)
    · rfl
  rw [BitVec.sle_iff_toInt_le] at a0
  rw [BitVec.slt_iff_toInt_lt] at a1
  have e0 : (0#32).toInt = 0 := by decide
  have e1 : (4096#32).toInt = 4096 := by decide
  rw [e0] at a0
  rw [e1] at a1
  have hw := w.isLt
  rw [BitVec.toInt_eq_toNat_cond] at a0 a1
  split at a0 <;> rename_i hc
  · rw [if_pos hc] at a1; omega
  · rw [if_neg hc] at a1; omega

variable {F : FTy → Type} [FloatOps F] [Facts]

/-- Under the precondition each delay is less than the length. -/
theorem delay_lt (x0 : IVec S8 32) (x1 : FVec F S4x8 .f32) (x2 : FVec F S4x2x4096x768 .f32)
    (h : fn (F := F) x0 x1 x2 = fun _ => 1#1) (i : S8.Idx) : (x0 i).toNat < 4096 := by
  have h' := congrFun h (fun k => k.elim0)
  dsimp only [fn] at h'
  have hi := Host.reduce_andi_all _ _ _ _ _ h' i
  obtain ⟨a0, a1⟩ := IntOp.andi_eq_one.mp hi
  exact word_lt (x0 i) a0 a1

/-- The word that the body computes for the start of a delayed block. -/
def start (a b : ℕ) (v : BitVec 32) : BitVec 32 :=
  Scalar.muli (Scalar.addi (Scalar.addi (Scalar.muli (Scalar.muli (BitVec.ofNat 32 a) 2#32) 4096#32) (Scalar.muli (BitVec.ofNat 32 b) 1024#32)) v) 768#32

/-- It does not wrap around. -/
theorem start_toNat (a b : ℕ) (ha : a < 4) (hb : b < 4) (v : BitVec 32) (hv : v.toNat < 4096) :
    (start a b v).toNat = (8192 * a + 1024 * b + v.toNat) * 768 := by
  have e : start a b v = (BitVec.ofNat 32 a * 2#32 * 4096#32 + BitVec.ofNat 32 b * 1024#32 + v) * 768#32 := rfl
  rw [e]
  simp only [BitVec.toNat_mul, BitVec.toNat_add, BitVec.toNat_ofNat]
  omega

theorem start_dvd (a b : ℕ) (ha : a < 4) (hb : b < 4) (v : BitVec 32) (hv : v.toNat < 4096) : 768 ∣ (start a b v).toNat := by
  rw [start_toNat a b ha hb v hv]; exact Dvd.intro_left _ rfl

theorem start_inb (a b : ℕ) (ha : a < 4) (hb : b < 4) (v : BitVec 32) (hv : v.toNat < 4096) : (start a b v).toNat + 786432 ≤ 25165824 := by
  rw [start_toNat a b ha hb v hv]; omega

end Cert.AggWords

end
-- ==== Proof.AggHyps.lean ====
/- The bounds that the body assumes of the delays, from the precondition: the idealized program. -/
module

public import proofs.«01_k».proof.Proof.AggWords
public import proofs.«01_k».proof.Proof.Gen.KernelGIdeal.Frame.Runs
public import Idealize.ShloMosaic.Lib.Pipeline.ValueKit

@[expose] public section

set_option maxRecDepth 16384

noncomputable section

namespace Cert.KernelGIdeal.Hyp

open Idealize.ShloMosaic Idealize.ShloMosaic.Pipeline Idealize.ShloMosaic.TcCoe Cert.KernelGIdeal Cert.KernelGIdeal.Gen
open Cert.AggWords

variable {F : FTy → Type} [FloatOps F]

/-- What a scalar load of the table of delays reads. -/
theorem word_at (v : Memref sig .tc .smem S8 .i32) (hv : v.IsWhole) (x0 : Vec F S8 .i32) (k : Fin 8) (inb : ∀ a, (![k.val] : Fin 1 → ℕ) a + S1.size a ≤ S8.size a)
    (p : 0 < S1.numel) :
    v.view.readAt (Elt F) (Rect.unit (s := S8) ![k.val] S1.size inb).toLoadRect (hv.unread x0) (Shape.Idx.first p) = x0 (ix1 k) := by
  rw [View.readAt_apply, hv.read_unread]
  refine congrArg x0 (funext fun a => ?_)
  obtain rfl : a = 0 := Subsingleton.elim _ _
  apply Fin.ext
  show k.val + 1 * 0 = k.val
  omega

theorem idx0 : ∀ t : Fin grid0.N, win0_0.index t = ![0] ∧ win0_1.index t = ![0, 0] := by
  decide +kernel

variable (m : (ℓ : Loc nD τ sig) → Buf (Elt F) ℓ)

/-- Every point sees the whole table of delays. -/
theorem delays_blk (c : Dev nD) (t : Fin cfg0.N) (k : Fin 8) : iblk m c 0 t (ix1 k) = m ((c.tc : Thread nD τ).loc main_arg0) (ix1 k) := by
  rw [← V_main_arg0 m c]
  have e := (idx0 t).1
  blk_ext [iblk, e]

theorem inb_of (i : grid0.Coords) (w : BitVec 32) (hw : w.toNat < 4096) (off : Fin 1 → ℕ) (h : off = ![(start (i 0).val (i 1).val w).toNat]) :
    ∀ a, off a + S786432.size a ≤ S25165824.size a := by
  intro a
  obtain rfl : a = 0 := Subsingleton.elim _ _
  subst h
  exact start_inb _ _ (i 0).isLt (i 1).isLt w hw

theorem dvd_of (i : grid0.Coords) (w : BitVec 32) (hw : w.toNat < 4096) (u : BitVec 32) (h : u = start (i 0).val (i 1).val w) : 768 ∣ u.toNat := by
  subst h
  exact start_dvd _ _ (i 0).isLt (i 1).isLt w hw

/-- Delays below the length satisfy every bound that the body assumes. -/
theorem hyps (h : ∀ (c : Dev nD) (k : Fin 8), (m ((c.tc : Thread nD τ).loc main_arg0) (ix1 k) : BitVec 32).toNat < 4096) : Hyps m := by
  have w : ∀ (c : Dev nD) (t : Fin cfg0.N) (k : Fin 8) (inb : ∀ a, (![k.val] : Fin 1 → ℕ) a + S1.size a ≤ S8.size a) (p : 0 < S1.numel),
      ((ms0_0 t).view.readAt (Elt F) (Rect.unit (s := S8) ![k.val] S1.size inb).toLoadRect ((hs0_0 t).unread (iblk m c 0 t)) (Shape.Idx.first p) : BitVec 32).toNat < 4096 := by
    intro c t k inb p
    rw [word_at (ms0_0 t) (hs0_0 t) (iblk m c 0 t) k inb p]
    exact (congrArg BitVec.toNat (delays_blk m c t k)).trans_lt (h c k)
  exact Hyps.of
    (fun c t => ⟨dvd_of _ _ (w c t 0 _ _) _ rfl, inb_of _ _ (w c t 0 _ _) _ rfl, inb_of _ _ (w c t 0 _ _) _ rfl⟩)
    (fun c t => ⟨dvd_of _ _ (w c t 1 _ _) _ rfl, inb_of _ _ (w c t 1 _ _) _ rfl, inb_of _ _ (w c t 1 _ _) _ rfl⟩)
    (fun c t => ⟨dvd_of _ _ (w c t 2 _ _) _ rfl, inb_of _ _ (w c t 2 _ _) _ rfl, inb_of _ _ (w c t 2 _ _) _ rfl⟩)
    (fun c t => ⟨dvd_of _ _ (w c t 3 _ _) _ rfl, inb_of _ _ (w c t 3 _ _) _ rfl, inb_of _ _ (w c t 3 _ _) _ rfl⟩)
    (fun c t => ⟨dvd_of _ _ (w c t 4 _ _) _ rfl, inb_of _ _ (w c t 4 _ _) _ rfl, inb_of _ _ (w c t 4 _ _) _ rfl⟩)
    (fun c t => ⟨dvd_of _ _ (w c t 5 _ _) _ rfl, inb_of _ _ (w c t 5 _ _) _ rfl, inb_of _ _ (w c t 5 _ _) _ rfl⟩)
    (fun c t => ⟨dvd_of _ _ (w c t 6 _ _) _ rfl, inb_of _ _ (w c t 6 _ _) _ rfl, inb_of _ _ (w c t 6 _ _) _ rfl⟩)
    (fun c t => ⟨dvd_of _ _ (w c t 7 _ _) _ rfl, inb_of _ _ (w c t 7 _ _) _ rfl⟩)

/-- The precondition gives the bounds. -/
theorem hyps_of_delays [Cert.Pre_delays.Facts]
    (h : ∀ c : Dev nD, Cert.Pre_delays.fn (F := F) (m ((c.tc : Thread nD τ).loc main_arg0)) (m ((c.tc : Thread nD τ).loc main_arg1)) (m ((c.tc : Thread nD τ).loc main_arg2)) = fun _ => 1#1) :
    Hyps m :=
  hyps m fun c k => delay_lt _ _ _ (h c) (ix1 k)

end Cert.KernelGIdeal.Hyp

end
-- ==== Proof.AggRef.lean ====
/- What the second reference computes: at each position the weighted sum of the eight delayed rows. -/
module

public import proofs.«01_k».proof.Proof.AggWords
public import proofs.«01_k».proof.Proof.Gen.ReferenceGIdeal.Read
public import Idealize.ShloMosaic.Lib.Pipeline.ValueKit

@[expose] public section

set_option maxRecDepth 16384

noncomputable section

namespace Cert.AggRef

open Idealize.ShloMosaic Idealize.ShloMosaic.Pipeline Cert.ReferenceGIdeal Cert.ReferenceGIdeal.Gen Cert.ReferenceGIdeal.Read

/-! ## Words below 8192 -/

theorem toInt_small (w : BitVec 32) (h : w.toNat < 8192) : w.toInt = w.toNat := by
  rw [BitVec.toInt_eq_toNat_cond, if_pos (by omega)]

theorem slt_small (w : BitVec 32) (h : w.toNat < 8192) : IntOp.cmpi .slt w 0#32 = 0#1 := by
  show BitVec.ofBool (w.slt 0#32) = 0#1
  have : w.slt 0#32 = false := by
    rw [← Bool.not_eq_true, BitVec.slt_iff_toInt_lt, toInt_small w h]
    have e0 : (0#32).toInt = 0 := by decide
    omega
  rw [this]; rfl

theorem sge_small (w : BitVec 32) (h : w.toNat < 8192) : IntOp.cmpi .sge w 0#32 = 1#1 := by
  show BitVec.ofBool ((0#32).sle w) = 1#1
  have : (0#32).sle w = true := by
    rw [BitVec.sle_iff_toInt_le, toInt_small w h]
    have e0 : (0#32).toInt = 0 := by decide
    omega
  rw [this]; rfl

theorem sle_small (w : BitVec 32) (h : w.toNat < 8192) : IntOp.cmpi .sle w 8191#32 = 1#1 := by
  show BitVec.ofBool (w.sle 8191#32) = 1#1
  have : w.sle 8191#32 = true := by
    rw [BitVec.sle_iff_toInt_le, toInt_small w h]
    have e0 : (8191#32).toInt = 8191 := by decide
    omega
  rw [this]; rfl

/-! ## The rows that are taken -/

/-- Rows taken along the second axis: the row's number is read from the table of positions, and clamped. -/
theorem take_apply (x : S4x8192x768.Idx → Elt Ideal .f32) (idx : IVec S8x4096x1 32) (b : Fin 4) (k : Fin 8) (l : Fin 4096) (d : Fin 768) :
    Host.gather gather_S4x8192x768_S8x4096x1_S4x8x4096x768_03_1_n_n_1_2_41768 x idx (ix4 b k l d)
      = x (ix3 b ⟨min (idx (ix3 k l 0)).toInt.toNat 8191, by omega⟩ d) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil, Nat.add_zero]
  match a with
  | ⟨0, _⟩ => exact Nat.zero_add _
  | ⟨1, _⟩ =>
    show GatherDims.start gather_S4x8192x768_S8x4096x1_S4x8x4096x768_03_1_n_n_1_2_41768 (ix4 b k l d) idx (1 : Fin 3) + 0 = _
    unfold GatherDims.start
    rw [dif_pos (show (1 : Fin 3) ∈ gather_S4x8192x768_S8x4096x1_S4x8x4096x768_03_1_n_n_1_2_41768.startIndexMap from List.mem_singleton.mpr rfl)]
    have hsi : gather_S4x8192x768_S8x4096x1_S4x8x4096x768_03_1_n_n_1_2_41768.siIdx (ix4 b k l d)
        ⟨List.idxOf (1 : Fin 3) gather_S4x8192x768_S8x4096x1_S4x8x4096x768_03_1_n_n_1_2_41768.startIndexMap,
          List.idxOf_lt_length_iff.2 (List.mem_singleton.mpr rfl)⟩ = ix3 k l 0 := by
      funext b; refine Fin.ext ?_
      match b with
      | ⟨0, _⟩ => rfl
      | ⟨1, _⟩ => rfl
      | ⟨2, _⟩ => rfl
    rw [hsi]
    rfl
  | ⟨2, _⟩ => exact Nat.zero_add _

variable (x0 : IVec S8 32) (hx : ∀ k : Fin 8, (x0 (ix1 k)).toNat < 4096)

/-- The position of a row. -/
theorem pos_eq (k : Fin 8) (l : Fin 4096) : val_main_v6 (F := Ideal) x0 (ix2 k l) = IntOp.addi (x0 (ix1 k)) (BitVec.ofNat 32 l.val) := by
  rw [val_main_v6_apply, val_main_v4_apply, val_main_v1_apply, val_main_v5_apply, val_main_v3_apply, val_main_v2_apply]
  refine congrArg₂ IntOp.addi (congrArg x0 (funext fun a => ?_)) rfl
  match a with
  | ⟨0, _⟩ => rfl

include hx in
theorem pos_toNat (k : Fin 8) (l : Fin 4096) : (val_main_v6 (F := Ideal) x0 (ix2 k l)).toNat = (x0 (ix1 k)).toNat + l.val := by
  rw [pos_eq]
  have e : (IntOp.addi (x0 (ix1 k)) (BitVec.ofNat 32 l.val)).toNat = ((x0 (ix1 k)) + BitVec.ofNat 32 l.val).toNat := rfl
  rw [e, BitVec.toNat_add, BitVec.toNat_ofNat]
  have := hx k
  have := l.isLt
  omega

include hx in
theorem pos_lt (k : Fin 8) (l : Fin 4096) : (val_main_v6 (F := Ideal) x0 (ix2 k l)).toNat < 8192 := by
  rw [pos_toNat x0 hx]
  have := hx k
  have := l.isLt
  omega

include hx in
/-- No position is negative, so none is wrapped. -/
theorem idx_eq (k : Fin 8) (l : Fin 4096) : val_main_call0_v5 (F := Ideal) x0 (ix3 k l 0) = val_main_v6 (F := Ideal) x0 (ix2 k l) := by
  have e : idx_main_call0_v5 (ix3 k l 0) = ix2 k l := by
    funext a
    match a with
    | ⟨0, _⟩ => rfl
    | ⟨1, _⟩ => rfl
  rw [val_main_call0_v5_apply, e, val_main_call0_v4_apply, val_main_call0_v1_apply, val_main_call0_v0_apply, val_main_call0_c_apply,
    slt_small _ (pos_lt x0 hx k l)]
  rfl

include hx in
/-- Every position is within the rows. -/
theorem mask_eq (b : Fin 4) (k : Fin 8) (l : Fin 4096) (d : Fin 768) : val_main_call0_v14 (F := Ideal) x0 (ix4 b k l d) = 1#1 := by
  rw [val_main_call0_v14_apply]
  unfold val_main_call0_v12
  refine Host.reduce_andi_one _ _ _ _ _ rfl fun i => ?_
  obtain ⟨k', l', rfl⟩ : ∃ (k' : Fin 8) (l' : Fin 4096), i = ix3 k' l' 0 := ⟨i 0, i 1, by
    funext a
    match a with
    | ⟨0, _⟩ => rfl
    | ⟨1, _⟩ => rfl
    | ⟨2, _⟩ => exact Subsingleton.elim (α := Fin 1) _ _⟩
  rw [val_main_call0_v11_apply, val_main_call0_v7_apply, val_main_call0_v10_apply, idx_eq x0 hx,
    val_main_call0_v6_apply, val_main_call0_c_2_apply, val_main_call0_v9_apply, val_main_call0_v8_apply, val_main_call0_c_1_apply,
    sge_small _ (pos_lt x0 hx k' l'), sle_small _ (pos_lt x0 hx k' l')]
  rfl

/-! ## The sum -/

/-- The index of the doubled array at a place of its flat form. -/
def unflat (n : ℕ) : S4x2x4096x768.Idx :=
  ix4 ⟨n / 6291456 % 4, by omega⟩ ⟨n / 3145728 % 2, by omega⟩ ⟨n / 768 % 4096, by omega⟩ ⟨n % 768, by omega⟩

/-- The weighted sum of the delayed rows at a place of the flat result. -/
def delaySum (τ : Fin 8 → ℕ) (x1 : FVec Ideal S4x8 .f32) (x2 : FVec Ideal S4x2x4096x768 .f32) (n : ℕ) : EReal :=
  ∑ k : Fin 8, (x1 (ix2 ⟨n / 3145728 % 4, by omega⟩ k) : EReal) * (x2 (unflat ((8192 * (n / 3145728) + n / 768 % 4096 + τ k) * 768 + n % 768)) : EReal)

theorem term_eq (w v : FVec Ideal S4x8x4096x768 .f32) (i : S4x8x4096x768.Idx) (a b : EReal) (hw : w i = a) (hv : v i = b) :
    (FloatOps.mulf (F := Ideal) (w i) (v i) : EReal) = a * b := by
  subst hw hv; rfl

include hx in
/-- A row that is taken, at its place in the doubled array. -/
theorem row_eq (x2 : FVec Ideal S4x2x4096x768 .f32) (b : Fin 4) (k : Fin 8) (l : Fin 4096) (d : Fin 768) :
    val_main_v7 (F := Ideal) x0 x2 (ix4 b k l d) = x2 (unflat ((8192 * b.val + l.val + (x0 (ix1 k)).toNat) * 768 + d.val)) := by
  rw [val_main_v7_apply, mask_eq x0 hx]
  show val_main_call0_v13 (F := Ideal) x0 x2 (ix4 b k l d) = _
  unfold val_main_call0_v13
  rw [take_apply, val_main_v0_apply]
  have hp : min (val_main_call0_v5 (F := Ideal) x0 (ix3 k l 0)).toInt.toNat 8191 = (x0 (ix1 k)).toNat + l.val := by
    rw [idx_eq x0 hx, toInt_small _ (pos_lt x0 hx k l), Int.toNat_natCast, pos_toNat x0 hx]
    have := hx k
    have := l.isLt
    omega
  have h0 := hx k
  have h1 := l.isLt
  have h2 := b.isLt
  have h3 := d.isLt
  refine congrArg x2 (funext fun a => Fin.ext ?_)
  match a with
  | ⟨0, _⟩ =>
    show ((b.val * 8192 + min (val_main_call0_v5 (F := Ideal) x0 (ix3 k l 0)).toInt.toNat 8191) * 768 + d.val) / 6291456 = ((8192 * b.val + l.val + (x0 (ix1 k)).toNat) * 768 + d.val) / 6291456 % 4
    rw [hp]; omega
  | ⟨1, _⟩ =>
    show ((b.val * 8192 + min (val_main_call0_v5 (F := Ideal) x0 (ix3 k l 0)).toInt.toNat 8191) * 768 + d.val) / 3145728 % 2 = ((8192 * b.val + l.val + (x0 (ix1 k)).toNat) * 768 + d.val) / 3145728 % 2
    rw [hp]; omega
  | ⟨2, _⟩ =>
    show ((b.val * 8192 + min (val_main_call0_v5 (F := Ideal) x0 (ix3 k l 0)).toInt.toNat 8191) * 768 + d.val) / 768 % 4096 = ((8192 * b.val + l.val + (x0 (ix1 k)).toNat) * 768 + d.val) / 768 % 4096
    rw [hp]; omega
  | ⟨3, _⟩ =>
    show ((b.val * 8192 + min (val_main_call0_v5 (F := Ideal) x0 (ix3 k l 0)).toInt.toNat 8191) * 768 + d.val) % 768 = ((8192 * b.val + l.val + (x0 (ix1 k)).toNat) * 768 + d.val) % 768
    rw [hp]; omega

theorem zero_bits : (FloatOps.ofBits (F := Ideal) .f32 0x00000000#32 : EReal) = 0 := by
  show Ideal.ofBits .f32 0x00000000#32 = 0
  simp [Ideal.ofBits, Ideal.ieee]

include hx in
/-- The reference's result at a place. -/
theorem result_eq (x1 : FVec Ideal S4x8 .f32) (x2 : FVec Ideal S4x2x4096x768 .f32) (n : Fin 12582912) :
    (val_main_v12 (F := Ideal) x0 x1 x2 (ix1 n) : EReal) = delaySum (fun k => (x0 (ix1 k)).toNat) x1 x2 n.val := by
  rw [val_main_v12_apply, val_main_v11_apply, val_main_cst_apply]
  refine (congrArg (· + _) zero_bits).trans ((zero_add _).trans ?_)
  unfold delaySum
  refine Finset.sum_congr rfl fun k _ => ?_
  have hn := n.isLt
  have e : idx_main_v11 (idx_main_v12 (ix1 n)) k = ix4 ⟨n.val / 3145728, by omega⟩ k ⟨n.val / 768 % 4096, by omega⟩ ⟨n.val % 768, by omega⟩ := by
    funext a
    match a with
    | ⟨0, _⟩ => rfl
    | ⟨1, _⟩ => rfl
    | ⟨2, _⟩ => rfl
    | ⟨3, _⟩ => rfl
  rw [e, val_main_v10_apply]
  refine term_eq _ _ _ _ _ ?_ (row_eq x0 hx x2 _ k _ _)
  rw [val_main_v9_apply, val_main_v8_apply]
  refine congrArg x1 (funext fun a => Fin.ext ?_)
  match a with
  | ⟨0, _⟩ => show n.val / 3145728 = n.val / 3145728 % 4; omega
  | ⟨1, _⟩ => rfl

end Cert.AggRef

end
-- ==== Proof.AggRun.lean ====
/- The run of the delayed sum: its frame, and what it leaves in its result. -/
module

public import proofs.«01_k».proof.Proof.Gen.KernelGIdeal.Frame.Runs
public import Idealize.ShloMosaic.Lib.Claim
public import Idealize.ShloMosaic.Lib.Pipeline.Value

@[expose] public section

set_option maxRecDepth 16384

noncomputable section

namespace Cert.KernelGIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The operand's points-to as a remainder and one read share per cell. -/
theorem hbToks (c : Dev nD) (f : HbBuf0 (F := F) c hbM0_0) :
    (hbPt0 c hbM0_0 f : sProp 𝕄) ⊣⊢ iprop((hbM0_0.view.loc (c : Thread nD τ) ↦{Transfers.shareDrop fullShare 12} f) ∗ (hbM0_0.view.loc (c : Thread nD τ) ↦{Transfers.shareTokN fullShare 0} f) ∗ (hbM0_0.view.loc (c : Thread nD τ) ↦{Transfers.shareTokN fullShare 1} f) ∗ (hbM0_0.view.loc (c : Thread nD τ) ↦{Transfers.shareTokN fullShare 2} f) ∗ (hbM0_0.view.loc (c : Thread nD τ) ↦{Transfers.shareTokN fullShare 3} f) ∗ (hbM0_0.view.loc (c : Thread nD τ) ↦{Transfers.shareTokN fullShare 4} f) ∗ (hbM0_0.view.loc (c : Thread nD τ) ↦{Transfers.shareTokN fullShare 5} f) ∗ (hbM0_0.view.loc (c : Thread nD τ) ↦{Transfers.shareTokN fullShare 6} f) ∗ (hbM0_0.view.loc (c : Thread nD τ) ↦{Transfers.shareTokN fullShare 7} f) ∗ (hbM0_0.view.loc (c : Thread nD τ) ↦{Transfers.shareTokN fullShare 8} f) ∗ (hbM0_0.view.loc (c : Thread nD τ) ↦{Transfers.shareTokN fullShare 9} f) ∗ (hbM0_0.view.loc (c : Thread nD τ) ↦{Transfers.shareTokN fullShare 10} f) ∗ (hbM0_0.view.loc (c : Thread nD τ) ↦{Transfers.shareTokN fullShare 11} f)) := by
  have h : (hbPt0 c hbM0_0 f : sProp 𝕄) ⊣⊢ iprop((hbM0_0.view.loc (c : Thread nD τ) ↦{Transfers.shareDrop fullShare 12} f)
      ∗ bigSep (Finset.range 12) fun i => hbM0_0.view.loc (c : Thread nD τ) ↦{Transfers.shareTokN fullShare i} f) :=
    Transfers.pointsTo_toks_range (ℓ := hbM0_0.view.loc (c : Thread nD τ)) (S := Finset.univ) (f := f) fullShare 12
  rw [BI.bigSep_eq_bigSepL_of_eq [0, 1, 2, 3, 4, 5, 6, 7, 8, 9, 10, 11] (by decide) (by decide)] at h
  exact h

set_option maxHeartbeats 1000000 in
/-- The body's run on whole buffers. The eight copies read one array at offsets that may overlap, so the array is
    held as one read share per semaphore cell while they fly, and joined again at the end. The first component is what the
    body stores. -/
noncomputable def kernelRun0_A (c : Dev nD) (i : grid0.Coords) (arg2 : Memref sig .tc .smem S8 .i32) (harg2 : arg2.IsWhole) (arg3 : Memref sig .tc .smem S4x8 .f32) (harg3 : arg3.IsWhole) (arg5 : Memref sig .tc .vmem S786432 .f32) (harg5 : arg5.IsWhole) (arg6 : Memref sig .tc .vmem S786432 .f32) (harg6 : arg6.IsWhole) (arg7 : Memref sig .tc .vmem S786432 .f32) (harg7 : arg7.IsWhole) (arg8 : Memref sig .tc .vmem S786432 .f32) (harg8 : arg8.IsWhole) (arg9 : Memref sig .tc .vmem S786432 .f32) (harg9 : arg9.IsWhole) (arg10 : Memref sig .tc .vmem S786432 .f32) (harg10 : arg10.IsWhole) (arg11 : Memref sig .tc .vmem S786432 .f32) (harg11 : arg11.IsWhole) (arg12 : Memref sig .tc .vmem S786432 .f32) (harg12 : arg12.IsWhole) (arg13 : Memref sig .tc .vmem S786432 .f32) (harg13 : arg13.IsWhole)
    (x0 : Vec F S8 .i32) (x1 : Vec F S4x8 .f32) (fh0 : HbBuf0 (F := F) c hbM0_0) (k0_hw1 : k0_chk1 i (arg2.view.readAt (Elt F) (Rect.unit (s := S8) ![0] S1.size inb_S8_S1_0).toLoadRect (harg2.unread x0) (Shape.Idx.first (numel1_S1.symm ▸ Nat.one_pos)))) (k0_hw2 : k0_chk2 i (arg2.view.readAt (Elt F) (Rect.unit (s := S8) ![1] S1.size inb_S8_S1_1).toLoadRect (harg2.unread x0) (Shape.Idx.first (numel1_S1.symm ▸ Nat.one_pos)))) (k0_hw3 : k0_chk3 i (arg2.view.readAt (Elt F) (Rect.unit (s := S8) ![2] S1.size inb_S8_S1_2).toLoadRect (harg2.unread x0) (Shape.Idx.first (numel1_S1.symm ▸ Nat.one_pos)))) (k0_hw4 : k0_chk4 i (arg2.view.readAt (Elt F) (Rect.unit (s := S8) ![3] S1.size inb_S8_S1_3).toLoadRect (harg2.unread x0) (Shape.Idx.first (numel1_S1.symm ▸ Nat.one_pos)))) (k0_hw5 : k0_chk5 i (arg2.view.readAt (Elt F) (Rect.unit (s := S8) ![4] S1.size inb_S8_S1_4).toLoadRect (harg2.unread x0) (Shape.Idx.first (numel1_S1.symm ▸ Nat.one_pos)))) (k0_hw6 : k0_chk6 i (arg2.view.readAt (Elt F) (Rect.unit (s := S8) ![5] S1.size inb_S8_S1_5).toLoadRect (harg2.unread x0) (Shape.Idx.first (numel1_S1.symm ▸ Nat.one_pos)))) (k0_hw7 : k0_chk7 i (arg2.view.readAt (Elt F) (Rect.unit (s := S8) ![6] S1.size inb_S8_S1_6).toLoadRect (harg2.unread x0) (Shape.Idx.first (numel1_S1.symm ▸ Nat.one_pos)))) (k0_hw8 : k0_chk8 i (arg2.view.readAt (Elt F) (Rect.unit (s := S8) ![7] S1.size inb_S8_S1_7).toLoadRect (harg2.unread x0) (Shape.Idx.first (numel1_S1.symm ▸ Nat.one_pos)))) :
    Σ' (L2 : List (View.Piece (Elt F) S786432 .f32)), Σ' (LT0 : List (View.Piece (Elt F) S786432 .f32)), Σ' (LT1 : List (View.Piece (Elt F) S786432 .f32)), Σ' (LT2 : List (View.Piece (Elt F) S786432 .f32)), Σ' (LT3 : List (View.Piece (Elt F) S786432 .f32)), Σ' (LT4 : List (View.Piece (Elt F) S786432 .f32)), Σ' (LT5 : List (View.Piece (Elt F) S786432 .f32)), Σ' (LT6 : List (View.Piece (Elt F) S786432 .f32)), { LT7 : List (View.Piece (Elt F) S786432 .f32) //
      ∀ (W : Waits sig Unit) (K : PUnit → sProp 𝕄),
        iprop(owns (c : Thread nD τ) arg2 fullShare x0 ∗ owns (c : Thread nD τ) arg3 fullShare x1 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ owes (c : Thread nD τ) 0 W
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LT0) ∗ (∃ f, arg7.view.loc (c : Thread nD τ) ↦[arg7.view.set]{fullShare} arg7.view.writes (Elt F) f LT1) ∗ (∃ f, arg8.view.loc (c : Thread nD τ) ↦[arg8.view.set]{fullShare} arg8.view.writes (Elt F) f LT2) ∗ (∃ f, arg9.view.loc (c : Thread nD τ) ↦[arg9.view.set]{fullShare} arg9.view.writes (Elt F) f LT3) ∗ (∃ f, arg10.view.loc (c : Thread nD τ) ↦[arg10.view.set]{fullShare} arg10.view.writes (Elt F) f LT4) ∗ (∃ f, arg11.view.loc (c : Thread nD τ) ↦[arg11.view.set]{fullShare} arg11.view.writes (Elt F) f LT5) ∗ (∃ f, arg12.view.loc (c : Thread nD τ) ↦[arg12.view.set]{fullShare} arg12.view.writes (Elt F) f LT6) ∗ (∃ f, arg13.view.loc (c : Thread nD τ) ↦[arg13.view.set]{fullShare} arg13.view.writes (Elt F) f LT7) ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ (∃ W', owes (c : Thread nD τ) 0 W')) -∗ K ⟨⟩))
          ⊢ wp frame (wpE (defs₀ (F := F)) Variants.none c none) Set.univ (cc0__agg_body i arg2 harg2 arg3 harg3 (Memref.whole main_v0) (Memref.isWhole_whole _) arg5 harg5 arg6 harg6 arg7 harg7 arg8 harg8 arg9 harg9 arg10 harg10 arg11 harg11 arg12 harg12 arg13 harg13 cc0_scratch8) K } := by
  refine ⟨?_, ?_, ?_, ?_, ?_, ?_, ?_, ?_, ?_, fun W K => ?run⟩
  case run =>
    simp only [cc0__agg_body_eq_skeleton]; unfold cc0__agg_body_skel
    simp only [k0_part1_eq_skeleton, k0_part2_eq_skeleton, k0_part3_eq_skeleton, k0_part4_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hq0, Hq1, Hq2, Hq3, Hq4, Hq5, Hq6, Hq7, Hh0, HW, Hk⟩
    obtain rfl := harg2.eq_unread hf0; obtain rfl := harg3.eq_unread hf1
    ihave Hh0' := (hbToks c fh0).1 $$ Hh0
    icases Hh0' with ⟨Hhd, Hh0, Hh1, Hh2, Hh3, Hh4, Hh5, Hh6, Hh7, Hh8, Hh9, Hh10, Hh11⟩
    sl_exec (disch := first | sl_exact k0_hw1 | sl_exact k0_hw2 | sl_exact k0_hw3 | sl_exact k0_hw4 | sl_exact k0_hw5 | sl_exact k0_hw6 | sl_exact k0_hw7 | sl_exact k0_hw8)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hhd Hh0 Hh1 Hh2 Hh3 Hh4 Hh5 Hh6 Hh7 Hh8 Hh9 Hh10 Hh11]
    · iapply (hbToks c fh0).2
      isplitl [Hhd]; · iexact Hhd
      isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [Hh7]; · iexact Hh7
      isplitl [Hh8]; · iexact Hh8
      isplitl [Hh9]; · iexact Hh9
      isplitl [Hh10]; · iexact Hh10
      iexact Hh11
    iexists _; iexact HW

/-- The body's store covers its output block. -/
theorem cover0_A_2 (c : Dev nD) (i : grid0.Coords) (arg2 : Memref sig .tc .smem S8 .i32) (harg2 : arg2.IsWhole) (arg3 : Memref sig .tc .smem S4x8 .f32) (harg3 : arg3.IsWhole) (arg5 : Memref sig .tc .vmem S786432 .f32) (harg5 : arg5.IsWhole) (arg6 : Memref sig .tc .vmem S786432 .f32) (harg6 : arg6.IsWhole) (arg7 : Memref sig .tc .vmem S786432 .f32) (harg7 : arg7.IsWhole) (arg8 : Memref sig .tc .vmem S786432 .f32) (harg8 : arg8.IsWhole) (arg9 : Memref sig .tc .vmem S786432 .f32) (harg9 : arg9.IsWhole) (arg10 : Memref sig .tc .vmem S786432 .f32) (harg10 : arg10.IsWhole) (arg11 : Memref sig .tc .vmem S786432 .f32) (harg11 : arg11.IsWhole) (arg12 : Memref sig .tc .vmem S786432 .f32) (harg12 : arg12.IsWhole) (arg13 : Memref sig .tc .vmem S786432 .f32) (harg13 : arg13.IsWhole)
    (x0 : Vec F S8 .i32) (x1 : Vec F S4x8 .f32) (fh0 : HbBuf0 (F := F) c hbM0_0) (k0_hw1 : k0_chk1 i (arg2.view.readAt (Elt F) (Rect.unit (s := S8) ![0] S1.size inb_S8_S1_0).toLoadRect (harg2.unread x0) (Shape.Idx.first (numel1_S1.symm ▸ Nat.one_pos)))) (k0_hw2 : k0_chk2 i (arg2.view.readAt (Elt F) (Rect.unit (s := S8) ![1] S1.size inb_S8_S1_1).toLoadRect (harg2.unread x0) (Shape.Idx.first (numel1_S1.symm ▸ Nat.one_pos)))) (k0_hw3 : k0_chk3 i (arg2.view.readAt (Elt F) (Rect.unit (s := S8) ![2] S1.size inb_S8_S1_2).toLoadRect (harg2.unread x0) (Shape.Idx.first (numel1_S1.symm ▸ Nat.one_pos)))) (k0_hw4 : k0_chk4 i (arg2.view.readAt (Elt F) (Rect.unit (s := S8) ![3] S1.size inb_S8_S1_3).toLoadRect (harg2.unread x0) (Shape.Idx.first (numel1_S1.symm ▸ Nat.one_pos)))) (k0_hw5 : k0_chk5 i (arg2.view.readAt (Elt F) (Rect.unit (s := S8) ![4] S1.size inb_S8_S1_4).toLoadRect (harg2.unread x0) (Shape.Idx.first (numel1_S1.symm ▸ Nat.one_pos)))) (k0_hw6 : k0_chk6 i (arg2.view.readAt (Elt F) (Rect.unit (s := S8) ![5] S1.size inb_S8_S1_5).toLoadRect (harg2.unread x0) (Shape.Idx.first (numel1_S1.symm ▸ Nat.one_pos)))) (k0_hw7 : k0_chk7 i (arg2.view.readAt (Elt F) (Rect.unit (s := S8) ![6] S1.size inb_S8_S1_6).toLoadRect (harg2.unread x0) (Shape.Idx.first (numel1_S1.symm ▸ Nat.one_pos)))) (k0_hw8 : k0_chk8 i (arg2.view.readAt (Elt F) (Rect.unit (s := S8) ![7] S1.size inb_S8_S1_7).toLoadRect (harg2.unread x0) (Shape.Idx.first (numel1_S1.symm ▸ Nat.one_pos)))) (y : S786432.Idx) :
    ∃ pc ∈ (kernelRun0_A c i arg2 harg2 arg3 harg3 arg5 harg5 arg6 harg6 arg7 harg7 arg8 harg8 arg9 harg9 arg10 harg10 arg11 harg11 arg12 harg12 arg13 harg13 x0 x1 fh0 k0_hw1 k0_hw2 k0_hw3 k0_hw4 k0_hw5 k0_hw6 k0_hw7 k0_hw8).1, y ∈ pc.1.set :=
  View.cover_of_tiledL (kernelRun0_A c i arg2 harg2 arg3 harg3 arg5 harg5 arg6 harg6 arg7 harg7 arg8 harg8 arg9 harg9 arg10 harg10 arg11 harg11 arg12 harg12 arg13 harg13 x0 x1 fh0 k0_hw1 k0_hw2 k0_hw3 k0_hw4 k0_hw5 k0_hw6 k0_hw7 k0_hw8).1 S786432.size (by sl_kernel_rfl) y

/-- The output block the body leaves. -/
def out0_A_2 (c : Dev nD) (i : grid0.Coords) (arg2 : Memref sig .tc .smem S8 .i32) (harg2 : arg2.IsWhole) (arg3 : Memref sig .tc .smem S4x8 .f32) (harg3 : arg3.IsWhole) (arg5 : Memref sig .tc .vmem S786432 .f32) (harg5 : arg5.IsWhole) (arg6 : Memref sig .tc .vmem S786432 .f32) (harg6 : arg6.IsWhole) (arg7 : Memref sig .tc .vmem S786432 .f32) (harg7 : arg7.IsWhole) (arg8 : Memref sig .tc .vmem S786432 .f32) (harg8 : arg8.IsWhole) (arg9 : Memref sig .tc .vmem S786432 .f32) (harg9 : arg9.IsWhole) (arg10 : Memref sig .tc .vmem S786432 .f32) (harg10 : arg10.IsWhole) (arg11 : Memref sig .tc .vmem S786432 .f32) (harg11 : arg11.IsWhole) (arg12 : Memref sig .tc .vmem S786432 .f32) (harg12 : arg12.IsWhole) (arg13 : Memref sig .tc .vmem S786432 .f32) (harg13 : arg13.IsWhole)
    (x0 : Vec F S8 .i32) (x1 : Vec F S4x8 .f32) (fh0 : HbBuf0 (F := F) c hbM0_0) (k0_hw1 : k0_chk1 i (arg2.view.readAt (Elt F) (Rect.unit (s := S8) ![0] S1.size inb_S8_S1_0).toLoadRect (harg2.unread x0) (Shape.Idx.first (numel1_S1.symm ▸ Nat.one_pos)))) (k0_hw2 : k0_chk2 i (arg2.view.readAt (Elt F) (Rect.unit (s := S8) ![1] S1.size inb_S8_S1_1).toLoadRect (harg2.unread x0) (Shape.Idx.first (numel1_S1.symm ▸ Nat.one_pos)))) (k0_hw3 : k0_chk3 i (arg2.view.readAt (Elt F) (Rect.unit (s := S8) ![2] S1.size inb_S8_S1_2).toLoadRect (harg2.unread x0) (Shape.Idx.first (numel1_S1.symm ▸ Nat.one_pos)))) (k0_hw4 : k0_chk4 i (arg2.view.readAt (Elt F) (Rect.unit (s := S8) ![3] S1.size inb_S8_S1_3).toLoadRect (harg2.unread x0) (Shape.Idx.first (numel1_S1.symm ▸ Nat.one_pos)))) (k0_hw5 : k0_chk5 i (arg2.view.readAt (Elt F) (Rect.unit (s := S8) ![4] S1.size inb_S8_S1_4).toLoadRect (harg2.unread x0) (Shape.Idx.first (numel1_S1.symm ▸ Nat.one_pos)))) (k0_hw6 : k0_chk6 i (arg2.view.readAt (Elt F) (Rect.unit (s := S8) ![5] S1.size inb_S8_S1_5).toLoadRect (harg2.unread x0) (Shape.Idx.first (numel1_S1.symm ▸ Nat.one_pos)))) (k0_hw7 : k0_chk7 i (arg2.view.readAt (Elt F) (Rect.unit (s := S8) ![6] S1.size inb_S8_S1_6).toLoadRect (harg2.unread x0) (Shape.Idx.first (numel1_S1.symm ▸ Nat.one_pos)))) (k0_hw8 : k0_chk8 i (arg2.view.readAt (Elt F) (Rect.unit (s := S8) ![7] S1.size inb_S8_S1_7).toLoadRect (harg2.unread x0) (Shape.Idx.first (numel1_S1.symm ▸ Nat.one_pos)))) : Vec F S786432 .f32 :=
  VO0_2.read (Elt F) (VO0_2.writes (Elt F) VO0_2.junk (kernelRun0_A c i arg2 harg2 arg3 harg3 arg5 harg5 arg6 harg6 arg7 harg7 arg8 harg8 arg9 harg9 arg10 harg10 arg11 harg11 arg12 harg12 arg13 harg13 x0 x1 fh0 k0_hw1 k0_hw2 k0_hw3 k0_hw4 k0_hw5 k0_hw6 k0_hw7 k0_hw8).1)

/-! ## What the outputs hold after each point -/

/-- The output block after point `t`. -/
def outsAt0 (hH : Hyps m) (c : Dev nD) (t : Fin cfg0.N) : Vec F S786432 .f32 :=
  out0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (V m c main_v0) (Hyps.c0 hH c t) (Hyps.c1 hH c t) (Hyps.c2 hH c t) (Hyps.c3 hH c t) (Hyps.c4 hH c t) (Hyps.c5 hH c t) (Hyps.c6 hH c t) (Hyps.c7 hH c t)

/-! ## The pipeline's proof data -/

/-- The launch's proof data: the arrays as found, the blocks after each point, the scratch and the operand kept. -/
def dats (hH : Hyps m) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt0 m hH c t)
  Φ _ := Pipeline.ΦD osem0 spec0 H0 (V m) c
  q _ := fullShare
  owed _ := 0

/-- The arrays are those found at entry. -/
theorem A_eq (hH : Hyps m) (c : Dev nD) (w : Fin cfg0.W) : (dats m hH 0 c).A w = V m c (Pipeline.arrRef spec0 w) := by
  dsimp only [dats]

/-- What the body leaves in each window. -/
theorem after0_0 (hH : Hyps m) (c : Dev nD) (t : Fin cfg0.N) : (dats m hH 0 c).after 0 t = iblk m c 0 t := by dsimp only [dats]
theorem after0_1 (hH : Hyps m) (c : Dev nD) (t : Fin cfg0.N) : (dats m hH 0 c).after 1 t = iblk m c 1 t := by dsimp only [dats]
theorem after0_2 (hH : Hyps m) (c : Dev nD) (t : Fin cfg0.N) : (dats m hH 0 c).after 2 t = (outsAt0 m hH c t) := by dsimp only [dats]

/-- Each input's buffer holds its block. -/
theorem before0_0 (hH : Hyps m) (c : Dev nD) (t : Fin cfg0.N) (d) : (dats m hH 0 c).before 0 t d = iblk m c 0 t :=
  before0_0_of m (dats m hH 0 c) (A_eq m hH c 0) (after0_0 m hH c) t d
theorem before0_1 (hH : Hyps m) (c : Dev nD) (t : Fin cfg0.N) (d) : (dats m hH 0 c).before 1 t d = iblk m c 1 t :=
  before0_1_of m (dats m hH 0 c) (A_eq m hH c 1) (after0_1 m hH c) t d

/-! ## The body obligation, at a generic point -/

/-- What the body is given, -/
def bodyPre (hH : Hyps m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d)))

/-- and what it returns. -/
def bodyPost (hH : Hyps m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t))

set_option maxHeartbeats 800000 in
/-- The body at any point: `kernelRun0_A` at the point's buffers. -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1]
  rw [show (dats m hH 0 c).Φ t.succ = (dats m hH 0 c).Φ t.castSucc from rfl,
    after0_0, after0_1, after0_2]
  rw [show (dats m hH 0 c).Φ t.castSucc = Pipeline.ΦD osem0 spec0 H0 (V m) c from rfl, PhiD0_eq]
  unfold Dat.owesAt Pipeline.owesWithin
  rw [show (dats m hH 0 c).owed t.castSucc = 0 from rfl, show (dats m hH 0 c).owed t.succ = 0 from rfl]
  unfold outsAt0
  unfold out0_A_2
  iintro ⟨⟨⟨HS0, HS1, HS2, HS3, HS4, HS5, HS6, HS7⟩, Hg, ⟨Hq0, Hq1, Hq2, Hq3, Hq4, Hq5, Hq6, Hq7⟩, Hh0⟩, ⟨%W, -, HW⟩, ⟨%d0, H0⟩, ⟨%d1, H1⟩, ⟨%d2, H2⟩⟩
  iapply ((kernelRun0_A c (grid0.coords t) _ _ _ _ _ _ _ _ _ _ _ _ _ _ _ _ _ _ _ _ _ _ (iblk m c 0 t) (iblk m c 1 t) (V m c main_v0) (Hyps.c0 hH c t) (Hyps.c1 hH c t) (Hyps.c2 hH c t) (Hyps.c3 hH c t) (Hyps.c4 hH c t) (Hyps.c5 hH c t) (Hyps.c6 hH c t) (Hyps.c7 hH c t)).2.2.2.2.2.2.2.2.2 W _)
  isplitl [H0]; · iexact H0
  isplitl [H1]; · iexact H1
  isplitl [H2]; · iexists _; iexact H2
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [HW]; · iexact HW
  iintro ⟨H0, H1, ⟨%e2, H2⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩, Hq0, Hq1, Hq2, Hq3, Hq4, Hq5, Hq6, Hq7, Hh0, ⟨%W', HW'⟩⟩
  isplitl [HS0 HS1 HS2 HS3 HS4 HS5 HS6 HS7 Hg Hq0 Hq1 Hq2 Hq3 Hq4 Hq5 Hq6 Hq7 Hh0]
  · isplitl [HS0 HS1 HS2 HS3 HS4 HS5 HS6 HS7]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · iexists _; unfold owns; iexists _; isplitr
        swap; · iexact HS6
        ipureintro; rfl
      iexists _; unfold owns; iexists _; isplitr
      swap; · iexact HS7
      ipureintro; rfl
    isplitl [Hg]
    · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    iexact Hh0
  isplitl [HW']
  · iexists W'; isplitr; · ipureintro; exact fun _ _ => Or.inl trivial
    iexact HW'
  isplitl [H0]; · iexact H0
  isplitl [H1]; · iexact H1
  unfold owns; iexists _; isplitr
  swap; · iexact H2
  ipureintro; exact View.read_writes_of_cover _ _ _ _ _ (cover0_A_2 c _ _ _ _ _ _ _ _ _ _ _ _ _ _ _ _ _ _ _ _ _ _ _ _ _ _ _ _ _ _ _ _ _ _)

/-- The body that the launch calls at point `t`. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (hH : Hyps m) (c : Dev nD) : BodyObligation (dats (F := F) m hH 0 c) (defs₀ (F := F)) Variants.none () Set.univ := fun t => by
  rw [bigSep_W0, bigSep_W0, defs₀_row]
  exact triple_restated (sound_body m hH c t) rfl .rfl fun _ => .rfl

/-! ## The run and the frame -/

set_option backward.isDefEq.respectTransparency.types false in
/-- The program's run, with every counter at zero at its end. -/
theorem run_main_quiescent (hH : Hyps m) : θ_run defs (onTc (τ := τ) (main (F := F))) (s₀ m ρ) (fun r => (Pipeline.FramePost cfgs (dats m hH) 0 (V m)) r ∧ r.2.sem = fun _ => 0) :=
  Pipeline.θ_run_frame_dma (Q' := _) cfgs (dats m hH) (0 : Fin 1) launch0 osem0 defs₀ Variants.none ownSemFacts0 H0 H0_sub m ρ main
    (hbody := fun c => (body_obligation m hH c).loose) (hshare := fun c => (dats m hH 0 c).share_full fun _ => rfl)
    (howed := fun _ _ => rfl) (V := V m) (hmain := hmain m Variants.none) (hA := A_eq m hH)
    (hin := fun _ => .rfl) (hout := fun _ => .rfl)

/-- The program's run. -/
theorem run_main (hH : Hyps m) : θ_run defs (onTc (τ := τ) (main (F := F))) (s₀ m ρ) (Pipeline.FramePost cfgs (dats m hH) 0 (V m)) :=
  (θ_run defs _ _).mono (fun _ h => h.1) (run_main_quiescent m ρ hH)

/-- The arguments end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m hH) (A_eq m hH) (run_main m ρ hH)

/-- The frame, under the bounds on the words that the body reads. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hH) ((θ_run defs _ _).mono (fun _ h => h.2) (run_main_quiescent m ρ hH))

end Cert.KernelGIdeal.Gen

namespace Cert.KernelGIdeal.Value

open Cert.KernelGIdeal Cert.KernelGIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What point `t` writes back. -/
theorem flushed2 (hH : Hyps m) (c : Dev nD) (t : Fin cfg0.N) :
    (dats m hH 0 c).flushed 2 t = (cfg0.win 2).cut (grid0.coords t) (outsAt0 m hH c t) := by
  show (cfg0.win 2).cut (grid0.coords t) ((dats m hH 0 c).after 2 t) = _
  rw [after0_2]

/-- The index map sends distinct grid points to distinct block indices (decided over the 16 points). -/
theorem idx_inj2 : ∀ t t' : Fin cfg0.N, win0_2.index t = win0_2.index t' → t = t' :=
  (by decide +kernel : ∀ t t' : Fin grid0.N, win0_2.index t = win0_2.index t' → t = t')

/-- Two points' blocks share no index. -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- Block `t` of the final array is what point `t` wrote. -/
theorem blocks2 (hH : Hyps m) (c : Dev nD) (t : Fin cfg0.N) (hf : (cfg0.win 2).flush t = true) :
    ((cfg0.win 2).blk t).view.read (Elt F) ((dats m hH 0 c).arrAt 2 cfg0.N) = (dats m hH 0 c).flushed 2 t :=
  (dats m hH 0 c).read_blk_arrAt_eq_flushed 2 disjoint2 cfg0.N t t.isLt hf

/-- After the frame run, output window 2's array is `(dats m hH 0 c).arrAt 2 N`. -/
theorem post2 (hH : Hyps m) (r : PUnit × MemSt nD τ sig (Elt F)) (h : Pipeline.FramePost cfgs (dats m hH) 0 (V m) r) (c : Dev nD) :
    r.2.mem ((c : Thread nD τ).loc main_v1) = (dats m hH 0 c).arrAt 2 cfg0.N :=
  (h c).1 2

/-- After the frame run, argument `main_arg0` is as launched: input window 0 stages it and never writes it back. -/
theorem kept_main_arg0 (hH : Hyps m) (r : PUnit × MemSt nD τ sig (Elt F)) (h : Pipeline.FramePost cfgs (dats m hH) 0 (V m) r) (c : Dev nD) :
    r.2.mem ((c : Thread nD τ).loc main_arg0) = m ((c : Thread nD τ).loc main_arg0) :=
  ((h c).1 0).trans (((dats m hH 0 c).arrAt_in 0 rfl _).trans ((A_eq m hH c 0).trans (V_main_arg0 m c)))

/-- After the frame run, argument `main_arg1` is as launched: input window 1 stages it and never writes it back. -/
theorem kept_main_arg1 (hH : Hyps m) (r : PUnit × MemSt nD τ sig (Elt F)) (h : Pipeline.FramePost cfgs (dats m hH) 0 (V m) r) (c : Dev nD) :
    r.2.mem ((c : Thread nD τ).loc main_arg1) = m ((c : Thread nD τ).loc main_arg1) :=
  ((h c).1 1).trans (((dats m hH 0 c).arrAt_in 1 rfl _).trans ((A_eq m hH c 1).trans (V_main_arg1 m c)))

/-- After the frame run, argument `main_arg2` is as launched: no window stages it, and the run leaves the region's other buffers as they were. -/
theorem kept_main_arg2 (hH : Hyps m) (r : PUnit × MemSt nD τ sig (Elt F)) (h : Pipeline.FramePost cfgs (dats m hH) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The run, its result named. -/
theorem run_blocks (hH : Hyps m) : θ_run defs (onTc (τ := τ) (main (F := F))) ⟨m, fun _ => 0, ρ⟩ fun r => ∀ c : Dev nD,
      r.2.mem ((c : Thread nD τ).loc main_v1) = (dats m hH 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post2 m hH r h c,
      kept_main_arg0 m hH r h c,
      kept_main_arg1 m hH r h c,
      kept_main_arg2 m hH r h c⟩)
    (run_main m ρ hH)

end Cert.KernelGIdeal.Value

end
-- ==== Proof.AggValue.lean ====
/- What the delayed-sum call leaves in its output array: at each place the weighted sum of the eight delayed rows. -/
module

public import proofs.«01_k».proof.Proof.AggHyps
public import proofs.«01_k».proof.Proof.AggRef
public import proofs.«01_k».proof.Proof.AggRun
public import Idealize.ShloMosaic.Lib.VecWindow
public import Idealize.ShloMosaic.Lib.StableHlo.ReadAt

@[expose] public section

set_option maxRecDepth 16384

noncomputable section

namespace Cert.AggValue

open Idealize.ShloMosaic Idealize.ShloMosaic.Pipeline Idealize.ShloMosaic.TcCoe Cert.KernelGIdeal Cert.KernelGIdeal.Gen
open Cert.AggWords

/-! ## The body's pieces -/

/-- What a scalar load of the table of weights reads. -/
theorem weight_at (v : Memref sig .tc .smem S4x8 .f32) (hv : v.IsWhole) (x1 : Vec Ideal S4x8 .f32) (off : Fin 2 → ℕ) (b : Fin 4) (k : Fin 8)
    (ho : off = ![b.val, k.val]) (inb : ∀ a, off a + S1x1.size a ≤ S4x8.size a) (p : 0 < S1x1.numel) :
    v.view.readAt (Elt Ideal) (Rect.unit (s := S4x8) off S1x1.size inb).toLoadRect (hv.unread x1) (Shape.Idx.first p) = x1 (ix2 b k) := by
  subst ho
  rw [View.readAt_apply, hv.read_unread]
  refine congrArg x1 (funext fun a => Fin.ext ?_)
  match a with
  | ⟨0, _⟩ => show b.val + 1 * 0 = b.val; omega
  | ⟨1, _⟩ => show k.val + 1 * 0 = k.val; omega

/-- What the body loads from a scratch buffer is the block that was copied there, from the place it was copied from. -/
theorem data_at (v : Memref sig .tc .vmem S786432 .f32) (w : S786432.Idx → Elt Ideal .f32) (inb : ∀ a, (![0] : Fin 1 → ℕ) a + S786432.size a ≤ S786432.size a)
    (y : S786432.Idx) (x : EReal) (hw : w y = x) :
    v.view.readCov [(⟨Rect.whole S786432, w⟩ : View.Piece (Elt Ideal) S786432 .f32)] (Rect.unit (s := S786432) ![0] S786432.size inb).toLoadRect y = x := by
  subst hw
  exact congrFun (View.readCov_full v.view inb _ w []) y

/-- A copy's source block, at a place. -/
theorem copy_at (off : Fin 1 → ℕ) (inb : ∀ a, off a + S786432.size a ≤ S25165824.size a)
    (f : Vec Ideal S25165824 .f32) (y : S786432.Idx) (n : Fin 25165824) (ho : off 0 + (y 0).val = n.val) :
    View.read (Elt Ideal) ((View.whole main_v0 : View sig .tc .hbm S25165824 .f32).slice (Rect.unit (s := S25165824) off S786432.size inb)) f y = f (ix1 n) := by
  refine congrArg f (funext fun (a : Fin 1) => Fin.ext ?_)
  obtain rfl : a = 0 := Subsingleton.elim _ _
  show off 0 + 1 * (y 0).val = n.val
  omega

/-- The body's arithmetic: eight products added one after the other. -/
theorem pay_eq (a0 a1 a2 a3 a4 a5 a6 a7 : Elt Ideal .f32) (D0 D1 D2 D3 D4 D5 D6 D7 : Vec Ideal S786432 .f32) (y : S786432.Idx) (p q : Fin 8 → EReal)
    (h0 : a0 = p 0) (h1 : a1 = p 1) (h2 : a2 = p 2) (h3 : a3 = p 3) (h4 : a4 = p 4) (h5 : a5 = p 5) (h6 : a6 = p 6) (h7 : a7 = p 7)
    (d0 : D0 y = q 0) (d1 : D1 y = q 1) (d2 : D2 y = q 2) (d3 : D3 y = q 3) (d4 : D4 y = q 4) (d5 : D5 y = q 5) (d6 : D6 y = q 6) (d7 : D7 y = q 7) :
    k0_pay1 (k0_pay3 (k0_pay2 a0 D0 a1 D1 a2 D2) a3 D3 a4 D4 a5 D5 a6 D6) a7 D7 y = ∑ k : Fin 8, p k * q k := by
  rw [Fin.sum_univ_eight, ← h0, ← h1, ← h2, ← h3, ← h4, ← h5, ← h6, ← h7, ← d0, ← d1, ← d2, ← d3, ← d4, ← d5, ← d6, ← d7]
  rfl

variable (m : (ℓ : Loc nD τ sig) → Buf (Elt Ideal) ℓ)

/-- Every point sees the whole table of weights. -/
theorem weights_blk (c : Dev nD) (t : Fin cfg0.N) (b : Fin 4) (k : Fin 8) : iblk m c 1 t (ix2 b k) = m ((c.tc : Thread nD τ).loc main_arg1) (ix2 b k) := by
  rw [← V_main_arg1 m c]
  have e := (Hyp.idx0 t).2
  blk_ext [iblk, e]

/-- The flat form of the doubled array. -/
theorem flat_at (c : Dev nD) (n : Fin 25165824) : V m c main_v0 (ix1 n) = m ((c.tc : Thread nD τ).loc main_arg2) (AggRef.unflat n.val) := by
  after_reads_at
  have hn := n.isLt
  refine congrArg _ (funext fun (a : Fin 4) => Fin.ext ?_)
  match a with
  | ⟨0, _⟩ => show n.val / 6291456 = n.val / 6291456 % 4; omega
  | ⟨1, _⟩ => rfl
  | ⟨2, _⟩ => rfl
  | ⟨3, _⟩ => rfl

theorem idx2 : ∀ t : Fin grid0.N, win0_2.index t = ![(grid0.coords t 0).val * 4 + (grid0.coords t 1).val] := by
  decide +kernel

section point

variable (h : ∀ (c : Dev nD) (k : Fin 8), (m ((c.tc : Thread nD τ).loc main_arg0) (ix1 k) : BitVec 32).toNat < 4096)
  (c : Dev nD) (t : Fin cfg0.N) (y : Fin 786432) (n : Fin 12582912) (hn : n.val = ((grid0.coords t 0).val * 4 + (grid0.coords t 1).val) * 786432 + y.val)

include h hn in
/-- What copy `k` brings: the rows delayed by the `k`-th delay. -/
theorem row_at (k : Fin 8) (w : BitVec 32) (hw : w = (m ((c.tc : Thread nD τ).loc main_arg0) (ix1 k) : BitVec 32)) (off : Fin 1 → ℕ)
    (ho : off = ![(start (grid0.coords t 0).val (grid0.coords t 1).val w).toNat]) (inb : ∀ a, off a + S786432.size a ≤ S25165824.size a) :
    View.read (Elt Ideal) ((View.whole main_v0 : View sig .tc .hbm S25165824 .f32).slice (Rect.unit (s := S25165824) off S786432.size inb)) (V m c main_v0) (ix1 y)
      = m ((c.tc : Thread nD τ).loc main_arg2) (AggRef.unflat ((8192 * (n.val / 3145728) + n.val / 768 % 4096
          + (m ((c.tc : Thread nD τ).loc main_arg0) (ix1 k) : BitVec 32).toNat) * 768 + n.val % 768)) := by
  have hk := h c k
  rw [← hw] at hk ⊢
  have hb : (grid0.coords t 0).val < 4 := (grid0.coords t 0).isLt
  have hi : (grid0.coords t 1).val < 4 := (grid0.coords t 1).isLt
  have hs := start_toNat _ _ hb hi w hk
  have hy := y.isLt
  have e : (8192 * (n.val / 3145728) + n.val / 768 % 4096 + w.toNat) * 768 + n.val % 768
      = (8192 * (grid0.coords t 0).val + 1024 * (grid0.coords t 1).val + w.toNat) * 768 + y.val := by
    rw [hn]; omega
  rw [e]
  exact (copy_at off inb (V m c main_v0) (ix1 y) ⟨(8192 * (grid0.coords t 0).val + 1024 * (grid0.coords t 1).val + w.toNat) * 768 + y.val, by omega⟩
    (by subst ho; show (start _ _ w).toNat + y.val = _; rw [hs])).trans (flat_at m c _)

include hn in
theorem batch_eq : (⟨n.val / 3145728 % 4, by omega⟩ : Fin 4) = grid0.coords t 0 := by
  have hb : (grid0.coords t 0).val < 4 := (grid0.coords t 0).isLt
  have hi : (grid0.coords t 1).val < 4 := (grid0.coords t 1).isLt
  have hy := y.isLt
  refine Fin.ext ?_
  show n.val / 3145728 % 4 = (grid0.coords t 0).val
  omega

include h hn in
theorem outs_eq (hH : Hyps m) :
    outsAt0 m hH c t (ix1 y) = AggRef.delaySum (fun k => (m ((c.tc : Thread nD τ).loc main_arg0) (ix1 k) : BitVec 32).toNat)
      (m ((c.tc : Thread nD τ).loc main_arg1)) (m ((c.tc : Thread nD τ).loc main_arg2)) n.val := by
  have hw : ∀ (off : Fin 2 → ℕ) (k : Fin 8) (ho : off = ![(BitVec.ofNat 32 (grid0.coords t 0).val).toNat, k.val]) (inb : ∀ a, off a + S1x1.size a ≤ S4x8.size a) (p : 0 < S1x1.numel),
      (ms0_1 t).view.readAt (Elt Ideal) (Rect.unit (s := S4x8) off S1x1.size inb).toLoadRect ((hs0_1 t).unread (iblk m c 1 t)) (Shape.Idx.first p)
        = m ((c.tc : Thread nD τ).loc main_arg1) (ix2 ⟨n.val / 3145728 % 4, by omega⟩ k) := by
    intro off k ho inb p
    have hb : (grid0.coords t 0).val < 4 := (grid0.coords t 0).isLt
    rw [BitVec.toNat_ofNat, Nat.mod_eq_of_lt (by omega)] at ho
    rw [batch_eq t y n hn]
    exact (weight_at (ms0_1 t) (hs0_1 t) (iblk m c 1 t) off (grid0.coords t 0) k ho inb p).trans (weights_blk m c t _ k)
  have hd : ∀ (k : Fin 8) (inb : ∀ a, (![k.val] : Fin 1 → ℕ) a + S1.size a ≤ S8.size a) (p : 0 < S1.numel),
      (ms0_0 t).view.readAt (Elt Ideal) (Rect.unit (s := S8) ![k.val] S1.size inb).toLoadRect ((hs0_0 t).unread (iblk m c 0 t)) (Shape.Idx.first p)
        = m ((c.tc : Thread nD τ).loc main_arg0) (ix1 k) :=
    fun k inb p => (Hyp.word_at (ms0_0 t) (hs0_0 t) (iblk m c 0 t) k inb p).trans (Hyp.delays_blk m c t k)
  unfold outsAt0 out0_A_2 kernelRun0_A
  dsimp only
  refine (congrFun (View.read_writes_full _ _ _ _ _) (ix1 y)).trans ?_
  exact pay_eq _ _ _ _ _ _ _ _ _ _ _ _ _ _ _ _ _ _ _
    (hw _ 0 rfl _ _) (hw _ 1 rfl _ _) (hw _ 2 rfl _ _) (hw _ 3 rfl _ _) (hw _ 4 rfl _ _) (hw _ 5 rfl _ _) (hw _ 6 rfl _ _) (hw _ 7 rfl _ _)
    (data_at _ _ _ _ _ (row_at m h c t y n hn 0 _ (hd 0 _ _) _ rfl _))
    (data_at _ _ _ _ _ (row_at m h c t y n hn 1 _ (hd 1 _ _) _ rfl _))
    (data_at _ _ _ _ _ (row_at m h c t y n hn 2 _ (hd 2 _ _) _ rfl _))
    (data_at _ _ _ _ _ (row_at m h c t y n hn 3 _ (hd 3 _ _) _ rfl _))
    (data_at _ _ _ _ _ (row_at m h c t y n hn 4 _ (hd 4 _ _) _ rfl _))
    (data_at _ _ _ _ _ (row_at m h c t y n hn 5 _ (hd 5 _ _) _ rfl _))
    (data_at _ _ _ _ _ (row_at m h c t y n hn 6 _ (hd 6 _ _) _ rfl _))
    (data_at _ _ _ _ _ (row_at m h c t y n hn 7 _ (hd 7 _ _) _ rfl _))

end point

theorem arr (hH : Hyps m) (h : ∀ (c : Dev nD) (k : Fin 8), (m ((c.tc : Thread nD τ).loc main_arg0) (ix1 k) : BitVec 32).toNat < 4096) (c : Dev nD) :
    (dats m hH 0 c).arrAt 2 cfg0.N = fun i : S12582912.Idx => AggRef.delaySum (fun k => (m ((c.tc : Thread nD τ).loc main_arg0) (ix1 k) : BitVec 32).toNat)
      (m ((c.tc : Thread nD τ).loc main_arg1)) (m ((c.tc : Thread nD τ).loc main_arg2)) (i 0).val := by
  refine (dats m hH 0 c).arrAt_eq_of_covers 2 _ (by decide +kernel) fun t hf y => ?_
  blk_simp
  rw [after0_2]
  idx_vars y
  have e := idx2 t
  refine (outs_eq m h c t y0 ⟨((grid0.coords t 0).val * 4 + (grid0.coords t 1).val) * 786432 + y0.val, ?_⟩ rfl hH).trans ?_
  · have hb : (grid0.coords t 0).val < 4 := (grid0.coords t 0).isLt
    have hi : (grid0.coords t 1).val < 4 := (grid0.coords t 1).isLt
    have hy := y0.isLt
    omega
  · rw [show win0_2.index t 0 = (grid0.coords t 0).val * 4 + (grid0.coords t 1).val from congrFun e 0]

end Cert.AggValue

end
-- ==== Proof.AggRunBits.lean ====
/- The run of the delayed sum at machine words: its frame, and what it leaves in its result. -/
module

public import proofs.«01_k».proof.Proof.Gen.KernelG.Frame.Runs
public import Idealize.ShloMosaic.Lib.Claim
public import Idealize.ShloMosaic.Lib.Pipeline.Value

@[expose] public section

set_option maxRecDepth 16384

noncomputable section

namespace Cert.KernelG.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The operand's points-to as a remainder and one read share per cell. -/
theorem hbToks (c : Dev nD) (f : HbBuf0 (F := F) c hbM0_0) :
    (hbPt0 c hbM0_0 f : sProp 𝕄) ⊣⊢ iprop((hbM0_0.view.loc (c : Thread nD τ) ↦{Transfers.shareDrop fullShare 12} f) ∗ (hbM0_0.view.loc (c : Thread nD τ) ↦{Transfers.shareTokN fullShare 0} f) ∗ (hbM0_0.view.loc (c : Thread nD τ) ↦{Transfers.shareTokN fullShare 1} f) ∗ (hbM0_0.view.loc (c : Thread nD τ) ↦{Transfers.shareTokN fullShare 2} f) ∗ (hbM0_0.view.loc (c : Thread nD τ) ↦{Transfers.shareTokN fullShare 3} f) ∗ (hbM0_0.view.loc (c : Thread nD τ) ↦{Transfers.shareTokN fullShare 4} f) ∗ (hbM0_0.view.loc (c : Thread nD τ) ↦{Transfers.shareTokN fullShare 5} f) ∗ (hbM0_0.view.loc (c : Thread nD τ) ↦{Transfers.shareTokN fullShare 6} f) ∗ (hbM0_0.view.loc (c : Thread nD τ) ↦{Transfers.shareTokN fullShare 7} f) ∗ (hbM0_0.view.loc (c : Thread nD τ) ↦{Transfers.shareTokN fullShare 8} f) ∗ (hbM0_0.view.loc (c : Thread nD τ) ↦{Transfers.shareTokN fullShare 9} f) ∗ (hbM0_0.view.loc (c : Thread nD τ) ↦{Transfers.shareTokN fullShare 10} f) ∗ (hbM0_0.view.loc (c : Thread nD τ) ↦{Transfers.shareTokN fullShare 11} f)) := by
  have h : (hbPt0 c hbM0_0 f : sProp 𝕄) ⊣⊢ iprop((hbM0_0.view.loc (c : Thread nD τ) ↦{Transfers.shareDrop fullShare 12} f)
      ∗ bigSep (Finset.range 12) fun i => hbM0_0.view.loc (c : Thread nD τ) ↦{Transfers.shareTokN fullShare i} f) :=
    Transfers.pointsTo_toks_range (ℓ := hbM0_0.view.loc (c : Thread nD τ)) (S := Finset.univ) (f := f) fullShare 12
  rw [BI.bigSep_eq_bigSepL_of_eq [0, 1, 2, 3, 4, 5, 6, 7, 8, 9, 10, 11] (by decide) (by decide)] at h
  exact h

set_option maxHeartbeats 1000000 in
/-- The body's run on whole buffers. The eight copies read one array at offsets that may overlap, so the array is
    held as one read share per semaphore cell while they fly, and joined again at the end. The first component is what the
    body stores. -/
noncomputable def kernelRun0_A (c : Dev nD) (i : grid0.Coords) (arg2 : Memref sig .tc .smem S8 .i32) (harg2 : arg2.IsWhole) (arg3 : Memref sig .tc .smem S4x8 .f32) (harg3 : arg3.IsWhole) (arg5 : Memref sig .tc .vmem S786432 .f32) (harg5 : arg5.IsWhole) (arg6 : Memref sig .tc .vmem S786432 .f32) (harg6 : arg6.IsWhole) (arg7 : Memref sig .tc .vmem S786432 .f32) (harg7 : arg7.IsWhole) (arg8 : Memref sig .tc .vmem S786432 .f32) (harg8 : arg8.IsWhole) (arg9 : Memref sig .tc .vmem S786432 .f32) (harg9 : arg9.IsWhole) (arg10 : Memref sig .tc .vmem S786432 .f32) (harg10 : arg10.IsWhole) (arg11 : Memref sig .tc .vmem S786432 .f32) (harg11 : arg11.IsWhole) (arg12 : Memref sig .tc .vmem S786432 .f32) (harg12 : arg12.IsWhole) (arg13 : Memref sig .tc .vmem S786432 .f32) (harg13 : arg13.IsWhole)
    (x0 : Vec F S8 .i32) (x1 : Vec F S4x8 .f32) (fh0 : HbBuf0 (F := F) c hbM0_0) (k0_hw1 : k0_chk1 i (arg2.view.readAt (Elt F) (Rect.unit (s := S8) ![0] S1.size inb_S8_S1_0).toLoadRect (harg2.unread x0) (Shape.Idx.first (numel1_S1.symm ▸ Nat.one_pos)))) (k0_hw2 : k0_chk2 i (arg2.view.readAt (Elt F) (Rect.unit (s := S8) ![1] S1.size inb_S8_S1_1).toLoadRect (harg2.unread x0) (Shape.Idx.first (numel1_S1.symm ▸ Nat.one_pos)))) (k0_hw3 : k0_chk3 i (arg2.view.readAt (Elt F) (Rect.unit (s := S8) ![2] S1.size inb_S8_S1_2).toLoadRect (harg2.unread x0) (Shape.Idx.first (numel1_S1.symm ▸ Nat.one_pos)))) (k0_hw4 : k0_chk4 i (arg2.view.readAt (Elt F) (Rect.unit (s := S8) ![3] S1.size inb_S8_S1_3).toLoadRect (harg2.unread x0) (Shape.Idx.first (numel1_S1.symm ▸ Nat.one_pos)))) (k0_hw5 : k0_chk5 i (arg2.view.readAt (Elt F) (Rect.unit (s := S8) ![4] S1.size inb_S8_S1_4).toLoadRect (harg2.unread x0) (Shape.Idx.first (numel1_S1.symm ▸ Nat.one_pos)))) (k0_hw6 : k0_chk6 i (arg2.view.readAt (Elt F) (Rect.unit (s := S8) ![5] S1.size inb_S8_S1_5).toLoadRect (harg2.unread x0) (Shape.Idx.first (numel1_S1.symm ▸ Nat.one_pos)))) (k0_hw7 : k0_chk7 i (arg2.view.readAt (Elt F) (Rect.unit (s := S8) ![6] S1.size inb_S8_S1_6).toLoadRect (harg2.unread x0) (Shape.Idx.first (numel1_S1.symm ▸ Nat.one_pos)))) (k0_hw8 : k0_chk8 i (arg2.view.readAt (Elt F) (Rect.unit (s := S8) ![7] S1.size inb_S8_S1_7).toLoadRect (harg2.unread x0) (Shape.Idx.first (numel1_S1.symm ▸ Nat.one_pos)))) :
    Σ' (L2 : List (View.Piece (Elt F) S786432 .f32)), Σ' (LT0 : List (View.Piece (Elt F) S786432 .f32)), Σ' (LT1 : List (View.Piece (Elt F) S786432 .f32)), Σ' (LT2 : List (View.Piece (Elt F) S786432 .f32)), Σ' (LT3 : List (View.Piece (Elt F) S786432 .f32)), Σ' (LT4 : List (View.Piece (Elt F) S786432 .f32)), Σ' (LT5 : List (View.Piece (Elt F) S786432 .f32)), Σ' (LT6 : List (View.Piece (Elt F) S786432 .f32)), { LT7 : List (View.Piece (Elt F) S786432 .f32) //
      ∀ (W : Waits sig Unit) (K : PUnit → sProp 𝕄),
        iprop(owns (c : Thread nD τ) arg2 fullShare x0 ∗ owns (c : Thread nD τ) arg3 fullShare x1 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ owes (c : Thread nD τ) 0 W
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LT0) ∗ (∃ f, arg7.view.loc (c : Thread nD τ) ↦[arg7.view.set]{fullShare} arg7.view.writes (Elt F) f LT1) ∗ (∃ f, arg8.view.loc (c : Thread nD τ) ↦[arg8.view.set]{fullShare} arg8.view.writes (Elt F) f LT2) ∗ (∃ f, arg9.view.loc (c : Thread nD τ) ↦[arg9.view.set]{fullShare} arg9.view.writes (Elt F) f LT3) ∗ (∃ f, arg10.view.loc (c : Thread nD τ) ↦[arg10.view.set]{fullShare} arg10.view.writes (Elt F) f LT4) ∗ (∃ f, arg11.view.loc (c : Thread nD τ) ↦[arg11.view.set]{fullShare} arg11.view.writes (Elt F) f LT5) ∗ (∃ f, arg12.view.loc (c : Thread nD τ) ↦[arg12.view.set]{fullShare} arg12.view.writes (Elt F) f LT6) ∗ (∃ f, arg13.view.loc (c : Thread nD τ) ↦[arg13.view.set]{fullShare} arg13.view.writes (Elt F) f LT7) ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ (∃ W', owes (c : Thread nD τ) 0 W')) -∗ K ⟨⟩))
          ⊢ wp frame (wpE (defs₀ (F := F)) Variants.none c none) Set.univ (cc0__agg_body i arg2 harg2 arg3 harg3 (Memref.whole main_v0) (Memref.isWhole_whole _) arg5 harg5 arg6 harg6 arg7 harg7 arg8 harg8 arg9 harg9 arg10 harg10 arg11 harg11 arg12 harg12 arg13 harg13 cc0_scratch8) K } := by
  refine ⟨?_, ?_, ?_, ?_, ?_, ?_, ?_, ?_, ?_, fun W K => ?run⟩
  case run =>
    simp only [cc0__agg_body_eq_skeleton]; unfold cc0__agg_body_skel
    simp only [k0_part1_eq_skeleton, k0_part2_eq_skeleton, k0_part3_eq_skeleton, k0_part4_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hq0, Hq1, Hq2, Hq3, Hq4, Hq5, Hq6, Hq7, Hh0, HW, Hk⟩
    obtain rfl := harg2.eq_unread hf0; obtain rfl := harg3.eq_unread hf1
    ihave Hh0' := (hbToks c fh0).1 $$ Hh0
    icases Hh0' with ⟨Hhd, Hh0, Hh1, Hh2, Hh3, Hh4, Hh5, Hh6, Hh7, Hh8, Hh9, Hh10, Hh11⟩
    sl_exec (disch := first | sl_exact k0_hw1 | sl_exact k0_hw2 | sl_exact k0_hw3 | sl_exact k0_hw4 | sl_exact k0_hw5 | sl_exact k0_hw6 | sl_exact k0_hw7 | sl_exact k0_hw8)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hhd Hh0 Hh1 Hh2 Hh3 Hh4 Hh5 Hh6 Hh7 Hh8 Hh9 Hh10 Hh11]
    · iapply (hbToks c fh0).2
      isplitl [Hhd]; · iexact Hhd
      isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [Hh7]; · iexact Hh7
      isplitl [Hh8]; · iexact Hh8
      isplitl [Hh9]; · iexact Hh9
      isplitl [Hh10]; · iexact Hh10
      iexact Hh11
    iexists _; iexact HW

/-- The body's store covers its output block. -/
theorem cover0_A_2 (c : Dev nD) (i : grid0.Coords) (arg2 : Memref sig .tc .smem S8 .i32) (harg2 : arg2.IsWhole) (arg3 : Memref sig .tc .smem S4x8 .f32) (harg3 : arg3.IsWhole) (arg5 : Memref sig .tc .vmem S786432 .f32) (harg5 : arg5.IsWhole) (arg6 : Memref sig .tc .vmem S786432 .f32) (harg6 : arg6.IsWhole) (arg7 : Memref sig .tc .vmem S786432 .f32) (harg7 : arg7.IsWhole) (arg8 : Memref sig .tc .vmem S786432 .f32) (harg8 : arg8.IsWhole) (arg9 : Memref sig .tc .vmem S786432 .f32) (harg9 : arg9.IsWhole) (arg10 : Memref sig .tc .vmem S786432 .f32) (harg10 : arg10.IsWhole) (arg11 : Memref sig .tc .vmem S786432 .f32) (harg11 : arg11.IsWhole) (arg12 : Memref sig .tc .vmem S786432 .f32) (harg12 : arg12.IsWhole) (arg13 : Memref sig .tc .vmem S786432 .f32) (harg13 : arg13.IsWhole)
    (x0 : Vec F S8 .i32) (x1 : Vec F S4x8 .f32) (fh0 : HbBuf0 (F := F) c hbM0_0) (k0_hw1 : k0_chk1 i (arg2.view.readAt (Elt F) (Rect.unit (s := S8) ![0] S1.size inb_S8_S1_0).toLoadRect (harg2.unread x0) (Shape.Idx.first (numel1_S1.symm ▸ Nat.one_pos)))) (k0_hw2 : k0_chk2 i (arg2.view.readAt (Elt F) (Rect.unit (s := S8) ![1] S1.size inb_S8_S1_1).toLoadRect (harg2.unread x0) (Shape.Idx.first (numel1_S1.symm ▸ Nat.one_pos)))) (k0_hw3 : k0_chk3 i (arg2.view.readAt (Elt F) (Rect.unit (s := S8) ![2] S1.size inb_S8_S1_2).toLoadRect (harg2.unread x0) (Shape.Idx.first (numel1_S1.symm ▸ Nat.one_pos)))) (k0_hw4 : k0_chk4 i (arg2.view.readAt (Elt F) (Rect.unit (s := S8) ![3] S1.size inb_S8_S1_3).toLoadRect (harg2.unread x0) (Shape.Idx.first (numel1_S1.symm ▸ Nat.one_pos)))) (k0_hw5 : k0_chk5 i (arg2.view.readAt (Elt F) (Rect.unit (s := S8) ![4] S1.size inb_S8_S1_4).toLoadRect (harg2.unread x0) (Shape.Idx.first (numel1_S1.symm ▸ Nat.one_pos)))) (k0_hw6 : k0_chk6 i (arg2.view.readAt (Elt F) (Rect.unit (s := S8) ![5] S1.size inb_S8_S1_5).toLoadRect (harg2.unread x0) (Shape.Idx.first (numel1_S1.symm ▸ Nat.one_pos)))) (k0_hw7 : k0_chk7 i (arg2.view.readAt (Elt F) (Rect.unit (s := S8) ![6] S1.size inb_S8_S1_6).toLoadRect (harg2.unread x0) (Shape.Idx.first (numel1_S1.symm ▸ Nat.one_pos)))) (k0_hw8 : k0_chk8 i (arg2.view.readAt (Elt F) (Rect.unit (s := S8) ![7] S1.size inb_S8_S1_7).toLoadRect (harg2.unread x0) (Shape.Idx.first (numel1_S1.symm ▸ Nat.one_pos)))) (y : S786432.Idx) :
    ∃ pc ∈ (kernelRun0_A c i arg2 harg2 arg3 harg3 arg5 harg5 arg6 harg6 arg7 harg7 arg8 harg8 arg9 harg9 arg10 harg10 arg11 harg11 arg12 harg12 arg13 harg13 x0 x1 fh0 k0_hw1 k0_hw2 k0_hw3 k0_hw4 k0_hw5 k0_hw6 k0_hw7 k0_hw8).1, y ∈ pc.1.set :=
  View.cover_of_tiledL (kernelRun0_A c i arg2 harg2 arg3 harg3 arg5 harg5 arg6 harg6 arg7 harg7 arg8 harg8 arg9 harg9 arg10 harg10 arg11 harg11 arg12 harg12 arg13 harg13 x0 x1 fh0 k0_hw1 k0_hw2 k0_hw3 k0_hw4 k0_hw5 k0_hw6 k0_hw7 k0_hw8).1 S786432.size (by sl_kernel_rfl) y

/-- The output block the body leaves. -/
def out0_A_2 (c : Dev nD) (i : grid0.Coords) (arg2 : Memref sig .tc .smem S8 .i32) (harg2 : arg2.IsWhole) (arg3 : Memref sig .tc .smem S4x8 .f32) (harg3 : arg3.IsWhole) (arg5 : Memref sig .tc .vmem S786432 .f32) (harg5 : arg5.IsWhole) (arg6 : Memref sig .tc .vmem S786432 .f32) (harg6 : arg6.IsWhole) (arg7 : Memref sig .tc .vmem S786432 .f32) (harg7 : arg7.IsWhole) (arg8 : Memref sig .tc .vmem S786432 .f32) (harg8 : arg8.IsWhole) (arg9 : Memref sig .tc .vmem S786432 .f32) (harg9 : arg9.IsWhole) (arg10 : Memref sig .tc .vmem S786432 .f32) (harg10 : arg10.IsWhole) (arg11 : Memref sig .tc .vmem S786432 .f32) (harg11 : arg11.IsWhole) (arg12 : Memref sig .tc .vmem S786432 .f32) (harg12 : arg12.IsWhole) (arg13 : Memref sig .tc .vmem S786432 .f32) (harg13 : arg13.IsWhole)
    (x0 : Vec F S8 .i32) (x1 : Vec F S4x8 .f32) (fh0 : HbBuf0 (F := F) c hbM0_0) (k0_hw1 : k0_chk1 i (arg2.view.readAt (Elt F) (Rect.unit (s := S8) ![0] S1.size inb_S8_S1_0).toLoadRect (harg2.unread x0) (Shape.Idx.first (numel1_S1.symm ▸ Nat.one_pos)))) (k0_hw2 : k0_chk2 i (arg2.view.readAt (Elt F) (Rect.unit (s := S8) ![1] S1.size inb_S8_S1_1).toLoadRect (harg2.unread x0) (Shape.Idx.first (numel1_S1.symm ▸ Nat.one_pos)))) (k0_hw3 : k0_chk3 i (arg2.view.readAt (Elt F) (Rect.unit (s := S8) ![2] S1.size inb_S8_S1_2).toLoadRect (harg2.unread x0) (Shape.Idx.first (numel1_S1.symm ▸ Nat.one_pos)))) (k0_hw4 : k0_chk4 i (arg2.view.readAt (Elt F) (Rect.unit (s := S8) ![3] S1.size inb_S8_S1_3).toLoadRect (harg2.unread x0) (Shape.Idx.first (numel1_S1.symm ▸ Nat.one_pos)))) (k0_hw5 : k0_chk5 i (arg2.view.readAt (Elt F) (Rect.unit (s := S8) ![4] S1.size inb_S8_S1_4).toLoadRect (harg2.unread x0) (Shape.Idx.first (numel1_S1.symm ▸ Nat.one_pos)))) (k0_hw6 : k0_chk6 i (arg2.view.readAt (Elt F) (Rect.unit (s := S8) ![5] S1.size inb_S8_S1_5).toLoadRect (harg2.unread x0) (Shape.Idx.first (numel1_S1.symm ▸ Nat.one_pos)))) (k0_hw7 : k0_chk7 i (arg2.view.readAt (Elt F) (Rect.unit (s := S8) ![6] S1.size inb_S8_S1_6).toLoadRect (harg2.unread x0) (Shape.Idx.first (numel1_S1.symm ▸ Nat.one_pos)))) (k0_hw8 : k0_chk8 i (arg2.view.readAt (Elt F) (Rect.unit (s := S8) ![7] S1.size inb_S8_S1_7).toLoadRect (harg2.unread x0) (Shape.Idx.first (numel1_S1.symm ▸ Nat.one_pos)))) : Vec F S786432 .f32 :=
  VO0_2.read (Elt F) (VO0_2.writes (Elt F) VO0_2.junk (kernelRun0_A c i arg2 harg2 arg3 harg3 arg5 harg5 arg6 harg6 arg7 harg7 arg8 harg8 arg9 harg9 arg10 harg10 arg11 harg11 arg12 harg12 arg13 harg13 x0 x1 fh0 k0_hw1 k0_hw2 k0_hw3 k0_hw4 k0_hw5 k0_hw6 k0_hw7 k0_hw8).1)

/-! ## What the outputs hold after each point -/

/-- The output block after point `t`. -/
def outsAt0 (hH : Hyps m) (c : Dev nD) (t : Fin cfg0.N) : Vec F S786432 .f32 :=
  out0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (V m c main_v0) (Hyps.c0 hH c t) (Hyps.c1 hH c t) (Hyps.c2 hH c t) (Hyps.c3 hH c t) (Hyps.c4 hH c t) (Hyps.c5 hH c t) (Hyps.c6 hH c t) (Hyps.c7 hH c t)

/-! ## The pipeline's proof data -/

/-- The launch's proof data: the arrays as found, the blocks after each point, the scratch and the operand kept. -/
def dats (hH : Hyps m) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt0 m hH c t)
  Φ _ := Pipeline.ΦD osem0 spec0 H0 (V m) c
  q _ := fullShare
  owed _ := 0

/-- The arrays are those found at entry. -/
theorem A_eq (hH : Hyps m) (c : Dev nD) (w : Fin cfg0.W) : (dats m hH 0 c).A w = V m c (Pipeline.arrRef spec0 w) := by
  dsimp only [dats]

/-- What the body leaves in each window. -/
theorem after0_0 (hH : Hyps m) (c : Dev nD) (t : Fin cfg0.N) : (dats m hH 0 c).after 0 t = iblk m c 0 t := by dsimp only [dats]
theorem after0_1 (hH : Hyps m) (c : Dev nD) (t : Fin cfg0.N) : (dats m hH 0 c).after 1 t = iblk m c 1 t := by dsimp only [dats]
theorem after0_2 (hH : Hyps m) (c : Dev nD) (t : Fin cfg0.N) : (dats m hH 0 c).after 2 t = (outsAt0 m hH c t) := by dsimp only [dats]

/-- Each input's buffer holds its block. -/
theorem before0_0 (hH : Hyps m) (c : Dev nD) (t : Fin cfg0.N) (d) : (dats m hH 0 c).before 0 t d = iblk m c 0 t :=
  before0_0_of m (dats m hH 0 c) (A_eq m hH c 0) (after0_0 m hH c) t d
theorem before0_1 (hH : Hyps m) (c : Dev nD) (t : Fin cfg0.N) (d) : (dats m hH 0 c).before 1 t d = iblk m c 1 t :=
  before0_1_of m (dats m hH 0 c) (A_eq m hH c 1) (after0_1 m hH c) t d

/-! ## The body obligation, at a generic point -/

/-- What the body is given, -/
def bodyPre (hH : Hyps m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d)))

/-- and what it returns. -/
def bodyPost (hH : Hyps m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t))

set_option maxHeartbeats 800000 in
/-- The body at any point: `kernelRun0_A` at the point's buffers. -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1]
  rw [show (dats m hH 0 c).Φ t.succ = (dats m hH 0 c).Φ t.castSucc from rfl,
    after0_0, after0_1, after0_2]
  rw [show (dats m hH 0 c).Φ t.castSucc = Pipeline.ΦD osem0 spec0 H0 (V m) c from rfl, PhiD0_eq]
  unfold Dat.owesAt Pipeline.owesWithin
  rw [show (dats m hH 0 c).owed t.castSucc = 0 from rfl, show (dats m hH 0 c).owed t.succ = 0 from rfl]
  unfold outsAt0
  unfold out0_A_2
  iintro ⟨⟨⟨HS0, HS1, HS2, HS3, HS4, HS5, HS6, HS7⟩, Hg, ⟨Hq0, Hq1, Hq2, Hq3, Hq4, Hq5, Hq6, Hq7⟩, Hh0⟩, ⟨%W, -, HW⟩, ⟨%d0, H0⟩, ⟨%d1, H1⟩, ⟨%d2, H2⟩⟩
  iapply ((kernelRun0_A c (grid0.coords t) _ _ _ _ _ _ _ _ _ _ _ _ _ _ _ _ _ _ _ _ _ _ (iblk m c 0 t) (iblk m c 1 t) (V m c main_v0) (Hyps.c0 hH c t) (Hyps.c1 hH c t) (Hyps.c2 hH c t) (Hyps.c3 hH c t) (Hyps.c4 hH c t) (Hyps.c5 hH c t) (Hyps.c6 hH c t) (Hyps.c7 hH c t)).2.2.2.2.2.2.2.2.2 W _)
  isplitl [H0]; · iexact H0
  isplitl [H1]; · iexact H1
  isplitl [H2]; · iexists _; iexact H2
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [HW]; · iexact HW
  iintro ⟨H0, H1, ⟨%e2, H2⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩, Hq0, Hq1, Hq2, Hq3, Hq4, Hq5, Hq6, Hq7, Hh0, ⟨%W', HW'⟩⟩
  isplitl [HS0 HS1 HS2 HS3 HS4 HS5 HS6 HS7 Hg Hq0 Hq1 Hq2 Hq3 Hq4 Hq5 Hq6 Hq7 Hh0]
  · isplitl [HS0 HS1 HS2 HS3 HS4 HS5 HS6 HS7]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · iexists _; unfold owns; iexists _; isplitr
        swap; · iexact HS6
        ipureintro; rfl
      iexists _; unfold owns; iexists _; isplitr
      swap; · iexact HS7
      ipureintro; rfl
    isplitl [Hg]
    · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    iexact Hh0
  isplitl [HW']
  · iexists W'; isplitr; · ipureintro; exact fun _ _ => Or.inl trivial
    iexact HW'
  isplitl [H0]; · iexact H0
  isplitl [H1]; · iexact H1
  unfold owns; iexists _; isplitr
  swap; · iexact H2
  ipureintro; exact View.read_writes_of_cover _ _ _ _ _ (cover0_A_2 c _ _ _ _ _ _ _ _ _ _ _ _ _ _ _ _ _ _ _ _ _ _ _ _ _ _ _ _ _ _ _ _ _ _)

/-- The body that the launch calls at point `t`. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (hH : Hyps m) (c : Dev nD) : BodyObligation (dats (F := F) m hH 0 c) (defs₀ (F := F)) Variants.none () Set.univ := fun t => by
  rw [bigSep_W0, bigSep_W0, defs₀_row]
  exact triple_restated (sound_body m hH c t) rfl .rfl fun _ => .rfl

/-! ## The run and the frame -/

set_option backward.isDefEq.respectTransparency.types false in
/-- The program's run, with every counter at zero at its end. -/
theorem run_main_quiescent (hH : Hyps m) : θ_run defs (onTc (τ := τ) (main (F := F))) (s₀ m ρ) (fun r => (Pipeline.FramePost cfgs (dats m hH) 0 (V m)) r ∧ r.2.sem = fun _ => 0) :=
  Pipeline.θ_run_frame_dma (Q' := _) cfgs (dats m hH) (0 : Fin 1) launch0 osem0 defs₀ Variants.none ownSemFacts0 H0 H0_sub m ρ main
    (hbody := fun c => (body_obligation m hH c).loose) (hshare := fun c => (dats m hH 0 c).share_full fun _ => rfl)
    (howed := fun _ _ => rfl) (V := V m) (hmain := hmain m Variants.none) (hA := A_eq m hH)
    (hin := fun _ => .rfl) (hout := fun _ => .rfl)

/-- The program's run. -/
theorem run_main (hH : Hyps m) : θ_run defs (onTc (τ := τ) (main (F := F))) (s₀ m ρ) (Pipeline.FramePost cfgs (dats m hH) 0 (V m)) :=
  (θ_run defs _ _).mono (fun _ h => h.1) (run_main_quiescent m ρ hH)

/-- The arguments end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m hH) (A_eq m hH) (run_main m ρ hH)

/-- The frame, under the bounds on the words that the body reads. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hH) ((θ_run defs _ _).mono (fun _ h => h.2) (run_main_quiescent m ρ hH))

end Cert.KernelG.Gen

end
-- ==== Proof.AggAlgebraic.lean ====
/- The delayed-sum call and its reference: their results agree, and the frames. -/
module

public import proofs.«01_k».proof.Defs
public import proofs.«01_k».proof.Proof.AggValue
public import proofs.«01_k».proof.Proof.AggHypsBits
public import proofs.«01_k».proof.Proof.AggRunBits
public import proofs.«01_k».proof.Proof.Gen.ReferenceGIdeal.Run
public import Idealize.ShloMosaic.Lib.Quiescent

@[expose] public section

set_option maxRecDepth 16384

noncomputable section

namespace Cert.AggAlgebraic

open Idealize.ShloMosaic Idealize.ShloMosaic.Thread Idealize.SL.Sem

/-- The frame of the call as it is: its arguments are unchanged, and every counter ends at zero. -/
theorem frame : Cert.quiescent_KernelG := fun m g h => Cert.KernelG.Gen.frame m g (Cert.KernelG.Hyp.hyps_of_delays m h)

/-- The same of the idealized call. -/
theorem frame_ideal : Cert.quiescent_KernelGIdeal := fun m g h => Cert.KernelGIdeal.Gen.frame m g (Cert.KernelGIdeal.Hyp.hyps_of_delays m h)

/-- The reference's frame: its arguments are unchanged, and it has no counter. -/
theorem reference_frame : Cert.quiescent_ReferenceGIdeal := fun m g _ =>
  (θ_run _ _ _).mono (fun r h => ⟨fun c => (h c).2, sem_eq_zero_of_no_sems rfl r.2⟩) (Cert.ReferenceGIdeal.Value.run m g)

open Cert.KernelGIdeal Cert.KernelGIdeal.Gen in
/-- The call and its reference end with equal results. -/
theorem algebraic : Cert.algebraic_KernelGIdeal_ReferenceGIdeal := by
  intro m g m' g' hpre hargs
  have hd : ∀ (c : Dev Cert.KernelGIdeal.nD) (k : Fin 8),
      (m ((c.tc : Thread Cert.KernelGIdeal.nD Cert.KernelGIdeal.τ).loc Cert.KernelGIdeal.main_arg0) (ix1 k) : BitVec 32).toNat < 4096 :=
    fun c k => AggWords.delay_lt _ _ _ (hpre c) (ix1 k)
  have hH := Cert.KernelGIdeal.Hyp.hyps m hd
  refine ⟨fun c => (Cert.KernelGIdeal.Gen.dats m hH 0 c).arrAt 2 cfg0.N, ?_, ?_⟩
  · exact Cert.KernelGIdeal.Value.run_blocks m g hH
  · refine (θ_run _ _ _).mono (fun r h c => ?_) (Cert.ReferenceGIdeal.Value.run m' g')
    obtain ⟨e0, e1, e2⟩ := hargs c
    refine ⟨?_, (h c).2⟩
    refine (h c).1.trans ?_
    refine (Cert.ReferenceGIdeal.Read.val_main_v12_eq m' c).trans ?_
    rw [e0, e1, e2]
    refine Eq.trans ?_ (AggValue.arr m hH hd c).symm
    funext i
    obtain ⟨n, rfl⟩ : ∃ n : Fin 12582912, i = ix1 n := ⟨i 0, funext fun (a : Fin 1) => by obtain rfl : a = 0 := Subsingleton.elim _ _; rfl⟩
    exact AggRef.result_eq _ (hd c) _ _ n

end Cert.AggAlgebraic

end
-- ==== Proof.lean ====
/- The claims, assembled: for each of the two programs, the frames, the idealisation, and the equation with its reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite
public import proofs.«01_k».proof.Proof.Algebraic
public import proofs.«01_k».proof.Proof.AggAlgebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelG.Gen.facts, Cert.KernelGIdeal.Gen.facts, Cert.ReferenceGIdeal.Gen.facts, Cert.Pre_finite.Gen.facts, Cert.Pre_delays.Gen.facts,
  fun m g _ => Cert.Kernel.Gen.frame m g,
  fun m g _ => Cert.KernelIdeal.Gen.frame m g,
  fun m g _ => Cert.KernelIdeal.Gen.frame m g,
  fun m g _ => Cert.Algebraic.reference_frame m g,
  fun m g _ => Cert.Algebraic.reference_frame m g,
  Cert.AggAlgebraic.frame,
  Cert.AggAlgebraic.frame_ideal,
  Cert.AggAlgebraic.reference_frame,
  fun m g _ => Cert.AggAlgebraic.reference_frame m g trivial,
  trivial,
  Cert.Algebraic.algebraic,
  trivial,
  Cert.AggAlgebraic.algebraic⟩

end Cert.Proof

end
